-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bias_ready [hPre_bias_ready : Cert.Pre_bias_ready.Facts] (m : (ℓ : Loc Cert.KernelIdeal.nD Cert.KernelIdeal.τ Cert.KernelIdeal.sig) → Buf (Elt Ideal) ℓ) : Prop :=
  ∀ c : Dev Cert.KernelIdeal.nD,
    (Cert.Pre_bias_ready.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_bias_ready.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_bias_ready.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_bias_ready.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bias_ready [hPre_bias_ready : Cert.Pre_bias_ready.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bias_ready.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_bias_ready.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_bias_ready.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_bias_ready.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_bias_ready [hKernelIdeal : Cert.KernelIdeal.Facts] [hPre_bias_ready : Cert.Pre_bias_ready.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bias_ready m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_bias_ready [hReferenceIdeal : Cert.ReferenceIdeal.Facts] [hPre_bias_ready : Cert.Pre_bias_ready.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bias_ready m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6)
      ∧ r.2.mem ((c.tc : Thread Cert.FfnKernel.nD Cert.FfnKernel.τ).loc Cert.FfnKernel.main_arg7) = m ((c.tc : Thread Cert.FfnKernel.nD Cert.FfnKernel.τ).loc Cert.FfnKernel.main_arg7)
      ∧ r.2.mem ((c.tc : Thread Cert.FfnKernel.nD Cert.FfnKernel.τ).loc Cert.FfnKernel.main_arg8) = m ((c.tc : Thread Cert.FfnKernel.nD Cert.FfnKernel.τ).loc Cert.FfnKernel.main_arg8))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
      ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7)
      ∧ r.2.mem ((c.tc : Thread Cert.FfnKernelIdeal.nD Cert.FfnKernelIdeal.τ).loc Cert.FfnKernelIdeal.main_arg8) = m ((c.tc : Thread Cert.FfnKernelIdeal.nD Cert.FfnKernelIdeal.τ).loc Cert.FfnKernelIdeal.main_arg8))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1)
      ∧ r.2.mem ((c.tc : Thread Cert.GluKernel.nD Cert.GluKernel.τ).loc Cert.GluKernel.main_arg2) = m ((c.tc : Thread Cert.GluKernel.nD Cert.GluKernel.τ).loc Cert.GluKernel.main_arg2)
      ∧ r.2.mem ((c.tc : Thread Cert.GluKernel.nD Cert.GluKernel.τ).loc Cert.GluKernel.main_arg3) = m ((c.tc : Thread Cert.GluKernel.nD Cert.GluKernel.τ).loc Cert.GluKernel.main_arg3)
      ∧ r.2.mem ((c.tc : Thread Cert.GluKernel.nD Cert.GluKernel.τ).loc Cert.GluKernel.main_arg4) = m ((c.tc : Thread Cert.GluKernel.nD Cert.GluKernel.τ).loc Cert.GluKernel.main_arg4)
      ∧ r.2.mem ((c.tc : Thread Cert.GluKernel.nD Cert.GluKernel.τ).loc Cert.GluKernel.main_arg5) = m ((c.tc : Thread Cert.GluKernel.nD Cert.GluKernel.τ).loc Cert.GluKernel.main_arg5)
      ∧ r.2.mem ((c.tc : Thread Cert.GluKernel.nD Cert.GluKernel.τ).loc Cert.GluKernel.main_arg6) = m ((c.tc : Thread Cert.GluKernel.nD Cert.GluKernel.τ).loc Cert.GluKernel.main_arg6)
      ∧ r.2.mem ((c.tc : Thread Cert.GluKernel.nD Cert.GluKernel.τ).loc Cert.GluKernel.main_arg7) = m ((c.tc : Thread Cert.GluKernel.nD Cert.GluKernel.τ).loc Cert.GluKernel.main_arg7)
      ∧ r.2.mem ((c.tc : Thread Cert.GluKernel.nD Cert.GluKernel.τ).loc Cert.GluKernel.main_arg8) = m ((c.tc : Thread Cert.GluKernel.nD Cert.GluKernel.τ).loc Cert.GluKernel.main_arg8))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
      ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3)
      ∧ r.2.mem ((c.tc : Thread Cert.GluKernelIdeal.nD Cert.GluKernelIdeal.τ).loc Cert.GluKernelIdeal.main_arg4) = m ((c.tc : Thread Cert.GluKernelIdeal.nD Cert.GluKernelIdeal.τ).loc Cert.GluKernelIdeal.main_arg4)
      ∧ r.2.mem ((c.tc : Thread Cert.GluKernelIdeal.nD Cert.GluKernelIdeal.τ).loc Cert.GluKernelIdeal.main_arg5) = m ((c.tc : Thread Cert.GluKernelIdeal.nD Cert.GluKernelIdeal.τ).loc Cert.GluKernelIdeal.main_arg5)
      ∧ r.2.mem ((c.tc : Thread Cert.GluKernelIdeal.nD Cert.GluKernelIdeal.τ).loc Cert.GluKernelIdeal.main_arg6) = m ((c.tc : Thread Cert.GluKernelIdeal.nD Cert.GluKernelIdeal.τ).loc Cert.GluKernelIdeal.main_arg6)
      ∧ r.2.mem ((c.tc : Thread Cert.GluKernelIdeal.nD Cert.GluKernelIdeal.τ).loc Cert.GluKernelIdeal.main_arg7) = m ((c.tc : Thread Cert.GluKernelIdeal.nD Cert.GluKernelIdeal.τ).loc Cert.GluKernelIdeal.main_arg7)
      ∧ r.2.mem ((c.tc : Thread Cert.GluKernelIdeal.nD Cert.GluKernelIdeal.τ).loc Cert.GluKernelIdeal.main_arg8) = m ((c.tc : Thread Cert.GluKernelIdeal.nD Cert.GluKernelIdeal.τ).loc Cert.GluKernelIdeal.main_arg8))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4)
      ∧ r.2.mem ((c.tc : Thread Cert.GluReferenceIdeal.nD Cert.GluReferenceIdeal.τ).loc Cert.GluReferenceIdeal.main_arg5) = m ((c.tc : Thread Cert.GluReferenceIdeal.nD Cert.GluReferenceIdeal.τ).loc Cert.GluReferenceIdeal.main_arg5)
      ∧ r.2.mem ((c.tc : Thread Cert.GluReferenceIdeal.nD Cert.GluReferenceIdeal.τ).loc Cert.GluReferenceIdeal.main_arg6) = m ((c.tc : Thread Cert.GluReferenceIdeal.nD Cert.GluReferenceIdeal.τ).loc Cert.GluReferenceIdeal.main_arg6)
      ∧ r.2.mem ((c.tc : Thread Cert.GluReferenceIdeal.nD Cert.GluReferenceIdeal.τ).loc Cert.GluReferenceIdeal.main_arg7) = m ((c.tc : Thread Cert.GluReferenceIdeal.nD Cert.GluReferenceIdeal.τ).loc Cert.GluReferenceIdeal.main_arg7)
      ∧ r.2.mem ((c.tc : Thread Cert.GluReferenceIdeal.nD Cert.GluReferenceIdeal.τ).loc Cert.GluReferenceIdeal.main_arg8) = m ((c.tc : Thread Cert.GluReferenceIdeal.nD Cert.GluReferenceIdeal.τ).loc Cert.GluReferenceIdeal.main_arg8))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_bias_ready [hKernelIdeal : Cert.KernelIdeal.Facts] [hReferenceIdeal : Cert.ReferenceIdeal.Facts] [hPre_bias_ready : Cert.Pre_bias_ready.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bias_ready m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)
      ∧ m' ((c.tc : Thread Cert.FfnReferenceIdeal.nD Cert.FfnReferenceIdeal.τ).loc Cert.FfnReferenceIdeal.main_arg7) = m ((c.tc : Thread Cert.FfnKernelIdeal.nD Cert.FfnKernelIdeal.τ).loc Cert.FfnKernelIdeal.main_arg7)
      ∧ m' ((c.tc : Thread Cert.FfnReferenceIdeal.nD Cert.FfnReferenceIdeal.τ).loc Cert.FfnReferenceIdeal.main_arg8) = m ((c.tc : Thread Cert.FfnKernelIdeal.nD Cert.FfnKernelIdeal.τ).loc Cert.FfnKernelIdeal.main_arg8)) →
    ∃ (v0 : (c : Dev Cert.FfnKernelIdeal.nD) → Buf (Elt Ideal) ((c.tc : Thread Cert.FfnKernelIdeal.nD Cert.FfnKernelIdeal.τ).loc Cert.FfnKernelIdeal.main_v0)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v0) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
          ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7)
          ∧ r.2.mem ((c.tc : Thread Cert.FfnKernelIdeal.nD Cert.FfnKernelIdeal.τ).loc Cert.FfnKernelIdeal.main_arg8) = m ((c.tc : Thread Cert.FfnKernelIdeal.nD Cert.FfnKernelIdeal.τ).loc Cert.FfnKernelIdeal.main_arg8))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v68) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8))

def preserves_GluKernel_GluKernelIdeal : Prop :=
  True

def algebraic_GluKernelIdeal_GluReferenceIdeal [hGluKernelIdeal : Cert.GluKernelIdeal.Facts] [hGluReferenceIdeal : Cert.GluReferenceIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)
      ∧ m' ((c.tc : Thread Cert.GluReferenceIdeal.nD Cert.GluReferenceIdeal.τ).loc Cert.GluReferenceIdeal.main_arg2) = m ((c.tc : Thread Cert.GluKernelIdeal.nD Cert.GluKernelIdeal.τ).loc Cert.GluKernelIdeal.main_arg2)
      ∧ m' ((c.tc : Thread Cert.GluReferenceIdeal.nD Cert.GluReferenceIdeal.τ).loc Cert.GluReferenceIdeal.main_arg3) = m ((c.tc : Thread Cert.GluKernelIdeal.nD Cert.GluKernelIdeal.τ).loc Cert.GluKernelIdeal.main_arg3)
      ∧ m' ((c.tc : Thread Cert.GluReferenceIdeal.nD Cert.GluReferenceIdeal.τ).loc Cert.GluReferenceIdeal.main_arg4) = m ((c.tc : Thread Cert.GluKernelIdeal.nD Cert.GluKernelIdeal.τ).loc Cert.GluKernelIdeal.main_arg4)
      ∧ m' ((c.tc : Thread Cert.GluReferenceIdeal.nD Cert.GluReferenceIdeal.τ).loc Cert.GluReferenceIdeal.main_arg5) = m ((c.tc : Thread Cert.GluKernelIdeal.nD Cert.GluKernelIdeal.τ).loc Cert.GluKernelIdeal.main_arg5)
      ∧ m' ((c.tc : Thread Cert.GluReferenceIdeal.nD Cert.GluReferenceIdeal.τ).loc Cert.GluReferenceIdeal.main_arg6) = m ((c.tc : Thread Cert.GluKernelIdeal.nD Cert.GluKernelIdeal.τ).loc Cert.GluKernelIdeal.main_arg6)
      ∧ m' ((c.tc : Thread Cert.GluReferenceIdeal.nD Cert.GluReferenceIdeal.τ).loc Cert.GluReferenceIdeal.main_arg7) = m ((c.tc : Thread Cert.GluKernelIdeal.nD Cert.GluKernelIdeal.τ).loc Cert.GluKernelIdeal.main_arg7)
      ∧ m' ((c.tc : Thread Cert.GluReferenceIdeal.nD Cert.GluReferenceIdeal.τ).loc Cert.GluReferenceIdeal.main_arg8) = m ((c.tc : Thread Cert.GluKernelIdeal.nD Cert.GluKernelIdeal.τ).loc Cert.GluKernelIdeal.main_arg8)) →
    ∃ (v0 : (c : Dev Cert.GluKernelIdeal.nD) → Buf (Elt Ideal) ((c.tc : Thread Cert.GluKernelIdeal.nD Cert.GluKernelIdeal.τ).loc Cert.GluKernelIdeal.main_v0_0)) (v1 : (c : Dev Cert.GluKernelIdeal.nD) → Buf (Elt Ideal) ((c.tc : Thread Cert.GluKernelIdeal.nD Cert.GluKernelIdeal.τ).loc Cert.GluKernelIdeal.main_v0_1)) (v2 : (c : Dev Cert.GluKernelIdeal.nD) → Buf (Elt Ideal) ((c.tc : Thread Cert.GluKernelIdeal.nD Cert.GluKernelIdeal.τ).loc Cert.GluKernelIdeal.main_v0_2)) (v3 : (c : Dev Cert.GluKernelIdeal.nD) → Buf (Elt Ideal) ((c.tc : Thread Cert.GluKernelIdeal.nD Cert.GluKernelIdeal.τ).loc Cert.GluKernelIdeal.main_v0_3)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v0_0) = v0 c
          ∧ r.2.mem ((c.tc : Thread Cert.GluKernelIdeal.nD Cert.GluKernelIdeal.τ).loc Cert.GluKernelIdeal.main_v0_1) = v1 c
          ∧ r.2.mem ((c.tc : Thread Cert.GluKernelIdeal.nD Cert.GluKernelIdeal.τ).loc Cert.GluKernelIdeal.main_v0_2) = v2 c
          ∧ r.2.mem ((c.tc : Thread Cert.GluKernelIdeal.nD Cert.GluKernelIdeal.τ).loc Cert.GluKernelIdeal.main_v0_3) = v3 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
          ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
          ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3)
          ∧ r.2.mem ((c.tc : Thread Cert.GluKernelIdeal.nD Cert.GluKernelIdeal.τ).loc Cert.GluKernelIdeal.main_arg4) = m ((c.tc : Thread Cert.GluKernelIdeal.nD Cert.GluKernelIdeal.τ).loc Cert.GluKernelIdeal.main_arg4)
          ∧ r.2.mem ((c.tc : Thread Cert.GluKernelIdeal.nD Cert.GluKernelIdeal.τ).loc Cert.GluKernelIdeal.main_arg5) = m ((c.tc : Thread Cert.GluKernelIdeal.nD Cert.GluKernelIdeal.τ).loc Cert.GluKernelIdeal.main_arg5)
          ∧ r.2.mem ((c.tc : Thread Cert.GluKernelIdeal.nD Cert.GluKernelIdeal.τ).loc Cert.GluKernelIdeal.main_arg6) = m ((c.tc : Thread Cert.GluKernelIdeal.nD Cert.GluKernelIdeal.τ).loc Cert.GluKernelIdeal.main_arg6)
          ∧ r.2.mem ((c.tc : Thread Cert.GluKernelIdeal.nD Cert.GluKernelIdeal.τ).loc Cert.GluKernelIdeal.main_arg7) = m ((c.tc : Thread Cert.GluKernelIdeal.nD Cert.GluKernelIdeal.τ).loc Cert.GluKernelIdeal.main_arg7)
          ∧ r.2.mem ((c.tc : Thread Cert.GluKernelIdeal.nD Cert.GluKernelIdeal.τ).loc Cert.GluKernelIdeal.main_arg8) = m ((c.tc : Thread Cert.GluKernelIdeal.nD Cert.GluKernelIdeal.τ).loc Cert.GluKernelIdeal.main_arg8))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v51) = v0 c
          ∧ r.2.mem ((c.tc : Thread Cert.GluReferenceIdeal.nD Cert.GluReferenceIdeal.τ).loc Cert.GluReferenceIdeal.main_v53) = v1 c
          ∧ r.2.mem ((c.tc : Thread Cert.GluReferenceIdeal.nD Cert.GluReferenceIdeal.τ).loc Cert.GluReferenceIdeal.main_v54) = v2 c
          ∧ r.2.mem ((c.tc : Thread Cert.GluReferenceIdeal.nD Cert.GluReferenceIdeal.τ).loc Cert.GluReferenceIdeal.main_v56) = v3 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3)
          ∧ r.2.mem ((c.tc : Thread Cert.GluReferenceIdeal.nD Cert.GluReferenceIdeal.τ).loc Cert.GluReferenceIdeal.main_arg4) = m' ((c.tc : Thread Cert.GluReferenceIdeal.nD Cert.GluReferenceIdeal.τ).loc Cert.GluReferenceIdeal.main_arg4)
          ∧ r.2.mem ((c.tc : Thread Cert.GluReferenceIdeal.nD Cert.GluReferenceIdeal.τ).loc Cert.GluReferenceIdeal.main_arg5) = m' ((c.tc : Thread Cert.GluReferenceIdeal.nD Cert.GluReferenceIdeal.τ).loc Cert.GluReferenceIdeal.main_arg5)
          ∧ r.2.mem ((c.tc : Thread Cert.GluReferenceIdeal.nD Cert.GluReferenceIdeal.τ).loc Cert.GluReferenceIdeal.main_arg6) = m' ((c.tc : Thread Cert.GluReferenceIdeal.nD Cert.GluReferenceIdeal.τ).loc Cert.GluReferenceIdeal.main_arg6)
          ∧ r.2.mem ((c.tc : Thread Cert.GluReferenceIdeal.nD Cert.GluReferenceIdeal.τ).loc Cert.GluReferenceIdeal.main_arg7) = m' ((c.tc : Thread Cert.GluReferenceIdeal.nD Cert.GluReferenceIdeal.τ).loc Cert.GluReferenceIdeal.main_arg7)
          ∧ r.2.mem ((c.tc : Thread Cert.GluReferenceIdeal.nD Cert.GluReferenceIdeal.τ).loc Cert.GluReferenceIdeal.main_arg8) = m' ((c.tc : Thread Cert.GluReferenceIdeal.nD Cert.GluReferenceIdeal.τ).loc Cert.GluReferenceIdeal.main_arg8))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hGluKernel : Cert.GluKernel.Facts) (hGluKernelIdeal : Cert.GluKernelIdeal.Facts) (hGluReferenceIdeal : Cert.GluReferenceIdeal.Facts) (hPre_bias_ready : Cert.Pre_bias_ready.Facts),
    quiescent_Kernel (hKernel := hKernel)
    ∧ quiescent_KernelIdeal (hKernelIdeal := hKernelIdeal)
    ∧ quiescent_KernelIdeal_pre_bias_ready (hKernelIdeal := hKernelIdeal) (hPre_bias_ready := hPre_bias_ready)
    ∧ quiescent_ReferenceIdeal (hReferenceIdeal := hReferenceIdeal)
    ∧ quiescent_ReferenceIdeal_pre_bias_ready (hReferenceIdeal := hReferenceIdeal) (hPre_bias_ready := hPre_bias_ready)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_GluKernel (hGluKernel := hGluKernel)
    ∧ quiescent_GluKernelIdeal (hGluKernelIdeal := hGluKernelIdeal)
    ∧ quiescent_GluReferenceIdeal (hGluReferenceIdeal := hGluReferenceIdeal)
    ∧ preserves_Kernel_KernelIdeal
    ∧ algebraic_KernelIdeal_ReferenceIdeal_pre_bias_ready (hKernelIdeal := hKernelIdeal) (hReferenceIdeal := hReferenceIdeal) (hPre_bias_ready := hPre_bias_ready)
    ∧ preserves_FfnKernel_FfnKernelIdeal
    ∧ algebraic_FfnKernelIdeal_FfnReferenceIdeal (hFfnKernelIdeal := hFfnKernelIdeal) (hFfnReferenceIdeal := hFfnReferenceIdeal)
    ∧ preserves_GluKernel_GluKernelIdeal
    ∧ algebraic_GluKernelIdeal_GluReferenceIdeal (hGluKernelIdeal := hGluKernelIdeal) (hGluReferenceIdeal := hGluReferenceIdeal)
-- ==== Pre_bias_ready.lean ====
abbrev S32x16 : Shape := ⟨2, ![32, 16]⟩
abbrev S16x2048x1024 : Shape := ⟨3, ![16, 2048, 1024]⟩
abbrev S16x1024x2048 : Shape := ⟨3, ![16, 1024, 2048]⟩
abbrev S16x8x1024 : Shape := ⟨3, ![16, 8, 1024]⟩
abbrev S16x2x256x256 : Shape := ⟨4, ![16, 2, 256, 256]⟩
abbrev S2x256x256 : Shape := ⟨3, ![2, 256, 256]⟩
abbrev S_ : Shape := ⟨0, ![]⟩
abbrev S16x32 : Shape := ⟨2, ![16, 32]⟩
abbrev S2x256x256x1 : Shape := ⟨4, ![2, 256, 256, 1]⟩

class Facts : Prop where
  bcast_S_S2x256x256 : S_.BroadcastsInDim S2x256x256 (![] : Fin 0 → Fin S2x256x256.rank)
  transposes_S32x16_S16x32_1_0 : S32x16.Transposes [1, 0] S16x32
  bcast_S2x256x256_S2x256x256x1_0_1_2 : S2x256x256.BroadcastsInDim S2x256x256x1 (![0, 1, 2] : Fin 3 → Fin S2x256x256x1.rank)
  bcast_S_S16x2x256x256 : S_.BroadcastsInDim S16x2x256x256 (![] : Fin 0 → Fin S16x2x256x256.rank)
  bcast_S2x256x256_S16x2x256x256_1_2_3 : S2x256x256.BroadcastsInDim S16x2x256x256 (![1, 2, 3] : Fin 3 → Fin S16x2x256x256.rank)
  bcast_S_S32x16 : S_.BroadcastsInDim S32x16 (![] : Fin 0 → Fin S32x16.rank)
  bitsLt_bf16_f32 : FTy.bits .bf16 < FTy.bits .f32
  bcast_S_S16x2048x1024 : S_.BroadcastsInDim S16x2048x1024 (![] : Fin 0 → Fin S16x2048x1024.rank)
  gather_S16x32_S2x256x256x1_S16x2x256x256_0_1_n_n_1_3_161_wf : GatherDims.WF S16x32 S2x256x256x1 S16x2x256x256 [0] [1] [] [1] [] 3 ![16, 1]

variable [Facts]

def gather_S16x32_S2x256x256x1_S16x2x256x256_0_1_n_n_1_3_161 : GatherDims S16x32 S2x256x256x1 S16x2x256x256 where
  offsetDims := [0]
  collapsedSliceDims := [1]
  operandBatchingDims := []
  startIndicesBatchingDims := []
  startIndexMap := [1]
  indexVectorDim := 3
  sliceSizes := ![16, 1]
  wf := gather_S16x32_S2x256x256x1_S16x2x256x256_0_1_n_n_1_3_161_wf
def fn_part2 {F : FTy → Type} [FloatOps F] (main_arg0 : FVec F S32x16 .f32) (main_arg1 : FVec F S16x2048x1024 .bf16) (main_arg2 : FVec F S16x2048x1024 .bf16) (main_arg5 : FVec F S16x2x256x256 .f32) (main_v6 : IVec S2x256x256 32) (main_v34 : FVec F S16x2x256x256 .f32) (main_v35 : FVec F S_ .f32) : IVec S32x16 1 × IVec S16x2048x1024 1 × IVec S16x2048x1024 1 × IVec S16x2x256x256 1 :=
  let main_v36 : FVec F S16x2x256x256 .f32 := broadcastInDim S16x2x256x256 ![] bcast_S_S16x2x256x256 main_v35
  let main_v37 : FVec F S16x2x256x256 .f32 := Host.divf main_v34 main_v36
  let main_c_10 : IVec S_ 32 := constantI S_ 32 0#32
  let main_v38 : IVec S2x256x256 32 := broadcastInDim S2x256x256 ![] bcast_S_S2x256x256 main_c_10
  let main_v39 : IVec S2x256x256 1 := cmpi .sge main_v6 main_v38
  let main_v40 : IVec S16x2x256x256 1 := broadcastInDim S16x2x256x256 ![1, 2, 3] bcast_S2x256x256_S16x2x256x256_1_2_3 main_v39
  let main_cst_11 : FVec F S_ .f32 := constant S_ .f32 0xFF800000#32
  let main_v41 : FVec F S16x2x256x256 .f32 := broadcastInDim S16x2x256x256 ![] bcast_S_S16x2x256x256 main_cst_11
  let main_v42 : FVec F S16x2x256x256 .f32 := select main_v40 main_v37 main_v41
  let main_v43 : FVec F S32x16 .f32 := Host.absf main_arg0
  let main_cst_12 : FVec F S_ .f32 := constant S_ .f32 0x7F800000#32
  let main_v44 : FVec F S32x16 .f32 := broadcastInDim S32x16 ![] bcast_S_S32x16 main_cst_12
  let main_v45 : IVec S32x16 1 := cmpf .olt main_v43 main_v44
  let main_v46 : FVec F S16x2048x1024 .f32 := (extf .f32 · bitsLt_bf16_f32) main_arg1
  let main_v47 : FVec F S16x2048x1024 .f32 := Host.absf main_v46
  let main_cst_13 : FVec F S_ .f32 := constant S_ .f32 0x7F800000#32
  let main_v48 : FVec F S16x2048x1024 .f32 := broadcastInDim S16x2048x1024 ![] bcast_S_S16x2048x1024 main_cst_13
  let main_v49 : IVec S16x2048x1024 1 := cmpf .olt main_v47 main_v48
  let main_v50 : FVec F S16x2048x1024 .f32 := (extf .f32 · bitsLt_bf16_f32) main_arg2
  let main_v51 : FVec F S16x2048x1024 .f32 := Host.absf main_v50
  let main_cst_14 : FVec F S_ .f32 := constant S_ .f32 0x7F800000#32
  let main_v52 : FVec F S16x2048x1024 .f32 := broadcastInDim S16x2048x1024 ![] bcast_S_S16x2048x1024 main_cst_14
  let main_v53 : IVec S16x2048x1024 1 := cmpf .olt main_v51 main_v52
  let main_v54 : IVec S16x2x256x256 1 := cmpf .oeq main_arg5 main_v42
  (main_v45, main_v49, main_v53, main_v54)

def fn_part1 {F : FTy → Type} [FloatOps F] (main_arg0 : FVec F S32x16 .f32) (main_arg1 : FVec F S16x2048x1024 .bf16) (main_arg2 : FVec F S16x2048x1024 .bf16) (main_arg5 : FVec F S16x2x256x256 .f32) (main_v6 : IVec S2x256x256 32) (main_v8 : IVec S2x256x256 32) (main_v16 : FVec F S2x256x256 .f32) (main_v17 : FVec F S2x256x256 .f32) : IVec S32x16 1 × IVec S16x2048x1024 1 × IVec S16x2048x1024 1 × IVec S16x2x256x256 1 :=
  let main_v18 : FVec F S2x256x256 .f32 := mulf main_v16 main_v17
  let main_v19 : IVec S2x256x256 32 := fptosi 32 main_v18
  let main_c_4 : IVec S_ 32 := constantI S_ 32 16#32
  let main_v20 : IVec S2x256x256 32 := broadcastInDim S2x256x256 ![] bcast_S_S2x256x256 main_c_4
  let main_v21 : IVec S2x256x256 32 := addi main_v20 main_v19
  let main_c_5 : IVec S_ 32 := constantI S_ 32 16#32
  let main_v22 : IVec S2x256x256 32 := broadcastInDim S2x256x256 ![] bcast_S_S2x256x256 main_c_5
  let main_v23 : IVec S2x256x256 1 := cmpi .slt main_v8 main_v22
  let main_c_6 : IVec S_ 32 := constantI S_ 32 31#32
  let main_v24 : IVec S2x256x256 32 := broadcastInDim S2x256x256 ![] bcast_S_S2x256x256 main_c_6
  let main_v25 : IVec S2x256x256 32 := minsi main_v21 main_v24
  let main_v26 : IVec S2x256x256 32 := select main_v23 main_v8 main_v25
  let main_v27 : FVec F S16x32 .f32 := (transpose S16x32 [1, 0] · transposes_S32x16_S16x32_1_0) main_arg0
  let main_c_7 : IVec S_ 32 := constantI S_ 32 0#32
  let main_v28 : IVec S2x256x256 32 := broadcastInDim S2x256x256 ![] bcast_S_S2x256x256 main_c_7
  let main_v29 : IVec S2x256x256 1 := cmpi .slt main_v26 main_v28
  let main_c_8 : IVec S_ 32 := constantI S_ 32 32#32
  let main_v30 : IVec S2x256x256 32 := broadcastInDim S2x256x256 ![] bcast_S_S2x256x256 main_c_8
  let main_v31 : IVec S2x256x256 32 := addi main_v26 main_v30
  let main_v32 : IVec S2x256x256 32 := select main_v29 main_v31 main_v26
  let main_v33 : IVec S2x256x256x1 32 := broadcastInDim S2x256x256x1 ![0, 1, 2] bcast_S2x256x256_S2x256x256x1_0_1_2 main_v32
  let main_v34 : FVec F S16x2x256x256 .f32 := (fun x i => Host.gather gather_S16x32_S2x256x256x1_S16x2x256x256_0_1_n_n_1_3_161 x i) main_v27 main_v33
  let main_cst_9 : FVec F S_ .f32 := constant S_ .f32 0x40000000#32
  let main_v35 : FVec F S_ .f32 := Host.log main_cst_9
  fn_part2 (F := F) main_arg0 main_arg1 main_arg2 main_arg5 main_v6 main_v34 main_v35

def fn {F : FTy → Type} [FloatOps F] (main_arg0 : FVec F S32x16 .f32) (main_arg1 : FVec F S16x2048x1024 .bf16) (main_arg2 : FVec F S16x2048x1024 .bf16) (main_arg3 : FVec F S16x1024x2048 .bf16) (main_arg4 : FVec F S16x8x1024 .f32) (main_arg5 : FVec F S16x2x256x256 .f32) : IVec S32x16 1 × IVec S16x2048x1024 1 × IVec S16x2048x1024 1 × IVec S16x2x256x256 1 :=
  let main_v0 : IVec S2x256x256 32 := iotaInDim S2x256x256 32 2
  let main_v1 : IVec S2x256x256 32 := iotaInDim S2x256x256 32 1
  let main_v2 : IVec S2x256x256 32 := subi main_v0 main_v1
  let main_v3 : IVec S2x256x256 32 := iotaInDim S2x256x256 32 0
  let main_c : IVec S_ 32 := constantI S_ 32 256#32
  let main_v4 : IVec S2x256x256 32 := broadcastInDim S2x256x256 ![] bcast_S_S2x256x256 main_c
  let main_v5 : IVec S2x256x256 32 := muli main_v4 main_v3
  let main_v6 : IVec S2x256x256 32 := addi main_v2 main_v5
  let main_c_0 : IVec S_ 32 := constantI S_ 32 0#32
  let main_v7 : IVec S2x256x256 32 := broadcastInDim S2x256x256 ![] bcast_S_S2x256x256 main_c_0
  let main_v8 : IVec S2x256x256 32 := maxsi main_v6 main_v7
  let main_c_1 : IVec S_ 32 := constantI S_ 32 1#32
  let main_v9 : IVec S2x256x256 32 := broadcastInDim S2x256x256 ![] bcast_S_S2x256x256 main_c_1
  let main_v10 : IVec S2x256x256 32 := maxsi main_v8 main_v9
  let main_v11 : FVec F S2x256x256 .f32 := sitofp .f32 main_v10
  let main_cst : FVec F S_ .f32 := constant S_ .f32 0x41800000#32
  let main_v12 : FVec F S2x256x256 .f32 := broadcastInDim S2x256x256 ![] bcast_S_S2x256x256 main_cst
  let main_v13 : FVec F S2x256x256 .f32 := Host.divf main_v11 main_v12
  let main_v14 : FVec F S2x256x256 .f32 := Host.log main_v13
  let main_cst_2 : FVec F S_ .f32 := constant S_ .f32 0x40051592#32
  let main_v15 : FVec F S2x256x256 .f32 := broadcastInDim S2x256x256 ![] bcast_S_S2x256x256 main_cst_2
  let main_v16 : FVec F S2x256x256 .f32 := Host.divf main_v14 main_v15
  let main_cst_3 : FVec F S_ .f32 := constant S_ .f32 0x41800000#32
  let main_v17 : FVec F S2x256x256 .f32 := broadcastInDim S2x256x256 ![] bcast_S_S2x256x256 main_cst_3
  fn_part1 (F := F) main_arg0 main_arg1 main_arg2 main_arg5 main_v6 main_v8 main_v16 main_v17
-- ==== Kernel.lean ====
abbrev S32x16 : Shape := ⟨2, ![32, 16]⟩
abbrev S16x2048x1024 : Shape := ⟨3, ![16, 2048, 1024]⟩
abbrev S16x1024x2048 : Shape := ⟨3, ![16, 1024, 2048]⟩
abbrev S16x8x1024 : Shape := ⟨3, ![16, 8, 1024]⟩
abbrev S16x2x256x256 : Shape := ⟨4, ![16, 2, 256, 256]⟩
abbrev S1x2048x256 : Shape := ⟨3, ![1, 2048, 256]⟩
abbrev S1x256x2048 : Shape := ⟨3, ![1, 256, 2048]⟩
abbrev S1x8x256 : Shape := ⟨3, ![1, 8, 256]⟩
abbrev S4x2x256x256 : Shape := ⟨4, ![4, 2, 256, 256]⟩
abbrev S4x2048x128 : Shape := ⟨3, ![4, 2048, 128]⟩
abbrev S4x80x2048 : Shape := ⟨3, ![4, 80, 2048]⟩
abbrev S4x8x2048 : Shape := ⟨3, ![4, 8, 2048]⟩
abbrev S3x2048x256 : Shape := ⟨3, ![3, 2048, 256]⟩
abbrev S2x2048x256 : Shape := ⟨3, ![2, 2048, 256]⟩
abbrev S16x2048 : Shape := ⟨2, ![16, 2048]⟩
abbrev S1x2048x128 : Shape := ⟨3, ![1, 2048, 128]⟩
abbrev S2048x128 : Shape := ⟨2, ![2048, 128]⟩
abbrev S1x8x128 : Shape := ⟨3, ![1, 8, 128]⟩
abbrev S8x128 : Shape := ⟨2, ![8, 128]⟩
abbrev S1x64x2048 : Shape := ⟨3, ![1, 64, 2048]⟩
abbrev S64x2048 : Shape := ⟨2, ![64, 2048]⟩
abbrev S1x16x2048 : Shape := ⟨3, ![1, 16, 2048]⟩
abbrev S8x1024 : Shape := ⟨2, ![8, 1024]⟩
abbrev S1x8x1024 : Shape := ⟨3, ![1, 8, 1024]⟩
abbrev S16x128 : Shape := ⟨2, ![16, 128]⟩
abbrev S1x1024x128 : Shape := ⟨3, ![1, 1024, 128]⟩
abbrev S1024x128 : Shape := ⟨2, ![1024, 128]⟩
abbrev S16x1024 : Shape := ⟨2, ![16, 1024]⟩
abbrev S1x1024 : Shape := ⟨2, ![1, 1024]⟩
abbrev S1x1 : Shape := ⟨2, ![1, 1]⟩
abbrev S1x256x128 : Shape := ⟨3, ![1, 256, 128]⟩
abbrev S256x128 : Shape := ⟨2, ![256, 128]⟩
abbrev S256x256 : Shape := ⟨2, ![256, 256]⟩
abbrev S1x256x256 : Shape := ⟨3, ![1, 256, 256]⟩
abbrev S32x8x256 : Shape := ⟨3, ![32, 8, 256]⟩
abbrev S8x256 : Shape := ⟨2, ![8, 256]⟩
abbrev S1x1x256 : Shape := ⟨3, ![1, 1, 256]⟩
abbrev S1x256 : Shape := ⟨2, ![1, 256]⟩
abbrev S1x1x256x256 : Shape := ⟨4, ![1, 1, 256, 256]⟩
abbrev S256 : Shape := ⟨1, ![256]⟩
abbrev S1x80x256 : Shape := ⟨3, ![1, 80, 256]⟩
abbrev S80x256 : Shape := ⟨2, ![80, 256]⟩
abbrev S64x256 : Shape := ⟨2, ![64, 256]⟩
abbrev S128x256 : Shape := ⟨2, ![128, 256]⟩

abbrev nBuf : Space → Nat
  | .hbm => 7
  | .vmem => 17
  | .smem => 1
  | _ => 0

abbrev bufTy : (tb : Table) → Fin (tcTables nBuf tb) → BufTy
  | .hbm, ⟨0, _⟩ => ⟨S32x16, .f32⟩
  | .hbm, ⟨1, _⟩ => ⟨S16x2048x1024, .bf16⟩
  | .hbm, ⟨2, _⟩ => ⟨S16x2048x1024, .bf16⟩
  | .hbm, ⟨3, _⟩ => ⟨S16x1024x2048, .bf16⟩
  | .hbm, ⟨4, _⟩ => ⟨S16x8x1024, .f32⟩
  | .hbm, ⟨5, _⟩ => ⟨S16x2x256x256, .f32⟩
  | .hbm, ⟨6, _⟩ => ⟨S16x2048x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x8x256, .f32⟩
  | .local _ .vmem, ⟨7, _⟩ => ⟨S1x8x256, .f32⟩
  | .local _ .vmem, ⟨8, _⟩ => ⟨S4x2x256x256, .f32⟩
  | .local _ .vmem, ⟨9, _⟩ => ⟨S4x2x256x256, .f32⟩
  | .local _ .vmem, ⟨10, _⟩ => ⟨S1x2048x256, .bf16⟩
  | .local _ .vmem, ⟨11, _⟩ => ⟨S1x2048x256, .bf16⟩
  | .local _ .vmem, ⟨12, _⟩ => ⟨S4x2048x128, .bf16⟩
  | .local _ .vmem, ⟨13, _⟩ => ⟨S4x80x2048, .bf16⟩
  | .local _ .vmem, ⟨14, _⟩ => ⟨S4x8x2048, .f32⟩
  | .local _ .vmem, ⟨15, _⟩ => ⟨S3x2048x256, .f32⟩
  | .local _ .vmem, ⟨16, _⟩ => ⟨S2x2048x256, .bf16⟩
  | .local _ .smem, ⟨0, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 16], ![false, false]⟩

def k0_off1 (i : grid0.Coords) (c0_i32_163 : BitVec 32) : Fin 2 → Nat :=
  let c31 : Index := 31#32
  let arg0 : BitVec 32 := BitVec.ofNat 32 (i 0).val
  let c4_i32 : BitVec 32 := 4#32
  let v0 : BitVec 32 := Scalar.muli arg0 c4_i32
  let v581 : BitVec 32 := Scalar.addi v0 c0_i32_163
  let v582 : Index := Scalar.indexCast v581
  ![31, v582.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x2x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S32x16 : Shape := ⟨2, ![32, 16]⟩
abbrev S16x2048x1024 : Shape := ⟨3, ![16, 2048, 1024]⟩
abbrev S16x1024x2048 : Shape := ⟨3, ![16, 1024, 2048]⟩
abbrev S16x8x1024 : Shape := ⟨3, ![16, 8, 1024]⟩
abbrev S16x2x256x256 : Shape := ⟨4, ![16, 2, 256, 256]⟩
abbrev S16x2048x16x64 : Shape := ⟨4, ![16, 2048, 16, 64]⟩
abbrev S16x16x2048x64 : Shape := ⟨4, ![16, 16, 2048, 64]⟩
abbrev S16x16x64x2048 : Shape := ⟨4, ![16, 16, 64, 2048]⟩
abbrev S16x8x16x64 : Shape := ⟨4, ![16, 8, 16, 64]⟩
abbrev S16x16x8x64 : Shape := ⟨4, ![16, 16, 8, 64]⟩
abbrev S2048 : Shape := ⟨1, ![2048]⟩
abbrev S_ : Shape := ⟨0, ![]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S16x16x2048x8 : Shape := ⟨4, ![16, 16, 2048, 8]⟩
abbrev S1x1x2048x8 : Shape := ⟨4, ![1, 1, 2048, 8]⟩
abbrev S16x16x2048x3 : Shape := ⟨4, ![16, 16, 2048, 3]⟩
abbrev S16x16x2048x3x1 : Shape := ⟨5, ![16, 16, 2048, 3, 1]⟩
abbrev S1x1x1x1x8 : Shape := ⟨5, ![1, 1, 1, 1, 8]⟩
abbrev S16x16x2048x3x8 : Shape := ⟨5, ![16, 16, 2048, 3, 8]⟩
abbrev S16x16x2048x2048 : Shape := ⟨4, ![16, 16, 2048, 2048]⟩
abbrev S1x2048 : Shape := ⟨2, ![1, 2048]⟩
abbrev S2048x2048 : Shape := ⟨2, ![2048, 2048]⟩
abbrev S16x32 : Shape := ⟨2, ![16, 32]⟩
abbrev S2048x2048x1 : Shape := ⟨3, ![2048, 2048, 1]⟩
abbrev S16x2048x2048 : Shape := ⟨3, ![16, 2048, 2048]⟩
abbrev S1x16x2048x2048 : Shape := ⟨4, ![1, 16, 2048, 2048]⟩
abbrev S1x1x2048x2048 : Shape := ⟨4, ![1, 1, 2048, 2048]⟩
abbrev S16x16x2048x8x256 : Shape := ⟨5, ![16, 16, 2048, 8, 256]⟩
abbrev S16x16x2048 : Shape := ⟨3, ![16, 16, 2048]⟩
abbrev S16x16x2048x1 : Shape := ⟨4, ![16, 16, 2048, 1]⟩

abbrev nBuf : Space → Nat
  | .hbm => 134
  | .vmem => 0
  | .smem => 0
  | _ => 0

abbrev hbmTy0_0 (i : Nat) : BufTy := match i % 128 with
  | 0 => ⟨S32x16, .f32⟩
  | 1 => ⟨S16x2048x1024, .bf16⟩
  | 2 => ⟨S16x2048x1024, .bf16⟩
  | 3 => ⟨S16x1024x2048, .bf16⟩
  | 4 => ⟨S16x8x1024, .f32⟩
  | 5 => ⟨S16x2x256x256, .f32⟩
  | 6 => ⟨S16x2048x1024, .f32⟩
  | 7 => ⟨S16x2048x16x64, .f32⟩
  | 8 => ⟨S16x16x2048x64, .f32⟩
  | 9 => ⟨S16x2048x1024, .f32⟩
  | 10 => ⟨S16x2048x16x64, .f32⟩
  | 11 => ⟨S16x16x2048x64, .f32⟩
  | 12 => ⟨S16x1024x2048, .f32⟩
  | 13 => ⟨S16x16x64x2048, .f32⟩
  | 14 => ⟨S16x8x16x64, .f32⟩
  | 15 => ⟨S16x16x8x64, .f32⟩
  | 16 => ⟨S2048, .i32⟩
  | 17 => ⟨S_, .i32⟩
  | 18 => ⟨S2048, .i32⟩
  | 19 => ⟨S2048, .i32⟩
  | 20 => ⟨S8, .i32⟩
  | 21 => ⟨S1x8, .i32⟩
  | 22 => ⟨S2048x1, .i32⟩
  | 23 => ⟨S2048x8, .i32⟩
  | 24 => ⟨S2048x8, .i32⟩
  | 25 => ⟨S2048x8, .i1⟩
  | 26 => ⟨S16x16x2048x8, .f32⟩
  | 27 => ⟨S1x1x2048x8, .i1⟩
  | 28 => ⟨S_, .f32⟩
  | 29 => ⟨S_, .f32⟩
  | 30 => ⟨S16x16x2048x8, .i1⟩
  | 31 => ⟨S16x16x2048x8, .f32⟩
  | 32 => ⟨S16x16x2048x8, .f32⟩
  | 33 => ⟨S16x16x2048x3, .f32⟩
  | 34 => ⟨S16x16x2048x3, .i32⟩
  | 35 => ⟨S16x16x2048x3x1, .i32⟩
  | 36 => ⟨S8, .i32⟩
  | 37 => ⟨S1x1x1x1x8, .i32⟩
  | 38 => ⟨S16x16x2048x3x8, .i32⟩
  | 39 => ⟨S16x16x2048x3x8, .i32⟩
  | 40 => ⟨S16x16x2048x3x8, .i1⟩
  | 41 => ⟨S_, .i1⟩
  | 42 => ⟨S16x16x2048x8, .i1⟩
  | 43 => ⟨S1x1x2048x8, .i1⟩
  | 44 => ⟨S16x16x2048x8, .i1⟩
  | 45 => ⟨S16x16x2048x8, .i1⟩
  | 46 => ⟨S16x16x2048x2048, .f32⟩
  | 47 => ⟨S_, .f32⟩
  | 48 => ⟨S_, .f32⟩
  | 49 => ⟨S16x16x2048x2048, .f32⟩
  | 50 => ⟨S16x16x2048x2048, .f32⟩
  | 51 => ⟨S2048x1, .i32⟩
  | 52 => ⟨S1x2048, .i32⟩
  | 53 => ⟨S2048x2048, .i32⟩
  | 54 => ⟨S2048x2048, .i32⟩
  | 55 => ⟨S2048x2048, .i32⟩
  | 56 => ⟨S16x32, .f32⟩
  | 57 => ⟨S_, .i32⟩
  | 58 => ⟨S2048x2048, .i32⟩
  | 59 => ⟨S2048x2048, .i32⟩
  | 60 => ⟨S_, .i32⟩
  | 61 => ⟨S2048x2048, .i32⟩
  | 62 => ⟨S2048x2048, .i1⟩
  | 63 => ⟨S_, .i32⟩
  | 64 => ⟨S2048x2048, .i32⟩
  | 65 => ⟨S2048x2048, .i32⟩
  | 66 => ⟨S2048x2048, .f32⟩
  | 67 => ⟨S_, .f32⟩
  | 68 => ⟨S2048x2048, .f32⟩
  | 69 => ⟨S2048x2048, .f32⟩
  | 70 => ⟨S2048x2048, .f32⟩
  | 71 => ⟨S_, .f32⟩
  | 72 => ⟨S2048x2048, .f32⟩
  | 73 => ⟨S2048x2048, .f32⟩
  | 74 => ⟨S_, .f32⟩
  | 75 => ⟨S2048x2048, .f32⟩
  | 76 => ⟨S2048x2048, .f32⟩
  | 77 => ⟨S2048x2048, .i32⟩
  | 78 => ⟨S_, .i32⟩
  | 79 => ⟨S2048x2048, .i32⟩
  | 80 => ⟨S2048x2048, .i32⟩
  | 81 => ⟨S_, .i32⟩
  | 82 => ⟨S2048x2048, .i32⟩
  | 83 => ⟨S2048x2048, .i32⟩
  | 84 => ⟨S2048x2048, .i32⟩
  | 85 => ⟨S_, .i32⟩
  | 86 => ⟨S2048x2048, .i32⟩
  | 87 => ⟨S2048x2048, .i1⟩
  | 88 => ⟨S_, .i32⟩
  | 89 => ⟨S2048x2048, .i32⟩
  | 90 => ⟨S2048x2048, .i32⟩
  | 91 => ⟨S2048x2048, .i32⟩
  | 92 => ⟨S2048x2048x1, .i32⟩
  | 93 => ⟨S16x2048x2048, .f32⟩
  | 94 => ⟨S1x16x2048x2048, .f32⟩
  | 95 => ⟨S16x16x2048x2048, .f32⟩
  | 96 => ⟨S16x16x2048x2048, .f32⟩
  | 97 => ⟨S2048x1, .i32⟩
  | 98 => ⟨S1x2048, .i32⟩
  | 99 => ⟨S2048x2048, .i32⟩
  | 100 => ⟨S2048x2048, .i32⟩
  | 101 => ⟨S2048x2048, .i1⟩
  | 102 => ⟨S1x1x2048x2048, .i1⟩
  | 103 => ⟨S_, .i32⟩
  | 104 => ⟨S2048x2048, .i32⟩
  | 105 => ⟨S2048x2048, .i1⟩
  | 106 => ⟨S1x1x2048x2048, .i1⟩
  | 107 => ⟨S16x16x2048x8x256, .i1⟩
  | 108 => ⟨S16x16x2048x2048, .i1⟩
  | 109 => ⟨S16x16x2048x2048, .i1⟩
  | 110 => ⟨S16x16x2048x2048, .i1⟩
  | 111 => ⟨S16x16x2048x2048, .i1⟩
  | 112 => ⟨S_, .f32⟩
  | 113 => ⟨S_, .f32⟩
  | 114 => ⟨S16x16x2048x2048, .f32⟩
  | 115 => ⟨S16x16x2048x2048, .f32⟩
  | 116 => ⟨S_, .f32⟩
  | 117 => ⟨S16x16x2048, .f32⟩
  | 118 => ⟨S_, .f32⟩
  | 119 => ⟨S16x16x2048, .f32⟩
  | 120 => ⟨S16x16x2048, .f32⟩
  | 121 => ⟨S16x16x2048x1, .f32⟩
  | 122 => ⟨S16x16x2048x2048, .f32⟩
  | 123 => ⟨S16x16x2048x2048, .f32⟩
  | 124 => ⟨S16x16x2048x2048, .f32⟩
  | 125 => ⟨S_, .f32⟩
  | 126 => ⟨S16x16x2048, .f32⟩
  | 127 => ⟨S16x16x2048x1, .f32⟩
  | _ => ⟨S32x16, .f32⟩

abbrev hbmTy0_1 (i : Nat) : BufTy := match i % 128 with
  | 0 => ⟨S16x16x2048x2048, .f32⟩
  | 1 => ⟨S16x16x2048x2048, .f32⟩
  | 2 => ⟨S16x16x2048x64, .f32⟩
  | 3 => ⟨S16x2048x16x64, .f32⟩
  | 4 => ⟨S16x2048x1024, .f32⟩
  | 5 => ⟨S16x2048x1024, .bf16⟩
  | _ => ⟨S32x16, .f32⟩

abbrev hbmTy (i : Nat) : BufTy := match i / 128 with
  | 0 => hbmTy0_0 i
  | 1 => hbmTy0_1 i
  | _ => ⟨S32x16, .f32⟩

abbrev bufTy : (tb : Table) → Fin (tcTables nBuf tb) → BufTy
  | .hbm, ⟨i, _⟩ => hbmTy i
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_values : Ref sig .tc := ⟨.hbm, 33, rfl⟩
abbrev main_indices : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_1 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_2 : Ref sig .tc := ⟨.hbm, 57, rfl⟩
abbrev main_v42 : Ref sig .tc := ⟨.hbm, 58, rfl⟩
abbrev main_v43 : Ref sig .tc := ⟨.hbm, 59, rfl⟩
abbrev main_c_3 : Ref sig .tc := ⟨.hbm, 60, rfl⟩
abbrev main_v44 : Ref sig .tc := ⟨.hbm, 61, rfl⟩
abbrev main_v45 : Ref sig .tc := ⟨.hbm, 62, rfl⟩
abbrev main_c_4 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_6 : Ref sig .tc := ⟨.hbm, 71, rfl⟩
abbrev main_v52 : Ref sig .tc := ⟨.hbm, 72, rfl⟩
abbrev main_v53 : Ref sig .tc := ⟨.hbm, 73, rfl⟩
abbrev main_cst_7 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_8 : Ref sig .tc := ⟨.hbm, 78, rfl⟩
abbrev main_v57 : Ref sig .tc := ⟨.hbm, 79, rfl⟩
abbrev main_v58 : Ref sig .tc := ⟨.hbm, 80, rfl⟩
abbrev main_c_9 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_10 : Ref sig .tc := ⟨.hbm, 85, rfl⟩
abbrev main_v62 : Ref sig .tc := ⟨.hbm, 86, rfl⟩
abbrev main_v63 : Ref sig .tc := ⟨.hbm, 87, rfl⟩
abbrev main_c_11 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_12 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_call2_v0 : Ref sig .tc := ⟨.hbm, 109, rfl⟩
abbrev main_call2_v1 : Ref sig .tc := ⟨.hbm, 110, rfl⟩
abbrev main_v83 : Ref sig .tc := ⟨.hbm, 111, rfl⟩
abbrev main_cst_13 : Ref sig .tc := ⟨.hbm, 112, rfl⟩
abbrev main_call3_v0 : Ref sig .tc := ⟨.hbm, 113, rfl⟩
abbrev main_call3_v1 : Ref sig .tc := ⟨.hbm, 114, rfl⟩
abbrev main_v84 : Ref sig .tc := ⟨.hbm, 115, rfl⟩
abbrev main_cst_14 : Ref sig .tc := ⟨.hbm, 116, rfl⟩
abbrev main_v85 : Ref sig .tc := ⟨.hbm, 117, rfl⟩
abbrev main_cst_15 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_16 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩

abbrev nD : Nat := 1
abbrev τ : Topo := Topo.v7x

variable {F : FTy → Type} [FloatOps F]
-- ==== FfnKernel.lean ====
abbrev S16x2048x1024 : Shape := ⟨3, ![16, 2048, 1024]⟩
abbrev S1024x1024 : Shape := ⟨2, ![1024, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1x512x1024 : Shape := ⟨3, ![1, 512, 1024]⟩
abbrev S520x5632 : Shape := ⟨2, ![520, 5632]⟩
abbrev S512x1024 : Shape := ⟨2, ![512, 1024]⟩
abbrev S8x5632 : Shape := ⟨2, ![8, 5632]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S3x256 : Shape := ⟨2, ![3, 256]⟩
abbrev S1x256 : Shape := ⟨2, ![1, 256]⟩
abbrev S520x256 : Shape := ⟨2, ![520, 256]⟩
abbrev S256x1024 : Shape := ⟨2, ![256, 1024]⟩

abbrev nBuf : Space → Nat
  | .hbm => 10
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S1024x1024, .bf16⟩
  | .hbm, ⟨3, _⟩ => ⟨S1x1024, .f32⟩
  | .hbm, ⟨4, _⟩ => ⟨S1024x5632, .bf16⟩
  | .hbm, ⟨5, _⟩ => ⟨S3x5632, .f32⟩
  | .hbm, ⟨6, _⟩ => ⟨S1x5632, .f32⟩
  | .hbm, ⟨7, _⟩ => ⟨S2816x1024, .bf16⟩
  | .hbm, ⟨8, _⟩ => ⟨S1x1024, .f32⟩
  | .hbm, ⟨9, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S3x5632, .f32⟩
  | .local _ .vmem, ⟨8, _⟩ => ⟨S1x5632, .f32⟩
  | .local _ .vmem, ⟨9, _⟩ => ⟨S2816x1024, .bf16⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S520x5632, .f32⟩
  | .local _ .vmem, ⟨14, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnReferenceIdeal.lean ====
abbrev S16x2048x1024 : Shape := ⟨3, ![16, 2048, 1024]⟩
abbrev S1024x1024 : Shape := ⟨2, ![1024, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2050x5632 : Shape := ⟨3, ![16, 2050, 5632]⟩
abbrev S5632 : Shape := ⟨1, ![5632]⟩
abbrev S1x1x5632 : Shape := ⟨3, ![1, 1, 5632]⟩
abbrev S16x2048x2816 : Shape := ⟨3, ![16, 2048, 2816]⟩

abbrev nBuf : Space → Nat
  | .hbm => 88
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S1024x1024, .bf16⟩
  | .hbm, ⟨3, _⟩ => ⟨S1x1024, .f32⟩
  | .hbm, ⟨4, _⟩ => ⟨S1024x5632, .bf16⟩
  | .hbm, ⟨5, _⟩ => ⟨S3x5632, .f32⟩
  | .hbm, ⟨6, _⟩ => ⟨S1x5632, .f32⟩
  | .hbm, ⟨7, _⟩ => ⟨S2816x1024, .bf16⟩
  | .hbm, ⟨8, _⟩ => ⟨S1x1024, .f32⟩
  | .hbm, ⟨9, _⟩ => ⟨S16x2048x1024, .f32⟩
  | .hbm, ⟨10, _⟩ => ⟨S1024x1024, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | .hbm, ⟨29, _⟩ => ⟨S1024x5632, .f32⟩
  | .hbm, ⟨30, _⟩ => ⟨S16x2048x5632, .f32⟩
  | .hbm, ⟨31, _⟩ => ⟨S_, .i32⟩
  | .hbm, ⟨32, _⟩ => ⟨S_, .f32⟩
  | .hbm, ⟨33, _⟩ => ⟨S16x2050x5632, .f32⟩
  | .hbm, ⟨34, _⟩ => ⟨S1x5632, .f32⟩
  | .hbm, ⟨35, _⟩ => ⟨S5632, .f32⟩
  | .hbm, ⟨36, _⟩ => ⟨S16x2048x5632, .f32⟩
  | .hbm, ⟨37, _⟩ => ⟨S1x1x5632, .f32⟩
  | .hbm, ⟨38, _⟩ => ⟨S16x2048x5632, .f32⟩
  | .hbm, ⟨39, _⟩ => ⟨S16x2048x5632, .f32⟩
  | .hbm, ⟨40, _⟩ => ⟨S1x5632, .f32⟩
  | .hbm, ⟨41, _⟩ => ⟨S5632, .f32⟩
  | .hbm, ⟨42, _⟩ => ⟨S16x2048x5632, .f32⟩
  | .hbm, ⟨43, _⟩ => ⟨S1x1x5632, .f32⟩
  | .hbm, ⟨44, _⟩ => ⟨S16x2048x5632, .f32⟩
  | .hbm, ⟨45, _⟩ => ⟨S16x2048x5632, .f32⟩
  | .hbm, ⟨46, _⟩ => ⟨S16x2048x5632, .f32⟩
  | .hbm, ⟨47, _⟩ => ⟨S1x5632, .f32⟩
  | .hbm, ⟨48, _⟩ => ⟨S5632, .f32⟩
  | .hbm, ⟨49, _⟩ => ⟨S16x2048x5632, .f32⟩
  | .hbm, ⟨50, _⟩ => ⟨S1x1x5632, .f32⟩
  | .hbm, ⟨51, _⟩ => ⟨S16x2048x5632, .f32⟩
  | .hbm, ⟨52, _⟩ => ⟨S16x2048x5632, .f32⟩
  | .hbm, ⟨53, _⟩ => ⟨S16x2048x5632, .f32⟩
  | .hbm, ⟨54, _⟩ => ⟨S1x1x5632, .f32⟩
  | .hbm, ⟨55, _⟩ => ⟨S16x2048x5632, .f32⟩
  | .hbm, ⟨56, _⟩ => ⟨S16x2048x5632, .f32⟩
  | .hbm, ⟨57, _⟩ => ⟨S16x2048x2816, .f32⟩
  | .hbm, ⟨58, _⟩ => ⟨S16x2048x2816, .f32⟩
  | .hbm, ⟨59, _⟩ => ⟨S16x2048x2816, .f32⟩
  | .hbm, ⟨60, _⟩ => ⟨S16x2048x2816, .f32⟩
  | .hbm, ⟨61, _⟩ => ⟨S_, .f32⟩
  | .hbm, ⟨62, _⟩ => ⟨S16x2048x2816, .f32⟩
  | .hbm, ⟨63, _⟩ => ⟨S16x2048x2816, .f32⟩
  | .hbm, ⟨64, _⟩ => ⟨S_, .f32⟩
  | .hbm, ⟨65, _⟩ => ⟨S16x2048x2816, .f32⟩
  | .hbm, ⟨66, _⟩ => ⟨S16x2048x2816, .f32⟩
  | .hbm, ⟨67, _⟩ => ⟨S16x2048x2816, .f32⟩
  | .hbm, ⟨68, _⟩ => ⟨S16x2048x2816, .f32⟩
  | .hbm, ⟨69, _⟩ => ⟨S2816x1024, .f32⟩
  | .hbm, ⟨70, _⟩ => ⟨S16x2048x1024, .f32⟩
  | .hbm, ⟨71, _⟩ => ⟨S16x2048x1024, .f32⟩
  | .hbm, ⟨72, _⟩ => ⟨S16x2048x1024, .f32⟩
  | .hbm, ⟨73, _⟩ => ⟨S_, .f32⟩
  | .hbm, ⟨74, _⟩ => ⟨S16x2048, .f32⟩
  | .hbm, ⟨75, _⟩ => ⟨S16x2048x1, .f32⟩
  | .hbm, ⟨76, _⟩ => ⟨S_, .f32⟩
  | .hbm, ⟨77, _⟩ => ⟨S16x2048x1, .f32⟩
  | .hbm, ⟨78, _⟩ => ⟨S16x2048x1, .f32⟩
  | .hbm, ⟨79, _⟩ => ⟨S_, .f32⟩
  | .hbm, ⟨80, _⟩ => ⟨S16x2048x1, .f32⟩
  | .hbm, ⟨81, _⟩ => ⟨S16x2048x1, .f32⟩
  | .hbm, ⟨82, _⟩ => ⟨S16x2048x1, .f32⟩
  | .hbm, ⟨83, _⟩ => ⟨S16x2048x1024, .f32⟩
  | .hbm, ⟨84, _⟩ => ⟨S16x2048x1024, .f32⟩
  | .hbm, ⟨85, _⟩ => ⟨S1x1x1024, .f32⟩
  | .hbm, ⟨86, _⟩ => ⟨S16x2048x1024, .f32⟩
  | .hbm, ⟨87, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_2 : Ref sig .tc := ⟨.hbm, 61, rfl⟩
abbrev main_v47 : Ref sig .tc := ⟨.hbm, 62, rfl⟩
abbrev main_v48 : Ref sig .tc := ⟨.hbm, 63, rfl⟩
abbrev main_cst_3 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_4 : Ref sig .tc := ⟨.hbm, 73, rfl⟩
abbrev main_v57 : Ref sig .tc := ⟨.hbm, 74, rfl⟩
abbrev main_v58 : Ref sig .tc := ⟨.hbm, 75, rfl⟩
abbrev main_cst_5 : Ref sig .tc := ⟨.hbm, 76, rfl⟩
abbrev main_v59 : Ref sig .tc := ⟨.hbm, 77, rfl⟩
abbrev main_v60 : Ref sig .tc := ⟨.hbm, 78, rfl⟩
abbrev main_cst_6 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== GluKernel.lean ====
abbrev S16x2048x1024 : Shape := ⟨3, ![16, 2048, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1x1024x1024 : Shape := ⟨3, ![1, 1024, 1024]⟩
abbrev S1024x1024 : Shape := ⟨2, ![1024, 1024]⟩
abbrev S1x512x1024 : Shape := ⟨3, ![1, 512, 1024]⟩
abbrev S1x16x1024 : Shape := ⟨3, ![1, 16, 1024]⟩
abbrev S16x1024 : Shape := ⟨2, ![16, 1024]⟩
abbrev S520x5632 : Shape := ⟨2, ![520, 5632]⟩
abbrev S512x1024 : Shape := ⟨2, ![512, 1024]⟩
abbrev S8x5632 : Shape := ⟨2, ![8, 5632]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S3x256 : Shape := ⟨2, ![3, 256]⟩
abbrev S1x256 : Shape := ⟨2, ![1, 256]⟩
abbrev S520x256 : Shape := ⟨2, ![520, 256]⟩
abbrev S256x1024 : Shape := ⟨2, ![256, 1024]⟩

abbrev nBuf : Space → Nat
  | .hbm => 13
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1024x5632, .bf16⟩
  | .hbm, ⟨3, _⟩ => ⟨S3x5632, .f32⟩
  | .hbm, ⟨4, _⟩ => ⟨S1x5632, .f32⟩
  | .hbm, ⟨5, _⟩ => ⟨S2816x1024, .bf16⟩
  | .hbm, ⟨6, _⟩ => ⟨S1x1024x1024, .f32⟩
  | .hbm, ⟨7, _⟩ => ⟨S1024x1024, .f32⟩
  | .hbm, ⟨8, _⟩ => ⟨S1x1024x1024, .f32⟩
  | .hbm, ⟨9, _⟩ => ⟨S16x2048x1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x16x1024, .f32⟩
  | .local _ .vmem, ⟨8, _⟩ => ⟨S1x16x1024, .f32⟩
  | .local _ .vmem, ⟨9, _⟩ => ⟨S16x1024, .f32⟩
  | .local _ .vmem, ⟨10, _⟩ => ⟨S16x1024, .f32⟩
  | .local _ .vmem, ⟨11, _⟩ => ⟨S1x16x1024, .f32⟩
  | .local _ .vmem, ⟨12, _⟩ => ⟨S1x16x1024, .f32⟩
  | .local _ .vmem, ⟨13, _⟩ => ⟨S1x512x1024, .f32⟩
  | .local _ .vmem, ⟨14, _⟩ => ⟨S1x512x1024, .f32⟩
  | .local _ .vmem, ⟨15, _⟩ => ⟨S16x1024, .bf16⟩
  | .local _ .vmem, ⟨16, _⟩ => ⟨S16x1024, .bf16⟩
  | .local _ .vmem, ⟨17, _⟩ => ⟨S16x1024, .bf16⟩
  | .local _ .vmem, ⟨18, _⟩ => ⟨S16x1024, .bf16⟩
  | .local _ .vmem, ⟨19, _⟩ => ⟨S16x1024, .bf16⟩
  | .local _ .vmem, ⟨20, _⟩ => ⟨S16x1024, .bf16⟩
  | .local _ .vmem, ⟨21, _⟩ => ⟨S520x5632, .f32⟩
  | .local _ .vmem, ⟨22, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== GluReferenceIdeal.lean ====
abbrev S16x2048x1024 : Shape := ⟨3, ![16, 2048, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1x1024x1024 : Shape := ⟨3, ![1, 1024, 1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2050x5632 : Shape := ⟨3, ![16, 2050, 5632]⟩
abbrev S5632 : Shape := ⟨1, ![5632]⟩
abbrev S1x1x5632 : Shape := ⟨3, ![1, 1, 5632]⟩
abbrev S16x2048x2816 : Shape := ⟨3, ![16, 2048, 2816]⟩

abbrev nBuf : Space → Nat
  | .hbm => 73
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1024x5632, .bf16⟩
  | .hbm, ⟨3, _⟩ => ⟨S3x5632, .f32⟩
  | .hbm, ⟨4, _⟩ => ⟨S1x5632, .f32⟩
  | .hbm, ⟨5, _⟩ => ⟨S2816x1024, .bf16⟩
  | .hbm, ⟨6, _⟩ => ⟨S1x1024x1024, .f32⟩
  | .hbm, ⟨7, _⟩ => ⟨S1024x1024, .f32⟩
  | .hbm, ⟨8, _⟩ => ⟨S1x1024x1024, .f32⟩
  | .hbm, ⟨9, _⟩ => ⟨S16x2048x1024, .f32⟩
  | .hbm, ⟨10, _⟩ => ⟨S_, .f32⟩
  | .hbm, ⟨11, _⟩ => ⟨S16x2048, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1, .f32⟩
  | .hbm, ⟨20, _⟩ => ⟨S16x2048x1024, .f32⟩
  | .hbm, ⟨21, _⟩ => ⟨S16x2048x1024, .f32⟩
  | .hbm, ⟨22, _⟩ => ⟨S1x1x1024, .f32⟩
  | .hbm, ⟨23, _⟩ => ⟨S16x2048x1024, .f32⟩
  | .hbm, ⟨24, _⟩ => ⟨S16x2048x1024, .f32⟩
  | .hbm, ⟨25, _⟩ => ⟨S1024x5632, .f32⟩
  | .hbm, ⟨26, _⟩ => ⟨S16x2048x5632, .f32⟩
  | .hbm, ⟨27, _⟩ => ⟨S_, .i32⟩
  | .hbm, ⟨28, _⟩ => ⟨S_, .f32⟩
  | .hbm, ⟨29, _⟩ => ⟨S16x2050x5632, .f32⟩
  | .hbm, ⟨30, _⟩ => ⟨S1x5632, .f32⟩
  | .hbm, ⟨31, _⟩ => ⟨S5632, .f32⟩
  | .hbm, ⟨32, _⟩ => ⟨S16x2048x5632, .f32⟩
  | .hbm, ⟨33, _⟩ => ⟨S1x1x5632, .f32⟩
  | .hbm, ⟨34, _⟩ => ⟨S16x2048x5632, .f32⟩
  | .hbm, ⟨35, _⟩ => ⟨S16x2048x5632, .f32⟩
  | .hbm, ⟨36, _⟩ => ⟨S1x5632, .f32⟩
  | .hbm, ⟨37, _⟩ => ⟨S5632, .f32⟩
  | .hbm, ⟨38, _⟩ => ⟨S16x2048x5632, .f32⟩
  | .hbm, ⟨39, _⟩ => ⟨S1x1x5632, .f32⟩
  | .hbm, ⟨40, _⟩ => ⟨S16x2048x5632, .f32⟩
  | .hbm, ⟨41, _⟩ => ⟨S16x2048x5632, .f32⟩
  | .hbm, ⟨42, _⟩ => ⟨S16x2048x5632, .f32⟩
  | .hbm, ⟨43, _⟩ => ⟨S1x5632, .f32⟩
  | .hbm, ⟨44, _⟩ => ⟨S5632, .f32⟩
  | .hbm, ⟨45, _⟩ => ⟨S16x2048x5632, .f32⟩
  | .hbm, ⟨46, _⟩ => ⟨S1x1x5632, .f32⟩
  | .hbm, ⟨47, _⟩ => ⟨S16x2048x5632, .f32⟩
  | .hbm, ⟨48, _⟩ => ⟨S16x2048x5632, .f32⟩
  | .hbm, ⟨49, _⟩ => ⟨S16x2048x5632, .f32⟩
  | .hbm, ⟨50, _⟩ => ⟨S1x1x5632, .f32⟩
  | .hbm, ⟨51, _⟩ => ⟨S16x2048x5632, .f32⟩
  | .hbm, ⟨52, _⟩ => ⟨S16x2048x5632, .f32⟩
  | .hbm, ⟨53, _⟩ => ⟨S16x2048x2816, .f32⟩
  | .hbm, ⟨54, _⟩ => ⟨S16x2048x2816, .f32⟩
  | .hbm, ⟨55, _⟩ => ⟨S16x2048x2816, .f32⟩
  | .hbm, ⟨56, _⟩ => ⟨S16x2048x2816, .f32⟩
  | .hbm, ⟨57, _⟩ => ⟨S_, .f32⟩
  | .hbm, ⟨58, _⟩ => ⟨S16x2048x2816, .f32⟩
  | .hbm, ⟨59, _⟩ => ⟨S16x2048x2816, .f32⟩
  | .hbm, ⟨60, _⟩ => ⟨S_, .f32⟩
  | .hbm, ⟨61, _⟩ => ⟨S16x2048x2816, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S2816x1024, .f32⟩
  | .hbm, ⟨66, _⟩ => ⟨S16x2048x1024, .f32⟩
  | .hbm, ⟨67, _⟩ => ⟨S16x2048x1024, .f32⟩
  | .hbm, ⟨68, _⟩ => ⟨S1024x1024, .f32⟩
  | .hbm, ⟨69, _⟩ => ⟨S1024x1024, .bf16⟩
  | .hbm, ⟨70, _⟩ => ⟨S1024x1024, .bf16⟩
  | .hbm, ⟨71, _⟩ => ⟨S1024x1024, .f32⟩
  | .hbm, ⟨72, _⟩ => ⟨S1024x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_call0_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_2 : Ref sig .tc := ⟨.hbm, 57, rfl⟩
abbrev main_v43 : Ref sig .tc := ⟨.hbm, 58, rfl⟩
abbrev main_v44 : Ref sig .tc := ⟨.hbm, 59, rfl⟩
abbrev main_cst_3 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== Proof.Ring.lean ====
/- Reading back a buffer filled piece by piece: a load of one box skips the stores into boxes apart from it, the boxes' corners and sizes compared as
   numerals, whatever the proofs that the boxes lie inside. -/
module

public import Idealize.ShloMosaic.Lib.Pipeline.ReadBack

@[expose] public section

noncomputable section

namespace Moba

open Idealize.ShloMosaic

variable {sig : RefSig} {κ : Kind} {sp : Space} {s : Shape} {e : EltTy} {Val : EltTy → Type}

/-- A load of a box apart, along some axis, from the box last stored reads the stores before. -/
theorem readCov_apart [∀ e, Nonempty (Val e)] (v : View sig κ sp s e) {off off' size size' : Fin s.rank → ℕ} (inb : ∀ a, off a + size a ≤ s.size a)
    (inb' : ∀ a, off' a + size' a ≤ s.size a) (w : (Rect.unit off size inb).shape.Idx → Val e) (L : List (View.Piece Val s e))
    (h : ∃ a, off a + size a ≤ off' a ∨ off' a + size' a ≤ off a) :
    v.readCov (⟨Rect.unit off size inb, w⟩ :: L) (Rect.unit off' size' inb').toLoadRect = v.readCov L (Rect.unit off' size' inb').toLoadRect := by
  obtain ⟨a, ha⟩ := h
  refine View.readCov_skip v _ w L _ ?_
  refine decide_eq_true ⟨a, ?_⟩
  simp only [Rect.unit, Rect.toLoadRect, one_mul]
  omega

/-- Stores that are blocks of `G`, one more block stored over them. -/
theorem piecesOf_cons {G : s.Idx → Val e} {r : Rect s} {w : r.shape.Idx → Val e} {L : List (View.Piece Val s e)} (h : w = fun x => G (r.emb x))
    (hL : View.PiecesOf G L) : View.PiecesOf G (⟨r, w⟩ :: L) := ⟨fun x => congrFun h x, hL⟩

end Moba

end
-- ==== Proof.Term.lean ====
/- One pair of heads of one block of queries, as the kernel computes it: the tiles of scores of a key block, the column maxima, the exponentials, the weighted
   values, the quotient. The three scratch buffers filled at the start (the masked keys `KH`, the augmented values `VA`, the selection `MD`) are parameters. -/
module

public import proofs.«01_k».proof.Proof.Gen.KernelIdeal.Value
public import proofs.«01_k».proof.Proof.Ring

@[expose] public section

noncomputable section

namespace Moba

open Cert.KernelIdeal Cert.KernelIdeal.Gen Idealize.ShloMosaic Idealize.ShloMosaic.TcCoe Idealize.SL.Sem

theorem inb_kh (h : Fin 4) (j : Fin 8) : ∀ a, (![h.val, 256 * j.val, 0] : Fin 3 → ℕ) a + S1x256x128.size a ≤ S4x2048x128.size a := by
  intro a; fin_cases a <;> simp [S1x256x128, S4x2048x128] <;> omega

theorem inb_q (i : Fin 8) (hp : Fin 2) : ∀ a, (![0, 256 * i.val, 128 * hp.val] : Fin 3 → ℕ) a + S1x256x128.size a ≤ S1x2048x256.size a := by
  intro a; fin_cases a <;> simp [S1x256x128, S1x2048x256] <;> omega

theorem inb_bias (h : Fin 4) (n : ℕ) : ∀ a, (![h.val, n % 2, 0, 0] : Fin 4 → ℕ) a + S1x1x256x256.size a ≤ S4x2x256x256.size a := by
  intro a; fin_cases a <;> simp [S1x1x256x256, S4x2x256x256] <;> omega

theorem inb_md (h : Fin 4) (j i : Fin 8) : ∀ a, (![h.val, j.val, 256 * i.val] : Fin 3 → ℕ) a + S1x1x256.size a ≤ S4x8x2048.size a := by
  intro a; fin_cases a <;> simp [S1x1x256, S4x8x2048] <;> omega

theorem inb_va (h : Fin 4) (j : Fin 8) : ∀ a, (![h.val, 0, 256 * j.val] : Fin 3 → ℕ) a + S1x80x256.size a ≤ S4x80x2048.size a := by
  intro a; fin_cases a <;> simp [S1x80x256, S4x80x2048] <;> omega

/-- The lane block of a head: two heads share one. -/
def laneBlock (h : Fin 4) : Fin 2 := ⟨h.val / 2, by omega⟩

section
variable (KH : Vec Ideal S4x2048x128 .bf16) (VA : Vec Ideal S4x80x2048 .bf16) (MD : Vec Ideal S4x8x2048 .f32) (x1 : Vec Ideal S1x2048x256 .bf16)
  (x5 : Vec Ideal S4x2x256x256 .f32) (fb : Fin 4 → Ideal .f32)

/-- The tile of scores of key block `j` against query block `i`. -/
def tile (h : Fin 4) (i j : Fin 8) : FVec Ideal S256x256 .f32 :=
  shapeCast S256x256 (shapeCast S1x256x256 (matmul dot_S256x128_S256x128_S256x256_1_1_0_0_n_n none
    (shapeCast S256x128 (View.ld KH (Rect.unit (s := S4x2048x128) ![h.val, 256 * j.val, 0] S1x256x128.size (inb_kh h j)) : Vec Ideal S1x256x128 .bf16)
      shapeCasts_S1x256x128_S256x128 : FVec Ideal S256x128 .bf16)
    (shapeCast S256x128 (View.ld x1 (Rect.unit (s := S1x2048x256) ![0, 256 * i.val, 128 * (laneBlock h).val] S1x256x128.size (inb_q i (laneBlock h))) : Vec Ideal S1x256x128 .bf16)
      shapeCasts_S1x256x128_S256x128 : FVec Ideal S256x128 .bf16)
    (constant S256x256 .f32 0x00000000#32)) shapeCasts_S256x256_S1x256x256) shapeCasts_S1x256x256_S256x256

/-- The tile with the position bias of a near block. -/
def biasedTile (h : Fin 4) (i j : Fin 8) : FVec Ideal S256x256 .f32 :=
  if i.val ≤ j.val + 1 then
    addf (tile KH x1 h i j) (shapeCast S256x256 (View.ld x5 (Rect.unit (s := S4x2x256x256) ![h.val, (i.val - j.val) % 2, 0, 0] S1x1x256x256.size
      (inb_bias h (i.val - j.val))) : Vec Ideal S1x1x256x256 .f32) shapeCasts_S1x1x256x256_S256x256)
  else tile KH x1 h i j

/-- What the selection, and the far bias, add to a past block. -/
def offset (h : Fin 4) (i j : Fin 8) : FVec Ideal S1x256 .f32 :=
  if j.val + 1 = i.val then
    shapeCast S1x256 (View.ld MD (Rect.unit (s := S4x8x2048) ![h.val, j.val, 256 * i.val] S1x1x256.size (inb_md h j i)) : Vec Ideal S1x1x256 .f32) shapeCasts_S1x1x256_S1x256
  else addf (shapeCast S1x256 (View.ld MD (Rect.unit (s := S4x8x2048) ![h.val, j.val, 256 * i.val] S1x1x256.size (inb_md h j i)) : Vec Ideal S1x1x256 .f32)
    shapeCasts_S1x1x256_S1x256) (broadcast S1x256 (fb h))

/-- The maxima of a tile over its rows, eight at a time. -/
def tileMax (h : Fin 4) (i j : Fin 8) : FVec Ideal S8x256 .f32 :=
  let t := multiReduction .maximumf [0] S8x256 (shapeCast S32x8x256 (biasedTile KH x1 x5 h i j) shapeCasts_S256x256_S32x8x256) 0xFF800000#32
    reduces_S32x8x256_S8x256 (.inl rfl) rfl
  if j = i then t else addf t (broadcastTo S8x256 (offset MD fb h i j) broadcasts_S1x256_S8x256)

/-- The running maximum over the key blocks `0..n`. -/
def runMax (h : Fin 4) (i : Fin 8) : (n : ℕ) → n < 8 → FVec Ideal S8x256 .f32
  | 0, hn => tileMax KH MD x1 x5 fb h i ⟨0, hn⟩
  | n + 1, hn => maximumf (runMax h i n (by omega)) (tileMax KH MD x1 x5 fb h i ⟨n + 1, hn⟩)

/-- The maximum of each query's column. -/
def colMax (h : Fin 4) (i : Fin 8) : FVec Ideal S1x256 .f32 :=
  shapeCast S1x256 (multiReduction .maximumf [0] S256 (runMax KH MD x1 x5 fb h i i.val i.isLt) 0xFF800000#32 reduces_S8x256_S256 (.inl rfl) rfl) shapeCasts_S256_S1x256

/-- The exponentials of a tile. -/
def weights (h : Fin 4) (i j : Fin 8) : FVec Ideal S256x256 .bf16 :=
  shapeCast S256x256 (shapeCast S1x256x256 (truncf .bf16 (exp2 (subf (biasedTile KH x1 x5 h i j) (broadcastTo S256x256
    (if j = i then colMax KH MD x1 x5 fb h i else subf (colMax KH MD x1 x5 fb h i) (offset MD fb h i j)) broadcasts_S1x256_S256x256))) bitsLt_bf16_f32)
    shapeCasts_S256x256_S1x256x256) shapeCasts_S1x256x256_S256x256

/-- The values weighted by a tile's exponentials. -/
def partValues (h : Fin 4) (i j : Fin 8) : FVec Ideal S80x256 .f32 :=
  matmul dot_S80x256_S256x256_S80x256_1_0_0_1_n_n none
    (shapeCast S80x256 (View.ld VA (Rect.unit (s := S4x80x2048) ![h.val, 0, 256 * j.val] S1x80x256.size (inb_va h j)) : Vec Ideal S1x80x256 .bf16)
      shapeCasts_S1x80x256_S80x256 : FVec Ideal S80x256 .bf16)
    (weights KH MD x1 x5 fb h i j) (constant S80x256 .f32 0x00000000#32)

/-- Their sum over the key blocks `0..n`. -/
def runValues (h : Fin 4) (i : Fin 8) : (n : ℕ) → n < 8 → FVec Ideal S80x256 .f32
  | 0, hn => partValues KH VA MD x1 x5 fb h i ⟨0, hn⟩
  | n + 1, hn => addf (runValues h i n (by omega)) (partValues KH VA MD x1 x5 fb h i ⟨n + 1, hn⟩)

/-- A head's result: the weighted values over the sum of the weights. -/
def headOut (h : Fin 4) (i : Fin 8) : FVec Ideal S64x256 .f32 :=
  divf (extractStridedSlice S64x256 ![0, 0] (runValues KH VA MD x1 x5 fb h i i.val i.isLt) slices_S80x256_o0_0_S64x256)
    (broadcastTo S64x256 (extractStridedSlice S1x256 ![64, 0] (runValues KH VA MD x1 x5 fb h i i.val i.isLt) slices_S80x256_o64_0_S1x256) broadcasts_S1x256_S64x256)

/-- The block stored: two heads side by side, queries along the rows. -/
def pairOut (i : Fin 8) (hp : Fin 2) : FVec Ideal S1x256x128 .bf16 :=
  shapeCast S1x256x128 (truncf .bf16 (transpose S256x128 [1, 0] (concatenate S128x256 0
    [⟨S64x256, headOut KH VA MD x1 x5 fb ⟨2 * hp.val, by omega⟩ i⟩, ⟨S64x256, headOut KH VA MD x1 x5 fb ⟨2 * hp.val + 1, by omega⟩ i⟩]
    concatenates_S64x256_S64x256_S128x256_d0) transposes_S128x256_p1_0_S256x128) bitsLt_bf16_f32) shapeCasts_S256x128_S1x256x128

end

end Moba

end
-- ==== Proof.Pieces.lean ====
/- The sixteen blocks of the result the kernel stores at one grid point, each the pair of heads of its block of queries. -/
module

public import proofs.«01_k».proof.Proof.Term
public import Idealize.ShloMosaic.Lib.Pipeline.ValueKit.Acc

@[expose] public section

noncomputable section

namespace Moba

open Cert.KernelIdeal Cert.KernelIdeal.Gen Idealize.ShloMosaic Idealize.ShloMosaic.TcCoe Idealize.SL.Sem

/-- A load of a box of stores over junk. -/
theorem readCov_ld {sig : RefSig} {κ : Kind} {sp : Space} {s : Shape} {e : EltTy} (v : View sig κ sp s e) (L : List (View.Piece (Elt Ideal) s e)) (r : Rect s) :
    v.readCov L r.toLoadRect = View.ld (View.canon L) r := View.readCov_eq_canon' v L r.toLoadRect

/-- Two blocks of heads side by side, each replaced by an equal. -/
theorem pair_congr {a a' b b' : FVec Ideal S64x256 .f32} (ha : a = a') (hb : b = b') :
    shapeCast S1x256x128 (truncf .bf16 (transpose S256x128 [1, 0] (concatenate S128x256 0 [⟨S64x256, a⟩, ⟨S64x256, b⟩]
      concatenates_S64x256_S64x256_S128x256_d0) transposes_S128x256_p1_0_S256x128) bitsLt_bf16_f32) shapeCasts_S256x128_S1x256x128
    = shapeCast S1x256x128 (truncf .bf16 (transpose S256x128 [1, 0] (concatenate S128x256 0 [⟨S64x256, a'⟩, ⟨S64x256, b'⟩]
      concatenates_S64x256_S64x256_S128x256_d0) transposes_S128x256_p1_0_S256x128) bitsLt_bf16_f32) shapeCasts_S256x128_S1x256x128 := by
  rw [ha, hb]

/-- The far bias of a head, in base-two units. -/
def farBias (i : grid0.Coords) (x0 : Vec Ideal S32x16 .f32) (h : Fin 4) : Ideal .f32 :=
  k0_pay68 (View.ld x0 (Rect.unit (s := S32x16) (k0_off1 i (BitVec.ofNat 32 h.val)) S1x1.size (k0_off1_inb i h)) (Shape.Idx.first (numel1_S1x1 ▸ Nat.one_pos)))

set_option maxHeartbeats 0 in
set_option maxRecDepth 100000 in
/-- Every store into the result's block is a block of `G`, when each pair of heads is one. -/
theorem pieces (c : Dev nD) (i : grid0.Coords) (arg2 : Memref sig .tc .smem S32x16 .f32) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x256x2048 .bf16) (harg5 : arg5.IsWhole) (arg6 : Memref sig .tc .vmem S1x8x256 .f32) (harg6 : arg6.IsWhole) (arg7 : Memref sig .tc .vmem S4x2x256x256 .f32) (harg7 : arg7.IsWhole) (arg8 : Memref sig .tc .vmem S1x2048x256 .bf16) (harg8 : arg8.IsWhole) (arg9 : Memref sig .tc .vmem S4x2048x128 .bf16) (harg9 : arg9.IsWhole) (arg10 : Memref sig .tc .vmem S4x80x2048 .bf16) (harg10 : arg10.IsWhole) (arg11 : Memref sig .tc .vmem S4x8x2048 .f32) (harg11 : arg11.IsWhole) (arg12 : Memref sig .tc .vmem S3x2048x256 .f32) (harg12 : arg12.IsWhole) (arg13 : Memref sig .tc .vmem S2x2048x256 .bf16) (harg13 : arg13.IsWhole)
    (x0 : Vec Ideal S32x16 .f32) (x1 : Vec Ideal S1x2048x256 .bf16) (x2 : Vec Ideal S1x2048x256 .bf16) (x3 : Vec Ideal S1x256x2048 .bf16) (x4 : Vec Ideal S1x8x256 .f32) (x5 : Vec Ideal S4x2x256x256 .f32)
    (G : S1x2048x256.Idx → Elt Ideal .bf16)
    (hG : ∀ (b : Fin 8) (hp : Fin 2), pairOut (View.canon (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5).2.1) (View.canon (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5).2.2.1) (View.canon (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5).2.2.2.1) x1 x5 (farBias i x0) b hp
      = fun x => G ((Rect.unit (s := S1x2048x256) ![0, 256 * b.val, 128 * hp.val] S1x256x128.size (inb_q b hp)).emb x)) :
    View.PiecesOf G (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5).1 := by
  revert hG
  unfold kernelRun0_A
  dsimp only
  sl_unfold_run_names
  intro hG
  refine piecesOf_cons ?_ ?_
  · refine Eq.trans (pair_congr ?_ ?_) (hG 0 1)
    all_goals simp (disch := decide) only [↓ readCov_apart (s := S3x2048x256), ↓ readCov_apart (s := S2x2048x256), ↓ View.readCov_cons_toLoadRect (s := S3x2048x256),
      ↓ View.readCov_cons_toLoadRect (s := S2x2048x256), ↓ readCov_ld (s := S4x2048x128), ↓ readCov_ld (s := S4x80x2048), ↓ readCov_ld (s := S4x8x2048),
      ↓ View.readAt_eq_ld, ↓ Memref.IsWhole.read_unread]
    all_goals sl_kernel_rfl
  refine piecesOf_cons ?_ ?_
  · refine Eq.trans (pair_congr ?_ ?_) (hG 0 0)
    all_goals simp (disch := decide) only [↓ readCov_apart (s := S3x2048x256), ↓ readCov_apart (s := S2x2048x256), ↓ View.readCov_cons_toLoadRect (s := S3x2048x256),
      ↓ View.readCov_cons_toLoadRect (s := S2x2048x256), ↓ readCov_ld (s := S4x2048x128), ↓ readCov_ld (s := S4x80x2048), ↓ readCov_ld (s := S4x8x2048),
      ↓ View.readAt_eq_ld, ↓ Memref.IsWhole.read_unread]
    all_goals sl_kernel_rfl
  refine piecesOf_cons ?_ ?_
  · refine Eq.trans (pair_congr ?_ ?_) (hG 1 1)
    all_goals simp (disch := decide) only [↓ readCov_apart (s := S3x2048x256), ↓ readCov_apart (s := S2x2048x256), ↓ View.readCov_cons_toLoadRect (s := S3x2048x256),
      ↓ View.readCov_cons_toLoadRect (s := S2x2048x256), ↓ readCov_ld (s := S4x2048x128), ↓ readCov_ld (s := S4x80x2048), ↓ readCov_ld (s := S4x8x2048),
      ↓ View.readAt_eq_ld, ↓ Memref.IsWhole.read_unread]
    all_goals sl_kernel_rfl
  refine piecesOf_cons ?_ ?_
  · refine Eq.trans (pair_congr ?_ ?_) (hG 1 0)
    all_goals simp (disch := decide) only [↓ readCov_apart (s := S3x2048x256), ↓ readCov_apart (s := S2x2048x256), ↓ View.readCov_cons_toLoadRect (s := S3x2048x256),
      ↓ View.readCov_cons_toLoadRect (s := S2x2048x256), ↓ readCov_ld (s := S4x2048x128), ↓ readCov_ld (s := S4x80x2048), ↓ readCov_ld (s := S4x8x2048),
      ↓ View.readAt_eq_ld, ↓ Memref.IsWhole.read_unread]
    all_goals sl_kernel_rfl
  refine piecesOf_cons ?_ ?_
  · refine Eq.trans (pair_congr ?_ ?_) (hG 2 1)
    all_goals simp (disch := decide) only [↓ readCov_apart (s := S3x2048x256), ↓ readCov_apart (s := S2x2048x256), ↓ View.readCov_cons_toLoadRect (s := S3x2048x256),
      ↓ View.readCov_cons_toLoadRect (s := S2x2048x256), ↓ readCov_ld (s := S4x2048x128), ↓ readCov_ld (s := S4x80x2048), ↓ readCov_ld (s := S4x8x2048),
      ↓ View.readAt_eq_ld, ↓ Memref.IsWhole.read_unread]
    all_goals sl_kernel_rfl
  refine piecesOf_cons ?_ ?_
  · refine Eq.trans (pair_congr ?_ ?_) (hG 2 0)
    all_goals simp (disch := decide) only [↓ readCov_apart (s := S3x2048x256), ↓ readCov_apart (s := S2x2048x256), ↓ View.readCov_cons_toLoadRect (s := S3x2048x256),
      ↓ View.readCov_cons_toLoadRect (s := S2x2048x256), ↓ readCov_ld (s := S4x2048x128), ↓ readCov_ld (s := S4x80x2048), ↓ readCov_ld (s := S4x8x2048),
      ↓ View.readAt_eq_ld, ↓ Memref.IsWhole.read_unread]
    all_goals sl_kernel_rfl
  refine piecesOf_cons ?_ ?_
  · refine Eq.trans (pair_congr ?_ ?_) (hG 3 1)
    all_goals simp (disch := decide) only [↓ readCov_apart (s := S3x2048x256), ↓ readCov_apart (s := S2x2048x256), ↓ View.readCov_cons_toLoadRect (s := S3x2048x256),
      ↓ View.readCov_cons_toLoadRect (s := S2x2048x256), ↓ readCov_ld (s := S4x2048x128), ↓ readCov_ld (s := S4x80x2048), ↓ readCov_ld (s := S4x8x2048),
      ↓ View.readAt_eq_ld, ↓ Memref.IsWhole.read_unread]
    all_goals sl_kernel_rfl
  refine piecesOf_cons ?_ ?_
  · refine Eq.trans (pair_congr ?_ ?_) (hG 3 0)
    all_goals simp (disch := decide) only [↓ readCov_apart (s := S3x2048x256), ↓ readCov_apart (s := S2x2048x256), ↓ View.readCov_cons_toLoadRect (s := S3x2048x256),
      ↓ View.readCov_cons_toLoadRect (s := S2x2048x256), ↓ readCov_ld (s := S4x2048x128), ↓ readCov_ld (s := S4x80x2048), ↓ readCov_ld (s := S4x8x2048),
      ↓ View.readAt_eq_ld, ↓ Memref.IsWhole.read_unread]
    all_goals sl_kernel_rfl
  refine piecesOf_cons ?_ ?_
  · refine Eq.trans (pair_congr ?_ ?_) (hG 4 1)
    all_goals simp (disch := decide) only [↓ readCov_apart (s := S3x2048x256), ↓ readCov_apart (s := S2x2048x256), ↓ View.readCov_cons_toLoadRect (s := S3x2048x256),
      ↓ View.readCov_cons_toLoadRect (s := S2x2048x256), ↓ readCov_ld (s := S4x2048x128), ↓ readCov_ld (s := S4x80x2048), ↓ readCov_ld (s := S4x8x2048),
      ↓ View.readAt_eq_ld, ↓ Memref.IsWhole.read_unread]
    all_goals sl_kernel_rfl
  refine piecesOf_cons ?_ ?_
  · refine Eq.trans (pair_congr ?_ ?_) (hG 4 0)
    all_goals simp (disch := decide) only [↓ readCov_apart (s := S3x2048x256), ↓ readCov_apart (s := S2x2048x256), ↓ View.readCov_cons_toLoadRect (s := S3x2048x256),
      ↓ View.readCov_cons_toLoadRect (s := S2x2048x256), ↓ readCov_ld (s := S4x2048x128), ↓ readCov_ld (s := S4x80x2048), ↓ readCov_ld (s := S4x8x2048),
      ↓ View.readAt_eq_ld, ↓ Memref.IsWhole.read_unread]
    all_goals sl_kernel_rfl
  refine piecesOf_cons ?_ ?_
  · refine Eq.trans (pair_congr ?_ ?_) (hG 5 1)
    all_goals simp (disch := decide) only [↓ readCov_apart (s := S3x2048x256), ↓ readCov_apart (s := S2x2048x256), ↓ View.readCov_cons_toLoadRect (s := S3x2048x256),
      ↓ View.readCov_cons_toLoadRect (s := S2x2048x256), ↓ readCov_ld (s := S4x2048x128), ↓ readCov_ld (s := S4x80x2048), ↓ readCov_ld (s := S4x8x2048),
      ↓ View.readAt_eq_ld, ↓ Memref.IsWhole.read_unread]
    all_goals sl_kernel_rfl
  refine piecesOf_cons ?_ ?_
  · refine Eq.trans (pair_congr ?_ ?_) (hG 5 0)
    all_goals simp (disch := decide) only [↓ readCov_apart (s := S3x2048x256), ↓ readCov_apart (s := S2x2048x256), ↓ View.readCov_cons_toLoadRect (s := S3x2048x256),
      ↓ View.readCov_cons_toLoadRect (s := S2x2048x256), ↓ readCov_ld (s := S4x2048x128), ↓ readCov_ld (s := S4x80x2048), ↓ readCov_ld (s := S4x8x2048),
      ↓ View.readAt_eq_ld, ↓ Memref.IsWhole.read_unread]
    all_goals sl_kernel_rfl
  refine piecesOf_cons ?_ ?_
  · refine Eq.trans (pair_congr ?_ ?_) (hG 6 1)
    all_goals simp (disch := decide) only [↓ readCov_apart (s := S3x2048x256), ↓ readCov_apart (s := S2x2048x256), ↓ View.readCov_cons_toLoadRect (s := S3x2048x256),
      ↓ View.readCov_cons_toLoadRect (s := S2x2048x256), ↓ readCov_ld (s := S4x2048x128), ↓ readCov_ld (s := S4x80x2048), ↓ readCov_ld (s := S4x8x2048),
      ↓ View.readAt_eq_ld, ↓ Memref.IsWhole.read_unread]
    all_goals sl_kernel_rfl
  refine piecesOf_cons ?_ ?_
  · refine Eq.trans (pair_congr ?_ ?_) (hG 6 0)
    all_goals simp (disch := decide) only [↓ readCov_apart (s := S3x2048x256), ↓ readCov_apart (s := S2x2048x256), ↓ View.readCov_cons_toLoadRect (s := S3x2048x256),
      ↓ View.readCov_cons_toLoadRect (s := S2x2048x256), ↓ readCov_ld (s := S4x2048x128), ↓ readCov_ld (s := S4x80x2048), ↓ readCov_ld (s := S4x8x2048),
      ↓ View.readAt_eq_ld, ↓ Memref.IsWhole.read_unread]
    all_goals sl_kernel_rfl
  refine piecesOf_cons ?_ ?_
  · refine Eq.trans (pair_congr ?_ ?_) (hG 7 1)
    all_goals simp (disch := decide) only [↓ readCov_apart (s := S3x2048x256), ↓ readCov_apart (s := S2x2048x256), ↓ View.readCov_cons_toLoadRect (s := S3x2048x256),
      ↓ View.readCov_cons_toLoadRect (s := S2x2048x256), ↓ readCov_ld (s := S4x2048x128), ↓ readCov_ld (s := S4x80x2048), ↓ readCov_ld (s := S4x8x2048),
      ↓ View.readAt_eq_ld, ↓ Memref.IsWhole.read_unread]
    all_goals sl_kernel_rfl
  refine piecesOf_cons ?_ ?_
  · refine Eq.trans (pair_congr ?_ ?_) (hG 7 0)
    all_goals simp (disch := decide) only [↓ readCov_apart (s := S3x2048x256), ↓ readCov_apart (s := S2x2048x256), ↓ View.readCov_cons_toLoadRect (s := S3x2048x256),
      ↓ View.readCov_cons_toLoadRect (s := S2x2048x256), ↓ readCov_ld (s := S4x2048x128), ↓ readCov_ld (s := S4x80x2048), ↓ readCov_ld (s := S4x8x2048),
      ↓ View.readAt_eq_ld, ↓ Memref.IsWhole.read_unread]
    all_goals sl_kernel_rfl
  exact trivial

end Moba

end
-- ==== Proof.Rank.lean ====
/- The place of an entry in a stable descending sort is the number of entries ahead of it. -/
module

public import Idealize.ShloMosaic.Lib.SortFacts

@[expose] public section

namespace Moba

open Idealize.ShloMosaic

variable {α : Type} [LinearOrder α]

/-- Entry `a` comes ahead of entry `b`: its key is greater, or the keys are equal and `a` has the lower index. -/
def Ahead {n : Nat} (g : Fin n → α) (a b : Fin n) : Prop := g b < g a ∨ (g a = g b ∧ a < b)

instance {n : Nat} (g : Fin n → α) (a b : Fin n) : Decidable (Ahead g a b) := by unfold Ahead; infer_instance

theorem Ahead.trans {n : Nat} {g : Fin n → α} {a b c : Fin n} (h : Ahead g a b) (k : Ahead g b c) : Ahead g a c := by
  rcases h with h | ⟨h, h'⟩ <;> rcases k with k | ⟨k, k'⟩
  · exact .inl (k.trans h)
  · exact .inl (k ▸ h)
  · exact .inl (h ▸ k)
  · exact .inr ⟨h.trans k, h'.trans k'⟩

theorem Ahead.asymm {n : Nat} {g : Fin n → α} {a b : Fin n} (h : Ahead g a b) : ¬ Ahead g b a := by
  intro k
  have t := h.trans k
  rcases t with t | ⟨-, t⟩ <;> exact lt_irrefl _ t

theorem pairwise_insert {n : Nat} (g : Fin n → α) (before : Fin n → Fin n → Bool)
    (hb : ∀ a b, before a b = true ↔ g b < g a) (a : Fin n) (l : List (Fin n)) (hl : l.Pairwise (Ahead g))
    (ha : ∀ b ∈ l, a < b) : (insertBefore before a l).Pairwise (Ahead g) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore before a l).mem_iff.mp hc) with rfl | hc
      · exact .inl ((hb _ _).mp h)
      · exact hl.1 c hc
    · rename_i h
      have hab : Ahead g a b := by
        have h' : ¬ g a < g b := fun k => h ((hb _ _).mpr k)
        rcases lt_or_eq_of_le (not_lt.mp h') with k | k
        · exact .inl k
        · exact .inr ⟨k.symm, ha b List.mem_cons_self⟩
      refine List.pairwise_cons.mpr ⟨fun c hc => ?_, List.pairwise_cons.mpr hl⟩
      rcases List.mem_cons.mp hc with rfl | hc
      · exact hab
      · exact hab.trans (hl.1 c hc)

theorem pairwise_sorted {n : Nat} (g : Fin n → α) (before : Fin n → Fin n → Bool)
    (hb : ∀ a b, before a b = true ↔ g b < g a) (l : List (Fin n)) (hl : l.Pairwise (· < ·)) :
    (stableSort before l).Pairwise (Ahead g) := by
  induction l with
  | nil => exact List.Pairwise.nil
  | cons a l ih =>
    rw [List.pairwise_cons] at hl
    unfold stableSort
    exact pairwise_insert g before hb a _ (ih hl.2) fun b hb' => hl.1 b ((perm_stableSort before l).mem_iff.mp hb')

theorem sortedFrom_ahead {n : Nat} (g : Fin n → α) (before : Fin n → Fin n → Bool)
    (hb : ∀ a b, before a b = true ↔ g b < g a) (i j : Fin n) (hij : i < j) :
    Ahead g (sortedFrom before i) (sortedFrom before j) := by
  have h := pairwise_sorted g before hb (List.finRange n) (List.pairwise_lt_finRange n)
  exact List.pairwise_iff_get.mp h (i.cast (length_sortPositions n before).symm)
    (j.cast (length_sortPositions n before).symm) hij

/-- An entry is among the first `k` of a stable descending sort exactly when fewer than `k` entries are ahead of it. -/
theorem mem_top_iff {n : Nat} (g : Fin n → α) (before : Fin n → Fin n → Bool)
    (hb : ∀ a b, before a b = true ↔ g b < g a) (k : Nat) (e : Fin n) :
    (∃ r : Fin n, r.val < k ∧ sortedFrom before r = e) ↔ (Finset.univ.filter fun m => Ahead g m e).card < k := by
  obtain ⟨p, rfl⟩ := sortedFrom_surjective before e
  have hset : (Finset.univ.filter fun m => Ahead g m (sortedFrom before p))
      = (Finset.Iio p).map ⟨sortedFrom before, sortedFrom_injective before⟩ := by
    ext m
    obtain ⟨q, rfl⟩ := sortedFrom_surjective before m
    simp only [Finset.mem_filter, Finset.mem_univ, true_and, Finset.mem_map, Finset.mem_Iio, Function.Embedding.coeFn_mk]
    constructor
    · intro h
      refine ⟨q, ?_, rfl⟩
      rcases lt_trichotomy q p with t | t | t
      · exact t
      · subst t; exact absurd h h.asymm
      · exact absurd h (sortedFrom_ahead g before hb p q t).asymm
    · rintro ⟨q', hq, h⟩
      rw [← h]
      exact sortedFrom_ahead g before hb q' p hq
  rw [hset, Finset.card_map, Fin.card_Iio]
  constructor
  · rintro ⟨r, hr, h⟩
    rw [← sortedFrom_injective before h]; exact hr
  · intro h; exact ⟨p, h, rfl⟩

end Moba

end
-- ==== Proof.Filled.lean ====
/- The three scratch buffers the kernel fills before its loop over the blocks of queries: each head's masked keys, its values over a row of ones, its selection. -/
module

public import proofs.«01_k».proof.Proof.Pieces
public import proofs.«01_k».proof.Proof.Rank
public import Idealize.ShloMosaic.Lib.Pointwise
public import Idealize.ShloMosaic.Lib.Pipeline.ValueKit.Tiles

@[expose] public section

set_option maxRecDepth 100000

noncomputable section

namespace Moba

open Cert.KernelIdeal Cert.KernelIdeal.Gen Idealize.ShloMosaic Idealize.ShloMosaic.TcCoe Idealize.SL.Sem

set_option maxHeartbeats 1000000

/-- Head `h`'s keys over the two heads' lanes: zero on the lanes of the other head. -/
def keysOf (x2 : Vec Ideal S1x2048x256 .bf16) : Vec Ideal S4x2048x128 .bf16 := fun y =>
  if (y 2).val / 64 = (y 0).val % 2 then x2 (ix3 0 ⟨(y 1).val, (y 1).isLt⟩ ⟨128 * ((y 0).val / 2) + (y 2).val, by
    have h0 : (y 0).val < 4 := (y 0).isLt
    have h2 : (y 2).val < 128 := (y 2).isLt
    omega⟩) else 0

/-- Head `h`'s values, a row of ones under them, and rows of zeros. -/
def valuesOf (x3 : Vec Ideal S1x256x2048 .bf16) : Vec Ideal S4x80x2048 .bf16 := fun y =>
  if h : (y 1).val < 64 then x3 (ix3 0 ⟨64 * (y 0).val + (y 1).val, by
    have h0 : (y 0).val < 4 := (y 0).isLt
    omega⟩ ⟨(y 2).val, (y 2).isLt⟩) else if (y 1).val = 64 then 1 else 0

/-- How query `t` scores the block `n` of keys that lies before its own; `⊥` for any other block. -/
def gateOf (x1 : Vec Ideal S1x2048x256 .bf16) (x4 : Vec Ideal S1x8x256 .f32) (h : Fin 4) (t : Fin 2048) (n : Fin 8) : EReal :=
  if n.val < t.val / 256 then ∑ l : Fin 128, (if l.val / 64 = h.val % 2 then x4 (ix3 0 n ⟨128 * (h.val / 2) + l.val, by omega⟩) else 0)
    * x1 (ix3 0 t ⟨128 * (h.val / 2) + l.val, by omega⟩) else ⊥

/-- `0` on the blocks query `t` selects, `⊥` on the others: the blocks before its own, and from position 1024 on only the three that score best. -/
def maskOf (x1 : Vec Ideal S1x2048x256 .bf16) (x4 : Vec Ideal S1x8x256 .f32) : Vec Ideal S4x8x2048 .f32 := fun y =>
  if (y 1).val < (y 2).val / 256 ∧ (1024 ≤ (y 2).val → (Finset.univ.filter fun m => Ahead (gateOf x1 x4 ⟨(y 0).val, (y 0).isLt⟩ ⟨(y 2).val, (y 2).isLt⟩) m ⟨(y 1).val, (y 1).isLt⟩).card < 3) then 0 else ⊥

theorem lanes_lo (x : Fin 128) : IntOp.andi (IntOp.cmpi CmpIPredicate.sge (BitVec.ofNat 32 x.val) 0#32) (IntOp.cmpi CmpIPredicate.slt (BitVec.ofNat 32 x.val) 64#32)
    = BitVec.ofBool (decide (x.val / 64 = 0)) := by
  revert x; decide +kernel

theorem lanes_hi (x : Fin 128) : IntOp.andi (IntOp.cmpi CmpIPredicate.sge (BitVec.ofNat 32 x.val) 64#32) (IntOp.cmpi CmpIPredicate.slt (BitVec.ofNat 32 x.val) 128#32)
    = BitVec.ofBool (decide (x.val / 64 = 1)) := by
  revert x; decide +kernel

theorem past_lo' : ∀ (a : Fin 8) (b : Fin 1024), IntOp.cmpi CmpIPredicate.slt (BitVec.ofNat 32 a.val) (IntOp.shrsi ArithUnit.vector (BitVec.ofNat 32 b.val) 8#32)
    = BitVec.ofBool (decide (a.val < b.val / 256)) := by
  decide +kernel

theorem past_hi' : ∀ (a : Fin 8) (b : Fin 1024), IntOp.cmpi CmpIPredicate.slt (BitVec.ofNat 32 a.val) (IntOp.shrsi ArithUnit.vector (IntOp.addi (BitVec.ofNat 32 b.val) 1024#32) 8#32)
    = BitVec.ofBool (decide (a.val < (1024 + b.val) / 256)) := by
  decide +kernel

theorem past_lo (k : ℕ) (hk : k < 8) (b : Fin 1024) : IntOp.cmpi CmpIPredicate.slt (BitVec.ofNat 32 k) (IntOp.shrsi ArithUnit.vector (BitVec.ofNat 32 b.val) 8#32)
    = BitVec.ofBool (decide (k < b.val / 256)) := past_lo' ⟨k, hk⟩ b

theorem past_hi (k : ℕ) (hk : k < 8) (b : Fin 1024) : IntOp.cmpi CmpIPredicate.slt (BitVec.ofNat 32 k) (IntOp.shrsi ArithUnit.vector (IntOp.addi (BitVec.ofNat 32 b.val) 1024#32) 8#32)
    = BitVec.ofBool (decide (k < (1024 + b.val) / 256)) := past_hi' ⟨k, hk⟩ b

theorem one_word (k : Fin 16) : FloatOps.sitofp (F := Ideal) FTy.f32 (BitVec.setWidth 32 (IntOp.cmpi CmpIPredicate.eq (BitVec.ofNat 32 k.val) 0#32)) = if 64 + k.val = 64 then 1 else 0 := by
  have h : ∀ k : Fin 16, BitVec.setWidth 32 (IntOp.cmpi CmpIPredicate.eq (BitVec.ofNat 32 k.val) 0#32) = if 64 + k.val = 64 then 1#32 else 0#32 := by decide +kernel
  rw [h]
  split <;> simp [FloatOps.sitofp]

theorem select_decide {α : Type} (p : Prop) [Decidable p] (a b : α) : Scalar.select (BitVec.ofBool (decide p)) a b = if p then a else b := by
  by_cases h : p <;> simp [h, Scalar.select]

/-- One comparison of the count: block `j` is ahead of block `n`. -/
theorem ahead_word (g : Fin 8 → EReal) (n j : Fin 8) :
    BitVec.setWidth 32 (IntOp.ori (BitVec.ofBool (decide (g n < g j))) (IntOp.andi (BitVec.ofBool (decide (g j = g n))) (IntOp.cmpi CmpIPredicate.sgt (BitVec.ofNat 32 n.val) (BitVec.ofNat 32 j.val))))
      = if Ahead g j n then 1#32 else 0#32 := by
  have hw : ∀ n j : Fin 8, IntOp.cmpi CmpIPredicate.sgt (BitVec.ofNat 32 n.val) (BitVec.ofNat 32 j.val) = BitVec.ofBool (decide (j < n)) := by decide +kernel
  rw [hw]
  unfold Ahead
  by_cases h1 : g n < g j <;> by_cases h2 : g j = g n <;> by_cases h3 : j < n <;> simp [h1, h2, h3, IntOp.ori, IntOp.andi] <;> simp_all

theorem count_word (q : Fin 8 → Prop) [DecidablePred q] :
    IntOp.cmpi CmpIPredicate.slt (IntOp.addi (IntOp.addi (IntOp.addi (IntOp.addi (IntOp.addi (IntOp.addi (IntOp.addi (IntOp.addi 0#32 (if q 0 then 1#32 else 0#32)) (if q 1 then 1#32 else 0#32))
      (if q 2 then 1#32 else 0#32)) (if q 3 then 1#32 else 0#32)) (if q 4 then 1#32 else 0#32)) (if q 5 then 1#32 else 0#32)) (if q 6 then 1#32 else 0#32)) (if q 7 then 1#32 else 0#32)) 3#32
      = BitVec.ofBool (decide ((Finset.univ.filter q).card < 3)) := by
  have hb : ∀ f : Fin 8 → Bool, IntOp.cmpi CmpIPredicate.slt (IntOp.addi (IntOp.addi (IntOp.addi (IntOp.addi (IntOp.addi (IntOp.addi (IntOp.addi (IntOp.addi 0#32 (if f 0 = true then 1#32 else 0#32)) (if f 1 = true then 1#32 else 0#32))
      (if f 2 = true then 1#32 else 0#32)) (if f 3 = true then 1#32 else 0#32)) (if f 4 = true then 1#32 else 0#32)) (if f 5 = true then 1#32 else 0#32)) (if f 6 = true then 1#32 else 0#32)) (if f 7 = true then 1#32 else 0#32)) 3#32
      = BitVec.ofBool (decide ((Finset.univ.filter fun j => f j = true).card < 3)) := by
    decide +kernel
  simpa using hb (fun j => decide (q j))

/-- The selection of one block at a position of the upper half, as the kernel counts it. -/
theorem select_word (g : Fin 8 → EReal) (n : Fin 8) (p : Prop) [Decidable p] (w : BitVec 1) (hw : w = BitVec.ofBool (decide p)) (a b : EReal) :
    Scalar.select (IntOp.andi w (IntOp.cmpi CmpIPredicate.slt
      (IntOp.addi (IntOp.addi (IntOp.addi (IntOp.addi (IntOp.addi (IntOp.addi (IntOp.addi (IntOp.addi 0#32
        (BitVec.setWidth 32 (IntOp.ori (BitVec.ofBool (decide (g n < g 0))) (IntOp.andi (BitVec.ofBool (decide (g 0 = g n))) (IntOp.cmpi CmpIPredicate.sgt (BitVec.ofNat 32 n.val) 0#32)))))
        (BitVec.setWidth 32 (IntOp.ori (BitVec.ofBool (decide (g n < g 1))) (IntOp.andi (BitVec.ofBool (decide (g 1 = g n))) (IntOp.cmpi CmpIPredicate.sgt (BitVec.ofNat 32 n.val) 1#32)))))
        (BitVec.setWidth 32 (IntOp.ori (BitVec.ofBool (decide (g n < g 2))) (IntOp.andi (BitVec.ofBool (decide (g 2 = g n))) (IntOp.cmpi CmpIPredicate.sgt (BitVec.ofNat 32 n.val) 2#32)))))
        (BitVec.setWidth 32 (IntOp.ori (BitVec.ofBool (decide (g n < g 3))) (IntOp.andi (BitVec.ofBool (decide (g 3 = g n))) (IntOp.cmpi CmpIPredicate.sgt (BitVec.ofNat 32 n.val) 3#32)))))
        (BitVec.setWidth 32 (IntOp.ori (BitVec.ofBool (decide (g n < g 4))) (IntOp.andi (BitVec.ofBool (decide (g 4 = g n))) (IntOp.cmpi CmpIPredicate.sgt (BitVec.ofNat 32 n.val) 4#32)))))
        (BitVec.setWidth 32 (IntOp.ori (BitVec.ofBool (decide (g n < g 5))) (IntOp.andi (BitVec.ofBool (decide (g 5 = g n))) (IntOp.cmpi CmpIPredicate.sgt (BitVec.ofNat 32 n.val) 5#32)))))
        (BitVec.setWidth 32 (IntOp.ori (BitVec.ofBool (decide (g n < g 6))) (IntOp.andi (BitVec.ofBool (decide (g 6 = g n))) (IntOp.cmpi CmpIPredicate.sgt (BitVec.ofNat 32 n.val) 6#32)))))
        (BitVec.setWidth 32 (IntOp.ori (BitVec.ofBool (decide (g n < g 7))) (IntOp.andi (BitVec.ofBool (decide (g 7 = g n))) (IntOp.cmpi CmpIPredicate.sgt (BitVec.ofNat 32 n.val) 7#32))))) 3#32)) a b
      = if p ∧ (Finset.univ.filter fun m => Ahead g m n).card < 3 then a else b := by
  have h := count_word (fun j => Ahead g j n)
  rw [← ahead_word g n 0, ← ahead_word g n 1, ← ahead_word g n 2, ← ahead_word g n 3, ← ahead_word g n 4, ← ahead_word g n 5, ← ahead_word g n 6, ← ahead_word g n 7] at h
  refine (congrArg (fun z => Scalar.select (IntOp.andi w z) a b) h).trans ?_
  rw [hw]
  by_cases h1 : p <;> by_cases h2 : (Finset.univ.filter fun m => Ahead g m n).card < 3 <;> simp [h1, h2, IntOp.andi, Scalar.select]

theorem emb3 {A B C a b c : ℕ} (off : Fin 3 → ℕ) (inb) (x : Fin a) (y : Fin b) (z : Fin c) (hx : off 0 + x.val < A) (hy : off 1 + y.val < B) (hz : off 2 + z.val < C) :
    (Rect.unit (s := (⟨3, ![A, B, C]⟩ : Shape)) off (⟨3, ![a, b, c]⟩ : Shape).size inb).emb (ix3 x y z) = ix3 ⟨off 0 + x.val, hx⟩ ⟨off 1 + y.val, hy⟩ ⟨off 2 + z.val, hz⟩ := by
  funext d
  apply Fin.ext
  refine (Rect.emb_apply _ _ d).trans ?_
  fin_cases d <;> simp [ix3, Rect.unit]

theorem mask_eq : (Named.named (F := Ideal) κ "mask" (4048155338#32 : BitVec FTy.f32.bits) : Ideal .f32) = ⊥ :=
  IdealRules.named_const.ideal_named_scalar _ _ _ _ rfl

/-- The masked keys. -/
theorem kh_eq (c : Dev nD) (i : grid0.Coords) (arg2 : Memref sig .tc .smem S32x16 .f32) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x256x2048 .bf16) (harg5 : arg5.IsWhole) (arg6 : Memref sig .tc .vmem S1x8x256 .f32) (harg6 : arg6.IsWhole) (arg7 : Memref sig .tc .vmem S4x2x256x256 .f32) (harg7 : arg7.IsWhole) (arg8 : Memref sig .tc .vmem S1x2048x256 .bf16) (harg8 : arg8.IsWhole) (arg9 : Memref sig .tc .vmem S4x2048x128 .bf16) (harg9 : arg9.IsWhole) (arg10 : Memref sig .tc .vmem S4x80x2048 .bf16) (harg10 : arg10.IsWhole) (arg11 : Memref sig .tc .vmem S4x8x2048 .f32) (harg11 : arg11.IsWhole) (arg12 : Memref sig .tc .vmem S3x2048x256 .f32) (harg12 : arg12.IsWhole) (arg13 : Memref sig .tc .vmem S2x2048x256 .bf16) (harg13 : arg13.IsWhole)
    (x0 : Vec Ideal S32x16 .f32) (x1 : Vec Ideal S1x2048x256 .bf16) (x2 : Vec Ideal S1x2048x256 .bf16) (x3 : Vec Ideal S1x256x2048 .bf16) (x4 : Vec Ideal S1x8x256 .f32) (x5 : Vec Ideal S4x2x256x256 .f32) : View.canon (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5).2.1 = keysOf x2 := by
  funext y
  rw [← List.append_nil (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5).2.1]
  refine View.canon_append_of_piecesOf (keysOf x2) [] _ ?_ y (View.cover_of_tiledL (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5).2.1 S1x2048x128.size (by sl_kernel_rfl) y)
  unfold kernelRun0_A
  dsimp only
  sl_unfold_run_names
  refine piecesOf_cons ?_ ?_
  · simp only [↓ View.readAt_eq_ld, ↓ Memref.IsWhole.read_unread]
    unfold_payloads
    funext z
    idx_vars z
    rw [emb3 _ _ _ _ _ (by simp <;> omega) (by simp <;> omega) (by simp <;> omega)]
    pointwise [keysOf, lanes_hi, select_decide]
  refine piecesOf_cons ?_ ?_
  · simp only [↓ View.readAt_eq_ld, ↓ Memref.IsWhole.read_unread]
    unfold_payloads
    funext z
    idx_vars z
    rw [emb3 _ _ _ _ _ (by simp <;> omega) (by simp <;> omega) (by simp <;> omega)]
    pointwise [keysOf, lanes_lo, select_decide]
  refine piecesOf_cons ?_ ?_
  · simp only [↓ View.readAt_eq_ld, ↓ Memref.IsWhole.read_unread]
    unfold_payloads
    funext z
    idx_vars z
    rw [emb3 _ _ _ _ _ (by simp <;> omega) (by simp <;> omega) (by simp <;> omega)]
    pointwise [keysOf, lanes_hi, select_decide]
  refine piecesOf_cons ?_ ?_
  · simp only [↓ View.readAt_eq_ld, ↓ Memref.IsWhole.read_unread]
    unfold_payloads
    funext z
    idx_vars z
    rw [emb3 _ _ _ _ _ (by simp <;> omega) (by simp <;> omega) (by simp <;> omega)]
    pointwise [keysOf, lanes_lo, select_decide]
  exact trivial

theorem va_cover (c : Dev nD) (i : grid0.Coords) (arg2 : Memref sig .tc .smem S32x16 .f32) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x256x2048 .bf16) (harg5 : arg5.IsWhole) (arg6 : Memref sig .tc .vmem S1x8x256 .f32) (harg6 : arg6.IsWhole) (arg7 : Memref sig .tc .vmem S4x2x256x256 .f32) (harg7 : arg7.IsWhole) (arg8 : Memref sig .tc .vmem S1x2048x256 .bf16) (harg8 : arg8.IsWhole) (arg9 : Memref sig .tc .vmem S4x2048x128 .bf16) (harg9 : arg9.IsWhole) (arg10 : Memref sig .tc .vmem S4x80x2048 .bf16) (harg10 : arg10.IsWhole) (arg11 : Memref sig .tc .vmem S4x8x2048 .f32) (harg11 : arg11.IsWhole) (arg12 : Memref sig .tc .vmem S3x2048x256 .f32) (harg12 : arg12.IsWhole) (arg13 : Memref sig .tc .vmem S2x2048x256 .bf16) (harg13 : arg13.IsWhole)
    (x0 : Vec Ideal S32x16 .f32) (x1 : Vec Ideal S1x2048x256 .bf16) (x2 : Vec Ideal S1x2048x256 .bf16) (x3 : Vec Ideal S1x256x2048 .bf16) (x4 : Vec Ideal S1x8x256 .f32) (x5 : Vec Ideal S4x2x256x256 .f32) (y : S4x80x2048.Idx) : ∃ p ∈ (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5).2.2.1, y ∈ p.1.set := by
  have h0 : (y 0).val < 4 := (y 0).isLt
  have h1 : (y 1).val < 80 := (y 1).isLt
  have h2 : (y 2).val < 2048 := (y 2).isLt
  unfold kernelRun0_A
  dsimp only
  sl_unfold_run_names
  simp only [List.mem_cons, exists_eq_or_imp, Rect.mem_set_unit]
  simp [Fin.forall_fin_succ]
  omega

/-- The values and the row of ones. -/
theorem va_eq (c : Dev nD) (i : grid0.Coords) (arg2 : Memref sig .tc .smem S32x16 .f32) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x256x2048 .bf16) (harg5 : arg5.IsWhole) (arg6 : Memref sig .tc .vmem S1x8x256 .f32) (harg6 : arg6.IsWhole) (arg7 : Memref sig .tc .vmem S4x2x256x256 .f32) (harg7 : arg7.IsWhole) (arg8 : Memref sig .tc .vmem S1x2048x256 .bf16) (harg8 : arg8.IsWhole) (arg9 : Memref sig .tc .vmem S4x2048x128 .bf16) (harg9 : arg9.IsWhole) (arg10 : Memref sig .tc .vmem S4x80x2048 .bf16) (harg10 : arg10.IsWhole) (arg11 : Memref sig .tc .vmem S4x8x2048 .f32) (harg11 : arg11.IsWhole) (arg12 : Memref sig .tc .vmem S3x2048x256 .f32) (harg12 : arg12.IsWhole) (arg13 : Memref sig .tc .vmem S2x2048x256 .bf16) (harg13 : arg13.IsWhole)
    (x0 : Vec Ideal S32x16 .f32) (x1 : Vec Ideal S1x2048x256 .bf16) (x2 : Vec Ideal S1x2048x256 .bf16) (x3 : Vec Ideal S1x256x2048 .bf16) (x4 : Vec Ideal S1x8x256 .f32) (x5 : Vec Ideal S4x2x256x256 .f32) : View.canon (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5).2.2.1 = valuesOf x3 := by
  funext y
  rw [← List.append_nil (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5).2.2.1]
  refine View.canon_append_of_piecesOf (valuesOf x3) [] _ ?_ y (va_cover c i arg2 harg2 arg3 harg3 arg4 harg4 arg5 harg5 arg6 harg6 arg7 harg7 arg8 harg8 arg9 harg9 arg10 harg10 arg11 harg11 arg12 harg12 arg13 harg13 x0 x1 x2 x3 x4 x5 y)
  unfold kernelRun0_A
  dsimp only
  sl_unfold_run_names
  refine piecesOf_cons ?_ ?_
  · simp only [↓ View.readAt_eq_ld, ↓ Memref.IsWhole.read_unread]
    unfold_payloads
    funext z
    idx_vars z
    rw [emb3 _ _ _ _ _ (by simp <;> omega) (by simp <;> omega) (by simp <;> omega)]
    pointwise [valuesOf, one_word]
  refine piecesOf_cons ?_ ?_
  · simp only [↓ View.readAt_eq_ld, ↓ Memref.IsWhole.read_unread]
    unfold_payloads
    funext z
    idx_vars z
    rw [emb3 _ _ _ _ _ (by simp <;> omega) (by simp <;> omega) (by simp <;> omega)]
    pointwise [valuesOf, one_word]
  refine piecesOf_cons ?_ ?_
  · simp only [↓ View.readAt_eq_ld, ↓ Memref.IsWhole.read_unread]
    unfold_payloads
    funext z
    idx_vars z
    rw [emb3 _ _ _ _ _ (by simp <;> omega) (by simp <;> omega) (by simp <;> omega)]
    pointwise [valuesOf, one_word]
  refine piecesOf_cons ?_ ?_
  · simp only [↓ View.readAt_eq_ld, ↓ Memref.IsWhole.read_unread]
    unfold_payloads
    funext z
    idx_vars z
    rw [emb3 _ _ _ _ _ (by simp <;> omega) (by simp <;> omega) (by simp <;> omega)]
    pointwise [valuesOf, one_word]
  refine piecesOf_cons ?_ ?_
  · simp only [↓ View.readAt_eq_ld, ↓ Memref.IsWhole.read_unread]
    unfold_payloads
    funext z
    idx_vars z
    rw [emb3 _ _ _ _ _ (by simp <;> omega) (by simp <;> omega) (by simp <;> omega)]
    pointwise [valuesOf, one_word]
  refine piecesOf_cons ?_ ?_
  · simp only [↓ View.readAt_eq_ld, ↓ Memref.IsWhole.read_unread]
    unfold_payloads
    funext z
    idx_vars z
    rw [emb3 _ _ _ _ _ (by simp <;> omega) (by simp <;> omega) (by simp <;> omega)]
    pointwise [valuesOf, one_word]
  refine piecesOf_cons ?_ ?_
  · simp only [↓ View.readAt_eq_ld, ↓ Memref.IsWhole.read_unread]
    unfold_payloads
    funext z
    idx_vars z
    rw [emb3 _ _ _ _ _ (by simp <;> omega) (by simp <;> omega) (by simp <;> omega)]
    pointwise [valuesOf, one_word]
  refine piecesOf_cons ?_ ?_
  · simp only [↓ View.readAt_eq_ld, ↓ Memref.IsWhole.read_unread]
    unfold_payloads
    funext z
    idx_vars z
    rw [emb3 _ _ _ _ _ (by simp <;> omega) (by simp <;> omega) (by simp <;> omega)]
    pointwise [valuesOf, one_word]
  exact trivial

/-- The selection. -/
theorem md_eq (c : Dev nD) (i : grid0.Coords) (arg2 : Memref sig .tc .smem S32x16 .f32) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x256x2048 .bf16) (harg5 : arg5.IsWhole) (arg6 : Memref sig .tc .vmem S1x8x256 .f32) (harg6 : arg6.IsWhole) (arg7 : Memref sig .tc .vmem S4x2x256x256 .f32) (harg7 : arg7.IsWhole) (arg8 : Memref sig .tc .vmem S1x2048x256 .bf16) (harg8 : arg8.IsWhole) (arg9 : Memref sig .tc .vmem S4x2048x128 .bf16) (harg9 : arg9.IsWhole) (arg10 : Memref sig .tc .vmem S4x80x2048 .bf16) (harg10 : arg10.IsWhole) (arg11 : Memref sig .tc .vmem S4x8x2048 .f32) (harg11 : arg11.IsWhole) (arg12 : Memref sig .tc .vmem S3x2048x256 .f32) (harg12 : arg12.IsWhole) (arg13 : Memref sig .tc .vmem S2x2048x256 .bf16) (harg13 : arg13.IsWhole)
    (x0 : Vec Ideal S32x16 .f32) (x1 : Vec Ideal S1x2048x256 .bf16) (x2 : Vec Ideal S1x2048x256 .bf16) (x3 : Vec Ideal S1x256x2048 .bf16) (x4 : Vec Ideal S1x8x256 .f32) (x5 : Vec Ideal S4x2x256x256 .f32) : View.canon (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5).2.2.2.1 = maskOf x1 x4 := by
  funext y
  rw [← List.append_nil (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5).2.2.2.1]
  refine View.canon_append_of_piecesOf (maskOf x1 x4) [] _ ?_ y (View.cover_of_tiledL (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5).2.2.2.1 S1x8x1024.size (by sl_kernel_rfl) y)
  unfold kernelRun0_A
  dsimp only
  sl_unfold_run_names
  refine piecesOf_cons ?_ ?_
  · simp only [↓ View.readAt_eq_ld, ↓ Memref.IsWhole.read_unread]
    unfold_payloads
    funext z
    idx_vars z
    rw [emb3 _ _ _ _ _ (by simp <;> omega) (by simp <;> omega) (by simp <;> omega)]
    pointwise [maskOf, lanes_lo, lanes_hi, past_lo, past_hi, select_decide, mask_eq]
    have hg : gateOf x1 x4 3 ⟨1024 + z2.val, by omega⟩ = fun n => if n.val < (1024 + z2.val) / 256 then ∑ l : Fin 128,
        (if l.val / 64 = 1 then x4 (ix3 0 n ⟨128 + l.val, by omega⟩) else 0) * x1 (ix3 0 ⟨1024 + z2.val, by omega⟩ ⟨128 + l.val, by omega⟩) else ⊥ := by
      funext n
      simp [gateOf]
    rw [hg]
    refine (select_word (fun n => if n.val < (1024 + z2.val) / 256 then ∑ l : Fin 128,
        (if l.val / 64 = 1 then x4 (ix3 0 n ⟨128 + l.val, by omega⟩) else 0) * x1 (ix3 0 ⟨1024 + z2.val, by omega⟩ ⟨128 + l.val, by omega⟩) else ⊥) z1 _ _ rfl 0 ⊥).trans ?_
    simp
  refine piecesOf_cons ?_ ?_
  · simp only [↓ View.readAt_eq_ld, ↓ Memref.IsWhole.read_unread]
    unfold_payloads
    funext z
    idx_vars z
    rw [emb3 _ _ _ _ _ (by simp <;> omega) (by simp <;> omega) (by simp <;> omega)]
    pointwise [maskOf, lanes_lo, lanes_hi, past_lo, past_hi, select_decide, mask_eq]
    have hg : gateOf x1 x4 2 ⟨1024 + z2.val, by omega⟩ = fun n => if n.val < (1024 + z2.val) / 256 then ∑ l : Fin 128,
        (if l.val / 64 = 0 then x4 (ix3 0 n ⟨128 + l.val, by omega⟩) else 0) * x1 (ix3 0 ⟨1024 + z2.val, by omega⟩ ⟨128 + l.val, by omega⟩) else ⊥ := by
      funext n
      simp [gateOf]
    rw [hg]
    refine (select_word (fun n => if n.val < (1024 + z2.val) / 256 then ∑ l : Fin 128,
        (if l.val / 64 = 0 then x4 (ix3 0 n ⟨128 + l.val, by omega⟩) else 0) * x1 (ix3 0 ⟨1024 + z2.val, by omega⟩ ⟨128 + l.val, by omega⟩) else ⊥) z1 _ _ rfl 0 ⊥).trans ?_
    simp
  refine piecesOf_cons ?_ ?_
  · simp only [↓ View.readAt_eq_ld, ↓ Memref.IsWhole.read_unread]
    unfold_payloads
    funext z
    idx_vars z
    rw [emb3 _ _ _ _ _ (by simp <;> omega) (by simp <;> omega) (by simp <;> omega)]
    pointwise [maskOf, past_lo, select_decide, mask_eq]
    simp
  refine piecesOf_cons ?_ ?_
  · simp only [↓ View.readAt_eq_ld, ↓ Memref.IsWhole.read_unread]
    unfold_payloads
    funext z
    idx_vars z
    rw [emb3 _ _ _ _ _ (by simp <;> omega) (by simp <;> omega) (by simp <;> omega)]
    pointwise [maskOf, past_lo, select_decide, mask_eq]
    simp
  refine piecesOf_cons ?_ ?_
  · simp only [↓ View.readAt_eq_ld, ↓ Memref.IsWhole.read_unread]
    unfold_payloads
    funext z
    idx_vars z
    rw [emb3 _ _ _ _ _ (by simp <;> omega) (by simp <;> omega) (by simp <;> omega)]
    pointwise [maskOf, lanes_lo, lanes_hi, past_lo, past_hi, select_decide, mask_eq]
    have hg : gateOf x1 x4 1 ⟨1024 + z2.val, by omega⟩ = fun n => if n.val < (1024 + z2.val) / 256 then ∑ l : Fin 128,
        (if l.val / 64 = 1 then x4 (ix3 0 n ⟨l.val, by omega⟩) else 0) * x1 (ix3 0 ⟨1024 + z2.val, by omega⟩ ⟨l.val, by omega⟩) else ⊥ := by
      funext n
      simp [gateOf]
    rw [hg]
    refine (select_word (fun n => if n.val < (1024 + z2.val) / 256 then ∑ l : Fin 128,
        (if l.val / 64 = 1 then x4 (ix3 0 n ⟨l.val, by omega⟩) else 0) * x1 (ix3 0 ⟨1024 + z2.val, by omega⟩ ⟨l.val, by omega⟩) else ⊥) z1 _ _ rfl 0 ⊥).trans ?_
    simp
  refine piecesOf_cons ?_ ?_
  · simp only [↓ View.readAt_eq_ld, ↓ Memref.IsWhole.read_unread]
    unfold_payloads
    funext z
    idx_vars z
    rw [emb3 _ _ _ _ _ (by simp <;> omega) (by simp <;> omega) (by simp <;> omega)]
    pointwise [maskOf, lanes_lo, lanes_hi, past_lo, past_hi, select_decide, mask_eq]
    have hg : gateOf x1 x4 0 ⟨1024 + z2.val, by omega⟩ = fun n => if n.val < (1024 + z2.val) / 256 then ∑ l : Fin 128,
        (if l.val / 64 = 0 then x4 (ix3 0 n ⟨l.val, by omega⟩) else 0) * x1 (ix3 0 ⟨1024 + z2.val, by omega⟩ ⟨l.val, by omega⟩) else ⊥ := by
      funext n
      simp [gateOf]
    rw [hg]
    refine (select_word (fun n => if n.val < (1024 + z2.val) / 256 then ∑ l : Fin 128,
        (if l.val / 64 = 0 then x4 (ix3 0 n ⟨l.val, by omega⟩) else 0) * x1 (ix3 0 ⟨1024 + z2.val, by omega⟩ ⟨l.val, by omega⟩) else ⊥) z1 _ _ rfl 0 ⊥).trans ?_
    simp
  refine piecesOf_cons ?_ ?_
  · simp only [↓ View.readAt_eq_ld, ↓ Memref.IsWhole.read_unread]
    unfold_payloads
    funext z
    idx_vars z
    rw [emb3 _ _ _ _ _ (by simp <;> omega) (by simp <;> omega) (by simp <;> omega)]
    pointwise [maskOf, past_lo, select_decide, mask_eq]
    simp
  refine piecesOf_cons ?_ ?_
  · simp only [↓ View.readAt_eq_ld, ↓ Memref.IsWhole.read_unread]
    unfold_payloads
    funext z
    idx_vars z
    rw [emb3 _ _ _ _ _ (by simp <;> omega) (by simp <;> omega) (by simp <;> omega)]
    pointwise [maskOf, past_lo, select_decide, mask_eq]
    simp
  exact trivial

end Moba
-- ==== Proof.Closed.lean ====
/- The terms of `Term.lean` read at an index: sums over the lanes and over the keys, the maxima, the quotient. -/
module

public import proofs.«01_k».proof.Proof.Term
public import Idealize.ShloMosaic.Lib.Pointwise
public import Idealize.ShloMosaic.Lib.Pipeline.ValueKit.Tiles

@[expose] public section

set_option maxRecDepth 16384

noncomputable section

namespace Moba

open Cert.KernelIdeal Cert.KernelIdeal.Gen Idealize.ShloMosaic Idealize.ShloMosaic.TcCoe Idealize.SL.Sem

variable (KH : Vec Ideal S4x2048x128 .bf16) (VA : Vec Ideal S4x80x2048 .bf16) (MD : Vec Ideal S4x8x2048 .f32) (x1 : Vec Ideal S1x2048x256 .bf16)
  (x5 : Vec Ideal S4x2x256x256 .f32) (fb : Fin 4 → Ideal .f32)

/-- A product of two blocks, keys along the rows and queries along the columns. -/
theorem scores_apply (K Q : Vec Ideal S1x256x128 .bf16) (a c : Fin 256) : matmul dot_S256x128_S256x128_S256x256_1_1_0_0_n_n none
    (shapeCast S256x128 K shapeCasts_S1x256x128_S256x128 : FVec Ideal S256x128 .bf16) (shapeCast S256x128 Q shapeCasts_S1x256x128_S256x128 : FVec Ideal S256x128 .bf16)
    (constant S256x256 .f32 0x00000000#32) (ix2 a c) = ∑ l : Fin 128, K (ix3 0 a l) * Q (ix3 0 c l) := by
  pointwise

theorem recast_apply {φ : FTy} (T : FVec Ideal S256x256 φ) (x : S256x256.Idx) :
    shapeCast S256x256 (shapeCast S1x256x256 T shapeCasts_S256x256_S1x256x256) shapeCasts_S1x256x256_S256x256 x = T x := by
  pointwise

theorem nearBias_apply (B : Vec Ideal S1x1x256x256 .f32) (a c : Fin 256) :
    (shapeCast S256x256 B shapeCasts_S1x1x256x256_S256x256 : FVec Ideal S256x256 .f32) (ix2 a c) = B (ix4 0 0 a c) := by
  pointwise

theorem values_apply (V : Vec Ideal S1x80x256 .bf16) (w : FVec Ideal S256x256 .bf16) (r : Fin 80) (c : Fin 256) :
    matmul dot_S80x256_S256x256_S80x256_1_0_0_1_n_n none (shapeCast S80x256 V shapeCasts_S1x80x256_S80x256 : FVec Ideal S80x256 .bf16) w
      (constant S80x256 .f32 0x00000000#32) (ix2 r c) = ∑ a : Fin 256, V (ix3 0 r a) * w (ix2 a c) := by
  pointwise

theorem ld_kh (h : Fin 4) (j : Fin 8) (a : Fin 256) (l : Fin 128) :
    (View.ld KH (Rect.unit (s := S4x2048x128) ![h.val, 256 * j.val, 0] S1x256x128.size (inb_kh h j)) : Vec Ideal S1x256x128 .bf16) (ix3 0 a l)
    = KH (ix3 h ⟨256 * j.val + a.val, by omega⟩ l) := by
  refine View.ld_unit_apply_of KH _ _ _ _ _ ?_
  intro b; fin_cases b <;> simp [ix3]

theorem ld_q (i : Fin 8) (hp : Fin 2) (c : Fin 256) (l : Fin 128) :
    (View.ld x1 (Rect.unit (s := S1x2048x256) ![0, 256 * i.val, 128 * hp.val] S1x256x128.size (inb_q i hp)) : Vec Ideal S1x256x128 .bf16) (ix3 0 c l)
    = x1 (ix3 0 ⟨256 * i.val + c.val, by omega⟩ ⟨128 * hp.val + l.val, by omega⟩) := by
  refine View.ld_unit_apply_of x1 _ _ _ _ _ ?_
  intro b; fin_cases b <;> simp [ix3]

theorem ld_bias (h : Fin 4) (n : ℕ) (a c : Fin 256) :
    (View.ld x5 (Rect.unit (s := S4x2x256x256) ![h.val, n % 2, 0, 0] S1x1x256x256.size (inb_bias h n)) : Vec Ideal S1x1x256x256 .f32) (ix4 0 0 a c)
    = x5 (ix4 h ⟨n % 2, by omega⟩ a c) := by
  refine View.ld_unit_apply_of x5 _ _ _ _ _ ?_
  intro b; fin_cases b <;> simp [ix4]

theorem ld_va (h : Fin 4) (j : Fin 8) (r : Fin 80) (a : Fin 256) :
    (View.ld VA (Rect.unit (s := S4x80x2048) ![h.val, 0, 256 * j.val] S1x80x256.size (inb_va h j)) : Vec Ideal S1x80x256 .bf16) (ix3 0 r a)
    = VA (ix3 h r ⟨256 * j.val + a.val, by omega⟩) := by
  refine View.ld_unit_apply_of VA _ _ _ _ _ ?_
  intro b; fin_cases b <;> simp [ix3]

theorem tile_apply (h : Fin 4) (i j : Fin 8) (a c : Fin 256) : tile KH x1 h i j (ix2 a c)
    = ∑ l : Fin 128, KH (ix3 h ⟨256 * j.val + a.val, by omega⟩ l) * x1 (ix3 0 ⟨256 * i.val + c.val, by omega⟩ ⟨128 * (h.val / 2) + l.val, by omega⟩) := by
  refine (recast_apply _ _).trans ((scores_apply _ _ a c).trans (Finset.sum_congr rfl fun l _ => ?_))
  exact congrArg₂ _ (ld_kh KH h j a l) (ld_q x1 i (laneBlock h) c l)

theorem biasedTile_apply (h : Fin 4) (i j : Fin 8) (a c : Fin 256) : biasedTile KH x1 x5 h i j (ix2 a c)
    = if i.val ≤ j.val + 1 then tile KH x1 h i j (ix2 a c) + x5 (ix4 h ⟨(i.val - j.val) % 2, by omega⟩ a c) else tile KH x1 h i j (ix2 a c) := by
  unfold biasedTile
  split
  · exact congrArg (tile KH x1 h i j (ix2 a c) + ·) ((nearBias_apply _ a c).trans (ld_bias x5 h _ a c))
  · rfl

theorem offset_apply (h : Fin 4) (i j : Fin 8) (c : Fin 256) : offset MD fb h i j (ix2 0 c)
    = if j.val + 1 = i.val then MD (ix3 h j ⟨256 * i.val + c.val, by omega⟩) else MD (ix3 h j ⟨256 * i.val + c.val, by omega⟩) + fb h := by
  unfold offset
  split <;> pointwise

theorem ofBits_ninf : Ideal.ofBits FTy.f32 0xFF800000#32 = ⊥ := by
  simp [Ideal.ofBits, Ideal.ieee]

theorem fold_max {n : ℕ} (f : Fin n → EReal) : (Finset.univ : Finset (Fin n)).fold max (Ideal.ofBits FTy.f32 0xFF800000#32) f = Finset.univ.sup f := by
  rw [ofBits_ninf]; rfl

theorem tileMax_apply (h : Fin 4) (i j : Fin 8) (a : Fin 8) (c : Fin 256) : tileMax KH MD x1 x5 fb h i j (ix2 a c)
    = (Finset.univ.sup fun k : Fin 32 => (biasedTile KH x1 x5 h i j (ix2 ⟨k.val * 8 + a.val, by omega⟩ c) : EReal))
      + if j = i then 0 else offset MD fb h i j (ix2 0 c) := by
  unfold tileMax
  generalize biasedTile KH x1 x5 h i j = T
  generalize offset MD fb h i j = o
  dsimp only
  split
  · pointwise
    simp only [fold_max, add_zero]
  · pointwise
    simp only [fold_max]

theorem colMax_apply (h : Fin 4) (i : Fin 8) (c : Fin 256) : colMax KH MD x1 x5 fb h i (ix2 0 c)
    = Finset.univ.sup fun a : Fin 8 => (runMax KH MD x1 x5 fb h i i.val i.isLt (ix2 a c) : EReal) := by
  unfold colMax
  generalize runMax KH MD x1 x5 fb h i i.val i.isLt = m
  pointwise
  simp only [fold_max]

theorem weights_apply (h : Fin 4) (i j : Fin 8) (a c : Fin 256) : weights KH MD x1 x5 fb h i j (ix2 a c)
    = Ideal.exp2 (biasedTile KH x1 x5 h i j (ix2 a c) - if j = i then colMax KH MD x1 x5 fb h i (ix2 0 c) else colMax KH MD x1 x5 fb h i (ix2 0 c) - offset MD fb h i j (ix2 0 c)) := by
  unfold weights
  generalize biasedTile KH x1 x5 h i j = T
  generalize offset MD fb h i j = o
  generalize colMax KH MD x1 x5 fb h i = m
  split <;> pointwise <;> rfl

theorem partValues_apply (h : Fin 4) (i j : Fin 8) (r : Fin 80) (c : Fin 256) : partValues KH VA MD x1 x5 fb h i j (ix2 r c)
    = ∑ a : Fin 256, VA (ix3 h r ⟨256 * j.val + a.val, by omega⟩) * weights KH MD x1 x5 fb h i j (ix2 a c) := by
  exact (values_apply _ _ r c).trans (Finset.sum_congr rfl fun a _ => congrArg₂ _ (ld_va VA h j r a) rfl)

theorem headOut_apply (h : Fin 4) (i : Fin 8) (d : Fin 64) (c : Fin 256) : headOut KH VA MD x1 x5 fb h i (ix2 d c)
    = Ideal.div (runValues KH VA MD x1 x5 fb h i i.val i.isLt (ix2 ⟨d.val, by omega⟩ c)) (runValues KH VA MD x1 x5 fb h i i.val i.isLt (ix2 64 c)) := by
  unfold headOut
  generalize runValues KH VA MD x1 x5 fb h i i.val i.isLt = o
  pointwise

theorem pairOut_apply (i : Fin 8) (hp : Fin 2) (a : Fin 256) (l : Fin 128) : pairOut KH VA MD x1 x5 fb i hp (ix3 0 a l)
    = headOut KH VA MD x1 x5 fb ⟨2 * hp.val + l.val / 64, by omega⟩ i (ix2 ⟨l.val % 64, by omega⟩ a) := by
  unfold pairOut
  generalize headOut KH VA MD x1 x5 fb = o
  pointwise
  split
  · rename_i hl
    congr 3 <;> omega
  · rename_i hl
    congr 3 <;> omega

/-- The running sums are sums. -/
theorem runValues_apply (h : Fin 4) (i : Fin 8) (n : ℕ) (hn : n < 8) (r : Fin 80) (c : Fin 256) : runValues KH VA MD x1 x5 fb h i n hn (ix2 r c)
    = ∑ j : Fin 8, if j.val ≤ n then (partValues KH VA MD x1 x5 fb h i j (ix2 r c) : EReal) else 0 := by
  induction n with
  | zero =>
    rw [Finset.sum_eq_single (⟨0, hn⟩ : Fin 8)]
    · rfl
    · intro j _ hj
      rw [if_neg]; intro h0; exact hj (Fin.ext (by simpa using h0))
    · intro hh; exact absurd (Finset.mem_univ _) hh
  | succ n ih =>
    show (runValues KH VA MD x1 x5 fb h i n (by omega) (ix2 r c) : EReal) + partValues KH VA MD x1 x5 fb h i ⟨n + 1, hn⟩ (ix2 r c) = _
    rw [ih (by omega)]
    have e : (partValues KH VA MD x1 x5 fb h i ⟨n + 1, hn⟩ (ix2 r c) : EReal)
        = ∑ j : Fin 8, if j = ⟨n + 1, hn⟩ then (partValues KH VA MD x1 x5 fb h i j (ix2 r c) : EReal) else 0 := by
      rw [Finset.sum_ite_eq' Finset.univ, if_pos (Finset.mem_univ _)]
    rw [e, ← Finset.sum_add_distrib]
    refine Finset.sum_congr rfl fun j _ => ?_
    by_cases hj : j = ⟨n + 1, hn⟩
    · rw [if_pos hj, if_neg (by rw [hj]; simp), if_pos (by rw [hj]), zero_add]
    · have : j.val ≠ n + 1 := fun e => hj (Fin.ext e)
      rw [if_neg hj, add_zero]
      by_cases hjn : j.val ≤ n
      · rw [if_pos hjn, if_pos (by omega)]
      · rw [if_neg hjn, if_neg (by omega)]

/-- The running maxima are the greatest of the tiles' maxima. -/
theorem runMax_apply (h : Fin 4) (i : Fin 8) (n : ℕ) (hn : n < 8) (a : Fin 8) (c : Fin 256) : IsGreatest
    {y : EReal | ∃ j : Fin 8, j.val ≤ n ∧ y = tileMax KH MD x1 x5 fb h i j (ix2 a c)} (runMax KH MD x1 x5 fb h i n hn (ix2 a c)) := by
  induction n with
  | zero =>
    refine ⟨⟨⟨0, hn⟩, le_rfl, rfl⟩, ?_⟩
    rintro y ⟨j, hj, rfl⟩
    have : j = ⟨0, hn⟩ := Fin.ext (by simpa using hj)
    rw [this]; exact le_refl _
  | succ n ih =>
    obtain ⟨⟨j, hj, e⟩, hu⟩ := ih (by omega)
    have e' : runMax KH MD x1 x5 fb h i (n + 1) hn (ix2 a c) = max (runMax KH MD x1 x5 fb h i n (by omega) (ix2 a c) : EReal) (tileMax KH MD x1 x5 fb h i ⟨n + 1, hn⟩ (ix2 a c)) := rfl
    rw [e']
    constructor
    · rcases max_choice (runMax KH MD x1 x5 fb h i n (by omega) (ix2 a c) : EReal) (tileMax KH MD x1 x5 fb h i ⟨n + 1, hn⟩ (ix2 a c)) with hm | hm
      · exact ⟨j, by omega, hm.trans e⟩
      · exact ⟨⟨n + 1, hn⟩, le_rfl, hm⟩
    · rintro y ⟨j', hj', rfl⟩
      by_cases hjn : j'.val ≤ n
      · exact (hu ⟨j', hjn, rfl⟩).trans (le_max_left _ _)
      · have : j' = ⟨n + 1, hn⟩ := Fin.ext (by simp; omega)
        rw [this]; exact le_max_right _ _

/-- The column maximum is the greatest logit of the column. -/
theorem colMax_isGreatest (h : Fin 4) (i : Fin 8) (c : Fin 256) : IsGreatest
    {y : EReal | ∃ (j : Fin 8) (a : Fin 256), j.val ≤ i.val ∧ y = biasedTile KH x1 x5 h i j (ix2 a c) + if j = i then 0 else offset MD fb h i j (ix2 0 c)}
    (colMax KH MD x1 x5 fb h i (ix2 0 c)) := by
  rw [colMax_apply]
  constructor
  · obtain ⟨a, _, ha⟩ := Finset.exists_mem_eq_sup (Finset.univ : Finset (Fin 8)) ⟨0, Finset.mem_univ _⟩
      (fun a : Fin 8 => (runMax KH MD x1 x5 fb h i i.val i.isLt (ix2 a c) : EReal))
    obtain ⟨⟨j, hj, e⟩, -⟩ := runMax_apply KH MD x1 x5 fb h i i.val i.isLt a c
    obtain ⟨k, _, hk⟩ := Finset.exists_mem_eq_sup (Finset.univ : Finset (Fin 32)) ⟨0, Finset.mem_univ _⟩
      (fun k : Fin 32 => (biasedTile KH x1 x5 h i j (ix2 ⟨k.val * 8 + a.val, by omega⟩ c) : EReal))
    refine ⟨j, ⟨k.val * 8 + a.val, by omega⟩, hj, ?_⟩
    rw [ha, e, tileMax_apply, hk]
  · rintro y ⟨j, a, hj, rfl⟩
    have h1 : (runMax KH MD x1 x5 fb h i i.val i.isLt (ix2 ⟨a.val % 8, by omega⟩ c) : EReal)
        ≤ Finset.univ.sup fun a : Fin 8 => (runMax KH MD x1 x5 fb h i i.val i.isLt (ix2 a c) : EReal) :=
      Finset.le_sup (f := fun a : Fin 8 => (runMax KH MD x1 x5 fb h i i.val i.isLt (ix2 a c) : EReal)) (Finset.mem_univ _)
    refine le_trans (le_trans ?_ ((runMax_apply KH MD x1 x5 fb h i i.val i.isLt ⟨a.val % 8, by omega⟩ c).2 ⟨j, hj, rfl⟩)) h1
    rw [tileMax_apply]
    refine add_le_add ?_ le_rfl
    have h2 := Finset.le_sup (f := fun k : Fin 32 => (biasedTile KH x1 x5 h i j (ix2 ⟨k.val * 8 + a.val % 8, by omega⟩ c) : EReal)) (Finset.mem_univ (⟨a.val / 8, by omega⟩ : Fin 32))
    refine le_trans (le_of_eq ?_) h2
    congr 2
    refine Fin.ext ?_
    show a.val = a.val / 8 * 8 + a.val % 8
    omega

end Moba

end
-- ==== Proof.Point.lean ====
/- What the kernel leaves in its output array: at each query and lane of a head, the quotient of two sums over the keys. -/
module

public import proofs.«01_k».proof.Proof.Filled
public import proofs.«01_k».proof.Proof.Closed
public import proofs.«01_k».proof.Proof.Gen.KernelIdeal.Value
public import Idealize.ShloMosaic.Lib.Pipeline.ValueKit

@[expose] public section

set_option maxRecDepth 100000

noncomputable section

namespace Moba

open Cert.KernelIdeal Cert.KernelIdeal.Gen Idealize.ShloMosaic Idealize.ShloMosaic.TcCoe Idealize.SL.Sem

set_option maxHeartbeats 1000000

/-- The attention of one grid point, over the blocks it is given and the far bias of its heads. -/
def blockOut (fb : Fin 4 → Ideal .f32) (x1 x2 : Vec Ideal S1x2048x256 .bf16) (x3 : Vec Ideal S1x256x2048 .bf16) (x4 : Vec Ideal S1x8x256 .f32)
    (x5 : Vec Ideal S4x2x256x256 .f32) (t : Fin 2048) (e : Fin 256) : EReal :=
  headOut (keysOf x2) (valuesOf x3) (maskOf x1 x4) x1 x5 fb ⟨e.val / 64, by omega⟩ ⟨t.val / 256, by omega⟩ (ix2 ⟨e.val % 64, by omega⟩ ⟨t.val % 256, by omega⟩)

theorem head_congr (f : Fin 4 → Fin 8 → FVec Ideal S64x256 .f32) {h h' : Fin 4} {i i' : Fin 8} {d d' : Fin 64} {c c' : Fin 256} (h1 : h = h') (h2 : i = i') (h3 : d = d') (h4 : c = c') :
    f h i (ix2 d c) = f h' i' (ix2 d' c') := by
  subst h1 h2 h3 h4; rfl

theorem piece_out (c : Dev nD) (i : grid0.Coords) (arg2 : Memref sig .tc .smem S32x16 .f32) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x256x2048 .bf16) (harg5 : arg5.IsWhole) (arg6 : Memref sig .tc .vmem S1x8x256 .f32) (harg6 : arg6.IsWhole) (arg7 : Memref sig .tc .vmem S4x2x256x256 .f32) (harg7 : arg7.IsWhole) (arg8 : Memref sig .tc .vmem S1x2048x256 .bf16) (harg8 : arg8.IsWhole) (arg9 : Memref sig .tc .vmem S4x2048x128 .bf16) (harg9 : arg9.IsWhole) (arg10 : Memref sig .tc .vmem S4x80x2048 .bf16) (harg10 : arg10.IsWhole) (arg11 : Memref sig .tc .vmem S4x8x2048 .f32) (harg11 : arg11.IsWhole) (arg12 : Memref sig .tc .vmem S3x2048x256 .f32) (harg12 : arg12.IsWhole) (arg13 : Memref sig .tc .vmem S2x2048x256 .bf16) (harg13 : arg13.IsWhole)
    (x0 : Vec Ideal S32x16 .f32) (x1 : Vec Ideal S1x2048x256 .bf16) (x2 : Vec Ideal S1x2048x256 .bf16) (x3 : Vec Ideal S1x256x2048 .bf16) (x4 : Vec Ideal S1x8x256 .f32) (x5 : Vec Ideal S4x2x256x256 .f32)  : View.canon (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5).1
    = fun y => blockOut (farBias i x0) x1 x2 x3 x4 x5 ⟨(y 1).val, (y 1).isLt⟩ ⟨(y 2).val, (y 2).isLt⟩ := by
  funext y
  rw [← List.append_nil (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5).1]
  refine View.canon_append_of_piecesOf (fun y : S1x2048x256.Idx => blockOut (farBias i x0) x1 x2 x3 x4 x5 ⟨(y 1).val, (y 1).isLt⟩ ⟨(y 2).val, (y 2).isLt⟩) [] _ ?_ y (cover0_A_6 c i arg2 harg2 arg3 harg3 arg4 harg4 arg5 harg5 arg6 harg6 arg7 harg7 arg8 harg8 arg9 harg9 arg10 harg10 arg11 harg11 arg12 harg12 arg13 harg13 x0 x1 x2 x3 x4 x5 y)
  refine pieces c i arg2 harg2 arg3 harg3 arg4 harg4 arg5 harg5 arg6 harg6 arg7 harg7 arg8 harg8 arg9 harg9 arg10 harg10 arg11 harg11 arg12 harg12 arg13 harg13 x0 x1 x2 x3 x4 x5 _ fun q hp => ?_
  rw [kh_eq, va_eq, md_eq]
  funext z
  idx_vars z
  have hz : z0 = 0 := Fin.ext (by omega)
  subst hz
  rw [emb3 _ _ _ _ _ (by simp) (by simp; omega) (by simp; omega), pairOut_apply]
  unfold blockOut
  dsimp only [ix3_1, ix3_2]
  refine head_congr (headOut _ _ _ _ _ _) (Fin.ext ?_) (Fin.ext ?_) (Fin.ext ?_) (Fin.ext ?_) <;> simp <;> omega

theorem off1_eq : ∀ (i : grid0.Coords) (h : Fin 4), k0_off1 i (BitVec.ofNat 32 h.val) = ![31, 4 * (i 0).val + h.val] := by
  decide +kernel

theorem farBias_eq (i : grid0.Coords) (x0 : Vec Ideal S32x16 .f32) (h : Fin 4) (hb : 4 * (i 0).val + h.val < 16) :
    farBias i x0 h = x0 (ix2 31 ⟨4 * (i 0).val + h.val, hb⟩) * (((Real.log 2)⁻¹ : ℝ) : EReal) := by
  have hl : (Named.named (F := Ideal) κ "log2e" (0x3FB8AA3B#32 : BitVec FTy.f32.bits) : Ideal .f32) = (((Real.log 2)⁻¹ : ℝ) : EReal) :=
    IdealRules.named_const.ideal_named_scalar _ _ _ _ rfl
  have hv : ∀ v : Ideal .f32, k0_pay68 (F := Ideal) v = v * (((Real.log 2)⁻¹ : ℝ) : EReal) := fun v => by rw [← hl]; rfl
  unfold farBias
  rw [hv]
  congr 1
  refine congrArg x0 ?_
  funext d
  apply Fin.ext
  refine (Rect.emb_apply _ _ d).trans ?_
  have := off1_eq i h
  fin_cases d <;> simp [this, ix2, Rect.unit, Shape.Idx.first]

variable (m : (ℓ : Loc nD τ sig) → Buf (Elt Ideal) ℓ)

theorem index0 : ∀ t : Fin cfg0.N, win0_0.index t = ![0, 0] := (by decide +kernel : ∀ t : Fin grid0.N, win0_0.index t = ![0, 0])
theorem index1 : ∀ t : Fin cfg0.N, win0_1.index t = ![t.val % 16, 0, t.val / 16] := (by decide +kernel : ∀ t : Fin grid0.N, win0_1.index t = ![t.val % 16, 0, t.val / 16])
theorem index2 : ∀ t : Fin cfg0.N, win0_2.index t = ![t.val % 16, 0, t.val / 16] := (by decide +kernel : ∀ t : Fin grid0.N, win0_2.index t = ![t.val % 16, 0, t.val / 16])
theorem index3 : ∀ t : Fin cfg0.N, win0_3.index t = ![t.val % 16, t.val / 16, 0] := (by decide +kernel : ∀ t : Fin grid0.N, win0_3.index t = ![t.val % 16, t.val / 16, 0])
theorem index4 : ∀ t : Fin cfg0.N, win0_4.index t = ![t.val % 16, 0, t.val / 16] := (by decide +kernel : ∀ t : Fin grid0.N, win0_4.index t = ![t.val % 16, 0, t.val / 16])
theorem index5 : ∀ t : Fin cfg0.N, win0_5.index t = ![t.val / 16, 0, 0, 0] := (by decide +kernel : ∀ t : Fin grid0.N, win0_5.index t = ![t.val / 16, 0, 0, 0])
theorem index6 : ∀ t : Fin cfg0.N, win0_6.index t = ![t.val % 16, 0, t.val / 16] := (by decide +kernel : ∀ t : Fin grid0.N, win0_6.index t = ![t.val % 16, 0, t.val / 16])
theorem coord0 : ∀ t : Fin cfg0.N, (grid0.coords t 0).val = t.val / 16 := (by decide +kernel : ∀ t : Fin grid0.N, (grid0.coords t 0).val = t.val / 16)

/-- The block of queries, or of keys, that the grid point of batch `b` and head group `p` is given. -/
def colBlock (A : Vec Ideal S16x2048x1024 .bf16) (b : Fin 16) (p : Fin 4) : Vec Ideal S1x2048x256 .bf16 := fun y =>
  A (ix3 b ⟨(y 1).val, (y 1).isLt⟩ ⟨256 * p.val + (y 2).val, by have h : (y 2).val < 256 := (y 2).isLt; omega⟩)
def rowBlock (A : Vec Ideal S16x1024x2048 .bf16) (b : Fin 16) (p : Fin 4) : Vec Ideal S1x256x2048 .bf16 := fun y =>
  A (ix3 b ⟨256 * p.val + (y 1).val, by have h : (y 1).val < 256 := (y 1).isLt; omega⟩ ⟨(y 2).val, (y 2).isLt⟩)
def meanBlock (A : Vec Ideal S16x8x1024 .f32) (b : Fin 16) (p : Fin 4) : Vec Ideal S1x8x256 .f32 := fun y =>
  A (ix3 b ⟨(y 1).val, (y 1).isLt⟩ ⟨256 * p.val + (y 2).val, by have h : (y 2).val < 256 := (y 2).isLt; omega⟩)
def biasBlock (A : Vec Ideal S16x2x256x256 .f32) (p : Fin 4) : Vec Ideal S4x2x256x256 .f32 := fun y =>
  A (ix4 ⟨4 * p.val + (y 0).val, by have h : (y 0).val < 4 := (y 0).isLt; omega⟩ ⟨(y 1).val, (y 1).isLt⟩ ⟨(y 2).val, (y 2).isLt⟩ ⟨(y 3).val, (y 3).isLt⟩)
def farOf (A : Vec Ideal S32x16 .f32) (p h : Fin 4) : Ideal .f32 := A (ix2 31 ⟨4 * p.val + h.val, by omega⟩) * (((Real.log 2)⁻¹ : ℝ) : EReal)

/-- The whole output, from the six arrays. -/
def kernelOut (A0 : Vec Ideal S32x16 .f32) (A1 A2 : Vec Ideal S16x2048x1024 .bf16) (A3 : Vec Ideal S16x1024x2048 .bf16) (A4 : Vec Ideal S16x8x1024 .f32)
    (A5 : Vec Ideal S16x2x256x256 .f32) (b : Fin 16) (t : Fin 2048) (e : Fin 1024) : EReal :=
  blockOut (farOf A0 ⟨e.val / 256, by omega⟩) (colBlock A1 b ⟨e.val / 256, by omega⟩) (colBlock A2 b ⟨e.val / 256, by omega⟩) (rowBlock A3 b ⟨e.val / 256, by omega⟩)
    (meanBlock A4 b ⟨e.val / 256, by omega⟩) (biasBlock A5 ⟨e.val / 256, by omega⟩) t ⟨e.val % 256, by omega⟩

theorem block_congr (A0 : Vec Ideal S32x16 .f32) (A1 A2 : Vec Ideal S16x2048x1024 .bf16) (A3 : Vec Ideal S16x1024x2048 .bf16) (A4 : Vec Ideal S16x8x1024 .f32)
    (A5 : Vec Ideal S16x2x256x256 .f32) {b b' : Fin 16} {p p' : Fin 4} {t t' : Fin 2048} {e e' : Fin 256} (h1 : p = p') (h2 : b = b') (h3 : t = t') (h4 : e = e') :
    blockOut (farOf A0 p) (colBlock A1 b p) (colBlock A2 b p) (rowBlock A3 b p) (meanBlock A4 b p) (biasBlock A5 p) t e
      = blockOut (farOf A0 p') (colBlock A1 b' p') (colBlock A2 b' p') (rowBlock A3 b' p') (meanBlock A4 b' p') (biasBlock A5 p') t' e' := by
  subst h1 h2 h3 h4; rfl

theorem out_eq (c : Dev nD) : (dats m 0 c).arrAt 6 cfg0.N = fun j : S16x2048x1024.Idx =>
    kernelOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      ⟨(j 0).val, (j 0).isLt⟩ ⟨(j 1).val, (j 1).isLt⟩ ⟨(j 2).val, (j 2).isLt⟩ := by
  refine (dats m 0 c).arrAt_eq_of_covers 6 _ (by decide +kernel) fun t hf y => ?_
  blk_simp
  rw [after0_6]
  unfold outsAt0 out0_A_6
  rw [View.read_writes_junk_eq_canon, piece_out]
  idx_vars y
  have ht : t.val < 64 := t.isLt
  have h1 : iblk m c 1 t = colBlock (m ((c : Thread nD τ).loc main_arg1)) ⟨t.val % 16, by omega⟩ ⟨t.val / 16, by omega⟩ := by
    funext z
    unfold colBlock
    blk_ext [iblk, V, index1 t]
  have h2 : iblk m c 2 t = colBlock (m ((c : Thread nD τ).loc main_arg2)) ⟨t.val % 16, by omega⟩ ⟨t.val / 16, by omega⟩ := by
    funext z
    unfold colBlock
    blk_ext [iblk, V, index2 t]
  have h3 : iblk m c 3 t = rowBlock (m ((c : Thread nD τ).loc main_arg3)) ⟨t.val % 16, by omega⟩ ⟨t.val / 16, by omega⟩ := by
    funext z
    unfold rowBlock
    blk_ext [iblk, V, index3 t]
  have h4 : iblk m c 4 t = meanBlock (m ((c : Thread nD τ).loc main_arg4)) ⟨t.val % 16, by omega⟩ ⟨t.val / 16, by omega⟩ := by
    funext z
    unfold meanBlock
    blk_ext [iblk, V, index4 t]
  have h5 : iblk m c 5 t = biasBlock (m ((c : Thread nD τ).loc main_arg5)) ⟨t.val / 16, by omega⟩ := by
    funext z
    unfold biasBlock
    blk_ext [iblk, V, index5 t]
  have h0 : farBias (grid0.coords t) (iblk m c 0 t) = farOf (m ((c : Thread nD τ).loc main_arg0)) ⟨t.val / 16, by omega⟩ := by
    funext h
    have hc := coord0 t
    refine (farBias_eq _ _ h (by omega)).trans ?_
    unfold farOf
    congr 1
    simp only [hc]
    blk_ext [iblk, V, index0 t]
  rw [h0, h1, h2, h3, h4, h5]
  have e0 : win0_6.index t 0 = t.val % 16 := by rw [index6]; rfl
  have e1 : win0_6.index t 1 = 0 := by rw [index6]; rfl
  have e2 : win0_6.index t 2 = t.val / 16 := by rw [index6]; rfl
  have hy : y2.val < 256 := y2.isLt
  unfold kernelOut
  refine block_congr (p := ⟨t.val / 16, by omega⟩) (b := ⟨t.val % 16, by omega⟩) _ _ _ _ _ _ (Fin.ext ?_) (Fin.ext ?_) (Fin.ext ?_) (Fin.ext ?_) <;> simp only [e0, e1, e2] <;> omega

end Moba
-- ==== Proof.Logits.lean ====
/- One head of one block of queries, as two sums over all the keys of powers of two of logits. -/
module

public import proofs.«01_k».proof.Proof.Closed

@[expose] public section

set_option maxRecDepth 16384

noncomputable section

namespace Moba

open Cert.KernelIdeal Cert.KernelIdeal.Gen Idealize.ShloMosaic Idealize.ShloMosaic.TcCoe Idealize.SL.Sem

variable (KH : Vec Ideal S4x2048x128 .bf16) (VA : Vec Ideal S4x80x2048 .bf16) (MD : Vec Ideal S4x8x2048 .f32) (x1 : Vec Ideal S1x2048x256 .bf16)
  (x5 : Vec Ideal S4x2x256x256 .f32) (fb : Fin 4 → Ideal .f32)

/-- A sum over the keys, block by block. -/
theorem sum_blocks (f : Fin 2048 → EReal) : ∑ u : Fin 2048, f u = ∑ j : Fin 8, ∑ a : Fin 256, f ⟨256 * j.val + a.val, by omega⟩ := by
  rw [← Fintype.sum_prod_type' (f := fun (j : Fin 8) (a : Fin 256) => f ⟨256 * j.val + a.val, by omega⟩)]
  refine (Fintype.sum_equiv (finProdFinEquiv (m := 8) (n := 256)) _ _ fun x => ?_).symm
  refine congrArg f (Fin.ext ?_)
  simp [finProdFinEquiv]
  omega

/-- The logit of key `u`, in units of `log 2`: the biased product, and before the diagonal block the offset of the key's block; `⊥` past it. -/
def logit (h : Fin 4) (i : Fin 8) (c : Fin 256) (u : Fin 2048) : EReal :=
  if u.val / 256 ≤ i.val then
    biasedTile KH x1 x5 h i ⟨u.val / 256, by omega⟩ (ix2 ⟨u.val % 256, by omega⟩ c)
      + if u.val / 256 = i.val then 0 else offset MD fb h i ⟨u.val / 256, by omega⟩ (ix2 0 c)
  else ⊥

theorem logit_at (h : Fin 4) (i : Fin 8) (c : Fin 256) (j : Fin 8) (a : Fin 256) : logit KH MD x1 x5 fb h i c ⟨256 * j.val + a.val, by omega⟩
    = if j.val ≤ i.val then biasedTile KH x1 x5 h i j (ix2 a c) + if j = i then 0 else offset MD fb h i j (ix2 0 c) else ⊥ := by
  have h1 : (256 * j.val + a.val) / 256 = j.val := by omega
  have h2 : (256 * j.val + a.val) % 256 = a.val := by omega
  simp only [logit, h1, h2, Fin.ext_iff]

theorem shift_eq (b o m : EReal) (hb : b ≠ ⊤) (ho : o ≠ ⊤) (hm : m ≠ ⊤) (hm' : m ≠ ⊥) : b - (m - o) = b + o - m := by
  induction m using EReal.rec with
  | bot => exact absurd rfl hm'
  | top => exact absurd rfl hm
  | coe m =>
    induction o using EReal.rec with
    | top => exact absurd rfl ho
    | bot =>
      rw [EReal.coe_sub_bot, EReal.add_bot, EReal.bot_sub]
      induction b using EReal.rec with
      | top => exact absurd rfl hb
      | bot => rfl
      | coe b => rfl
    | coe o =>
      induction b using EReal.rec with
      | top => exact absurd rfl hb
      | bot => rw [← EReal.coe_sub, EReal.bot_sub, EReal.bot_add, EReal.bot_sub]
      | coe b =>
        rw [← EReal.coe_sub, ← EReal.coe_sub, ← EReal.coe_add, ← EReal.coe_sub]
        congr 1
        ring

theorem logit_isGreatest (h : Fin 4) (i : Fin 8) (c : Fin 256) : IsGreatest (Set.range (logit KH MD x1 x5 fb h i c)) (colMax KH MD x1 x5 fb h i (ix2 0 c)) := by
  obtain ⟨⟨j, a, hj, e⟩, hu⟩ := colMax_isGreatest KH MD x1 x5 fb h i c
  constructor
  · refine ⟨⟨256 * j.val + a.val, by omega⟩, ?_⟩
    rw [logit_at, if_pos hj, e]
  · rintro _ ⟨u, rfl⟩
    unfold logit
    split
    · rename_i hle
      refine hu ⟨⟨u.val / 256, by omega⟩, ⟨u.val % 256, by omega⟩, hle, ?_⟩
      simp only [Fin.ext_iff]
    · exact bot_le

/-- The sum a head accumulates, over all the keys. -/
theorem runValues_logit (h : Fin 4) (i : Fin 8) (c : Fin 256) (r : Fin 80)
    (hB : ∀ (j : Fin 8) (a : Fin 256), j.val ≤ i.val → biasedTile KH x1 x5 h i j (ix2 a c) ≠ ⊤)
    (hO : ∀ j : Fin 8, j.val < i.val → offset MD fb h i j (ix2 0 c) ≠ ⊤)
    (h0 : ∃ u, logit KH MD x1 x5 fb h i c u ≠ ⊥) :
    runValues KH VA MD x1 x5 fb h i i.val i.isLt (ix2 r c)
      = ∑ u : Fin 2048, VA (ix3 h r u) * Ideal.exp2 (logit KH MD x1 x5 fb h i c u - colMax KH MD x1 x5 fb h i (ix2 0 c)) := by
  have hg := logit_isGreatest KH MD x1 x5 fb h i c
  have hl : ∀ u, logit KH MD x1 x5 fb h i c u ≠ ⊤ := by
    intro u
    unfold logit
    split
    · rename_i hle
      refine EReal.add_ne_top (hB _ _ hle) ?_
      split
      · exact EReal.zero_ne_top
      · exact hO _ (by simp only; omega)
    · exact bot_ne_top
  have hm : colMax KH MD x1 x5 fb h i (ix2 0 c) ≠ ⊤ := by
    obtain ⟨u, hu⟩ := hg.1
    rw [← hu]
    exact hl u
  have hm' : colMax KH MD x1 x5 fb h i (ix2 0 c) ≠ ⊥ := by
    obtain ⟨u, hu⟩ := h0
    intro hb
    have := hg.2 ⟨u, rfl⟩
    rw [hb] at this
    exact hu (le_bot_iff.mp this)
  rw [runValues_apply, sum_blocks]
  refine Finset.sum_congr rfl fun j _ => ?_
  by_cases hj : j.val ≤ i.val
  · rw [if_pos hj, partValues_apply]
    refine Finset.sum_congr rfl fun a _ => ?_
    rw [weights_apply, logit_at, if_pos hj]
    congr 2
    by_cases hji : j = i
    · rw [if_pos hji, if_pos hji, add_zero]
    · rw [if_neg hji, if_neg hji]
      have hlt : j.val < i.val := lt_of_le_of_ne hj fun e => hji (Fin.ext e)
      exact shift_eq _ _ _ (hB j a hj) (hO j hlt) hm hm'
  · rw [if_neg hj]
    symm
    refine Finset.sum_eq_zero fun a _ => ?_
    rw [logit_at, if_neg hj, EReal.bot_sub]
    exact mul_zero _

end Moba
-- ==== Proof.Softmax.lean ====
/- The weighted mean of values under a softmax, once with powers of two and one division at the end and once with
   exponentials and each weight divided. -/
module

public import Idealize.ShloMosaic.PureOps.Ideal
public import Idealize.ShloMosaic.PureOps.Ideal.Laws

@[expose] public section

noncomputable section

namespace Moba

open Idealize.ShloMosaic

/-- A power of two is the exponential of the exponent times `log 2`, at every extended real below `⊤`. -/
theorem exp2_eq_exp (x : EReal) (h : x ≠ ⊤) : Ideal.exp2 x = Ideal.exp (x * ((Real.log 2 : ℝ) : EReal)) := by
  induction x using EReal.rec with
  | bot => rw [EReal.bot_mul_coe_of_pos (Real.log_pos (by norm_num))]; rfl
  | top => exact absurd rfl h
  | coe r =>
    rw [← EReal.coe_mul]
    show ((Real.rpow 2 r : ℝ) : EReal) = ((Real.exp (r * Real.log 2) : ℝ) : EReal)
    congr 1
    show (2 : ℝ) ^ r = _
    rw [Real.rpow_def_of_pos (by norm_num), mul_comm]

theorem exp_nonneg (x : EReal) : 0 ≤ Ideal.exp x := by
  induction x using EReal.rec with
  | bot => exact le_refl _
  | top => exact le_top
  | coe r => exact EReal.coe_nonneg.mpr (Real.exp_pos r).le

theorem exp_ne_top (x : EReal) (h : x ≠ ⊤) : Ideal.exp x ≠ ⊤ := by
  induction x using EReal.rec with
  | bot => exact EReal.zero_ne_top
  | top => exact absurd rfl h
  | coe r => exact EReal.coe_ne_top _

theorem sum_ne_top {ι : Type} (S : Finset ι) (f : ι → EReal) (h : ∀ u ∈ S, f u ≠ ⊤) : ∑ u ∈ S, f u ≠ ⊤ := by
  classical
  induction S using Finset.induction_on with
  | empty => simp
  | insert a S ha ih =>
    rw [Finset.sum_insert ha]
    exact EReal.add_ne_top (h a (Finset.mem_insert_self _ _)) (ih fun u hu => h u (Finset.mem_insert_of_mem hu))

/-- Multiplication by a finite nonnegative number distributes over a finite sum of extended reals. -/
theorem sum_mul_coe {ι : Type} (S : Finset ι) (f : ι → EReal) (c : ℝ) (hc : 0 ≤ c) :
    (∑ u ∈ S, f u) * (c : EReal) = ∑ u ∈ S, f u * (c : EReal) := by
  classical
  induction S using Finset.induction_on with
  | empty => simp
  | insert a S ha ih =>
    rw [Finset.sum_insert ha, Finset.sum_insert ha, ← ih,
      EReal.right_distrib_of_nonneg_of_ne_top (EReal.coe_nonneg.mpr hc) (EReal.coe_ne_top c)]

/-- With logits `l` in units of `log 2`, each below `⊤` and one of them finite: the values weighted by powers of two of the
    logits less their greatest, divided at the end by the sum of the weights, are the values weighted by the softmax of the
    logits in natural units. -/
theorem weighted_mean {ι : Type} [Fintype ι] (l v : ι → EReal) (m M : EReal) (hl : ∀ u, l u ≠ ⊤) (h0 : ∃ u, l u ≠ ⊥)
    (hm : IsGreatest (Set.range l) m) (hM : IsGreatest (Set.range fun u => l u * ((Real.log 2 : ℝ) : EReal)) M) :
    Ideal.div (∑ u, v u * Ideal.exp2 (l u - m)) (∑ u, Ideal.exp2 (l u - m))
      = ∑ u, Ideal.div (Ideal.exp (l u * ((Real.log 2 : ℝ) : EReal) - M))
          (∑ u, Ideal.exp (l u * ((Real.log 2 : ℝ) : EReal) - M)) * v u := by
  have hlog : (0 : ℝ) < Real.log 2 := Real.log_pos (by norm_num)
  obtain ⟨⟨u1, hu1⟩, hup⟩ := hm
  obtain ⟨⟨u2, hu2⟩, hup2⟩ := hM
  have hmM : M = m * ((Real.log 2 : ℝ) : EReal) := by
    apply le_antisymm
    · rw [← hu2]
      exact mul_le_mul_of_nonneg_right (hup ⟨u2, rfl⟩) (EReal.coe_nonneg.mpr hlog.le)
    · rw [← hu1]; exact hup2 ⟨u1, rfl⟩
  have hmt : m ≠ ⊤ := hu1 ▸ hl u1
  have hmb : m ≠ ⊥ := by
    obtain ⟨u, hu⟩ := h0
    intro h
    exact hu (le_bot_iff.mp (h ▸ hup ⟨u, rfl⟩))
  lift m to ℝ using ⟨hmt, hmb⟩
  have hsub : ∀ u, l u - (m : EReal) ≠ ⊤ := fun u => by
    have := hl u
    generalize l u = x at this ⊢
    induction x using EReal.rec with
    | bot => simp
    | top => exact absurd rfl this
    | coe r => rw [← EReal.coe_sub]; exact EReal.coe_ne_top _
  have hterm : ∀ u, Ideal.exp (l u * ((Real.log 2 : ℝ) : EReal) - M) = Ideal.exp2 (l u - m) := fun u => by
    rw [exp2_eq_exp _ (hsub u), hmM]
    congr 1
    have := hl u
    generalize l u = x at this ⊢
    induction x using EReal.rec with
    | bot => rw [EReal.bot_mul_coe_of_pos hlog, ← EReal.coe_mul, EReal.bot_sub, EReal.bot_sub, EReal.bot_mul_coe_of_pos hlog]
    | top => exact absurd rfl this
    | coe r => rw [← EReal.coe_sub, ← EReal.coe_mul, ← EReal.coe_mul, ← EReal.coe_mul, ← EReal.coe_sub, sub_mul]
  simp only [hterm]
  have hpos : ∀ u, 0 ≤ Ideal.exp2 (l u - m) := fun u => (hterm u) ▸ exp_nonneg _
  have htop : ∑ u, Ideal.exp2 (l u - m) ≠ ⊤ :=
    sum_ne_top _ _ fun u _ => by rw [exp2_eq_exp _ (hsub u)]; exact exp_ne_top _ (by
      have := hsub u
      generalize l u - (m : EReal) = x at this ⊢
      induction x using EReal.rec with
      | bot => rw [EReal.bot_mul_coe_of_pos hlog]; exact bot_ne_top
      | top => exact absurd rfl this
      | coe r => rw [← EReal.coe_mul]; exact EReal.coe_ne_top _)
  have hone : (1 : EReal) ≤ ∑ u, Ideal.exp2 (l u - m) := by
    refine le_trans ?_ (Finset.single_le_sum (fun u _ => hpos u) (Finset.mem_univ u1))
    rw [hu1, ← EReal.coe_sub, sub_self]
    show (1 : EReal) ≤ ((Real.rpow 2 0 : ℝ) : EReal)
    rw [show Real.rpow 2 0 = 1 from Real.rpow_zero 2]; exact le_refl _
  generalize ∑ u, Ideal.exp2 (l u - m) = Z at htop hone ⊢
  have hZb : Z ≠ ⊥ := fun h => by
    rw [h] at hone; exact absurd (le_bot_iff.mp hone) (by decide)
  lift Z to ℝ using ⟨htop, hZb⟩
  have hZ : (1 : ℝ) ≤ Z := EReal.coe_le_coe_iff.mp hone
  have hdiv : ∀ x : EReal, Ideal.div x (Z : EReal) = x * ((Z⁻¹ : ℝ) : EReal) := fun x => by
    have hne : (Z : EReal) ≠ 0 := fun h => by
      rw [EReal.coe_eq_zero] at h; rw [h] at hZ; exact absurd hZ (by norm_num)
    rw [Ideal.div, if_neg hne, EReal.coe_inv]
  simp only [hdiv]
  rw [sum_mul_coe _ _ _ (inv_nonneg.mpr (zero_le_one.trans hZ))]
  exact Finset.sum_congr rfl fun u _ => by rw [mul_assoc, mul_comm]

end Moba

end
-- ==== Proof.Refer.lean ====
/- The reference read at an index: masked logits of the query's row, and the softmax average of the values. -/
module

public import proofs.«01_k».proof.Proof.Gen.ReferenceIdeal.Read
public import proofs.«01_k».proof.Proof.Rank
public import Idealize.ShloMosaic.Lib.Pointwise
public import Idealize.ShloMosaic.Lib.Routing.OpsOrder
public import Idealize.ShloMosaic.Lib.WordCmp

@[expose] public section

set_option maxRecDepth 16384

noncomputable section

namespace Moba

open Cert.ReferenceIdeal Cert.ReferenceIdeal.Gen Cert.ReferenceIdeal.Read Idealize.ShloMosaic Idealize.SL.Sem
open Idealize.ShloMosaic.WordCmp (cmpi_slt_ofNat cmpi_sge_zero cmpi_eq_ofNat cmpi_eq_ofNat_eq_one_iff)
open Idealize.ShloMosaic.Routing (fold_ori)

/-! ## A few words -/

theorem half_word (t : ℕ) (ht : t < 2048) : IntOp.divsi .host (BitVec.ofNat 32 t) 256#32 = BitVec.ofNat 32 (t / 256) := by
  have h : ¬ IntOp.SDivCorner (BitVec.ofNat 32 t) 256#32 := by simp [IntOp.SDivCorner]
  unfold IntOp.divsi
  rw [if_neg h]
  have m : (BitVec.ofNat 32 t).msb = false := by
    rw [BitVec.msb_eq_decide]; simp; omega
  rw [BitVec.sdiv_eq, m, show (256#32).msb = false from rfl]
  apply BitVec.eq_of_toNat_eq
  simp
  omega

theorem select_bit {α : Type} (p : Prop) [Decidable p] (x y : α) : Scalar.select (BitVec.ofBool (decide p)) x y = if p then x else y := by
  by_cases h : p <;> simp [Scalar.select, h]

theorem ninf : id (constant (F := Ideal) S_ .f32 0xFF800000#32) ix0 = (⊥ : EReal) := by
  show Ideal.ofBits FTy.f32 0xFF800000#32 = ⊥
  simp [Ideal.ofBits, Ideal.ieee]

/-- The bucket of a distance between a query and a key, as the table's bias is read at it. -/
@[irreducible] def bucketWord (d : BitVec 32) : BitVec 32 :=
  let n := IntOp.maxsi d 0#32
  let r := Scalar.select (IntOp.cmpi .slt n 16#32) n (IntOp.minsi (IntOp.addi 16#32 (FloatOps.fptosi (F := Ideal) (φ := .f32) 32 (Ideal.div (Ideal.log (Ideal.div
    (FloatOps.sitofp (F := Ideal) FTy.f32 (IntOp.maxsi n 1#32)) (Ideal.ofBits FTy.f32 0x41800000#32))) (Ideal.ofBits FTy.f32 0x40051592#32)
      * Ideal.ofBits FTy.f32 0x41800000#32))) 31#32)
  Scalar.select (IntOp.cmpi .slt r 0#32) (IntOp.addi r 32#32) r

/-- The row of the table at a distance. -/
def bucketRow (d : BitVec 32) : Fin 32 := ⟨min (bucketWord d).toInt.toNat 31, by omega⟩

/-! ## Reading a table's columns, a maximum along the last axis, and the first entries of a sorted row -/

section Generic
variable {n0 n1 n2 n3 k : ℕ} {α : Type}

theorem fold_sup {n : ℕ} (f : Fin n → EReal) : (Finset.univ : Finset (Fin n)).fold max ⊥ f = Finset.univ.sup f := rfl

theorem max_last (s : Vec Ideal ⟨4, ![n0, n1, n2, n3]⟩ .f32) (init : Vec Ideal S_ .f32) (h : (⟨4, ![n0, n1, n2, n3]⟩ : Shape).ReducesTo [3] ⟨3, ![n0, n1, n2]⟩)
    (b : Fin n0) (H : Fin n1) (t : Fin n2) : Host.reduce (FloatOps.maximumf (F := Ideal) (φ := .f32)) s init h h_S_ (ix3 b H t)
      = Finset.fold max (init (Shape.Idx.first h_S_)) (fun x => s (ix4 b H t x)) Finset.univ := by
  pointwise

theorem topK_at (g : (⟨4, ![n0, n1, n2, n3]⟩ : Shape).Idx → α) (gt : α → α → BitVec 1) (h : (⟨4, ![n0, n1, n2, n3]⟩ : Shape).Slices (fun _ => 0) ⟨4, ![n0, n1, n2, k]⟩) (hk : k ≤ n3)
    (b : Fin n0) (H : Fin n1) (t : Fin n2) (x : Fin k) : (Host.topK ⟨4, ![n0, n1, n2, k]⟩ 3 gt g h).2 (ix4 b H t x) =
    BitVec.ofNat 32 (sortedFrom (fun a c => gt (g (ix4 b H t a)) (g (ix4 b H t c)) == 1#1) ⟨x.val, x.isLt.trans_le hk⟩).val := by
  have e : ∀ a, (Shape.Idx.along (fun y => ⟨0 + ((ix4 b H t x) (y.cast h.1.symm)).val, Nat.lt_of_lt_of_le (Nat.add_lt_add_left ((ix4 b H t x) _).isLt _) (h.2 y)⟩) (3 : Fin 4) a
      : (⟨4, ![n0, n1, n2, n3]⟩ : Shape).Idx) = ix4 b H t a := by
    intro a
    unfold Shape.Idx.along
    funext y
    match y with
    | ⟨0, _⟩ => exact Fin.ext (Nat.zero_add _)
    | ⟨1, _⟩ => exact Fin.ext (Nat.zero_add _)
    | ⟨2, _⟩ => exact Fin.ext (Nat.zero_add _)
    | ⟨3, _⟩ => rfl
  have e' : (⟨0 + x.val, by omega⟩ : Fin n3) = ⟨x.val, x.isLt.trans_le hk⟩ := Fin.ext (Nat.zero_add _)
  show BitVec.ofNat 32 (sortedFrom (fun a c => gt (g (Shape.Idx.along _ (3 : Fin 4) a)) (g (Shape.Idx.along _ (3 : Fin 4) c)) == 1#1) ⟨0 + x.val, _⟩).val = _
  rw [← e']
  congr 3
  funext a c
  rw [e a, e c]
  rfl

/-- Columns of a table read at a plane of indices. -/
abbrev columns3 (C N R S : ℕ) (wf : GatherDims.WF ⟨2, ![C, N]⟩ ⟨3, ![R, S, 1]⟩ ⟨3, ![C, R, S]⟩ [0] [1] [] [1] [] 2 ![C, 1]) :
    GatherDims ⟨2, ![C, N]⟩ ⟨3, ![R, S, 1]⟩ ⟨3, ![C, R, S]⟩ where
  offsetDims := [0]
  collapsedSliceDims := [1]
  operandBatchingDims := []
  startIndicesBatchingDims := []
  startIndexMap := [1]
  indexVectorDim := 2
  sliceSizes := ![C, 1]
  wf := wf

theorem columns3_at {C N R S : ℕ} (hN : 0 < N) (wf : GatherDims.WF ⟨2, ![C, N]⟩ ⟨3, ![R, S, 1]⟩ ⟨3, ![C, R, S]⟩ [0] [1] [] [1] [] 2 ![C, 1])
    (x : (⟨2, ![C, N]⟩ : Shape).Idx → α) (idx : IVec ⟨3, ![R, S, 1]⟩ 32) (h : Fin C) (t : Fin R) (u : Fin S) :
    Host.gather (columns3 C N R S wf) x idx (ix3 h t u) = x (ix2 h ⟨min (idx (ix3 t u 0)).toInt.toNat (N - 1), by omega⟩) := by
  unfold Host.gather
  congr 1
  funext a
  refine Fin.ext ?_
  show (columns3 C N R S wf).start (ix3 h t u) idx a + (columns3 C N R S wf).batchCoord (ix3 h t u) a
      + (columns3 C N R S wf).offCoord (ix3 h t u) a = _
  rw [GatherDims.batchCoord_eq_zero _ _ _ List.not_mem_nil, Nat.add_zero]
  have ha : a = 0 ∨ a = 1 := by
    match a with
    | ⟨0, _⟩ => exact Or.inl rfl
    | ⟨1, _⟩ => exact Or.inr rfl
  rcases ha with rfl | rfl
  · unfold GatherDims.start
    rw [dif_neg (show (0 : Fin 2) ∉ (columns3 C N R S wf).startIndexMap from fun h => by simp at h), Nat.zero_add]
    unfold GatherDims.offCoord
    rw [dif_pos (show (0 : Fin 2) ∈ (columns3 C N R S wf).sKept from
      (GatherDims.mem_sKept _ _).mpr ⟨fun h => by simp at h, List.not_mem_nil⟩)]
    rfl
  · rw [GatherDims.offCoord_eq_zero _ _ _ (fun h => ((GatherDims.mem_sKept _ _).mp h).1 (List.mem_singleton.mpr rfl)), Nat.add_zero]
    unfold GatherDims.start
    rw [dif_pos (show (1 : Fin 2) ∈ (columns3 C N R S wf).startIndexMap from List.mem_singleton.mpr rfl)]
    have hsi : (columns3 C N R S wf).siIdx (ix3 h t u) ⟨List.idxOf (1 : Fin 2) (columns3 C N R S wf).startIndexMap,
        List.idxOf_lt_length_iff.2 (List.mem_singleton.mpr rfl)⟩ = ix3 t u 0 := by
      funext b; refine Fin.ext ?_
      match b with
      | ⟨0, _⟩ => rfl
      | ⟨1, _⟩ => rfl
      | ⟨2, _⟩ => rfl
    rw [hsi]
    rfl

/-- Columns of a table read at a box of indices. -/
abbrev columns4 (C N Q R S : ℕ) (wf : GatherDims.WF ⟨2, ![C, N]⟩ ⟨4, ![Q, R, S, 1]⟩ ⟨4, ![C, Q, R, S]⟩ [0] [1] [] [1] [] 3 ![C, 1]) :
    GatherDims ⟨2, ![C, N]⟩ ⟨4, ![Q, R, S, 1]⟩ ⟨4, ![C, Q, R, S]⟩ where
  offsetDims := [0]
  collapsedSliceDims := [1]
  operandBatchingDims := []
  startIndicesBatchingDims := []
  startIndexMap := [1]
  indexVectorDim := 3
  sliceSizes := ![C, 1]
  wf := wf

theorem columns4_at {C N Q R S : ℕ} (hN : 0 < N) (wf : GatherDims.WF ⟨2, ![C, N]⟩ ⟨4, ![Q, R, S, 1]⟩ ⟨4, ![C, Q, R, S]⟩ [0] [1] [] [1] [] 3 ![C, 1])
    (x : (⟨2, ![C, N]⟩ : Shape).Idx → α) (idx : IVec ⟨4, ![Q, R, S, 1]⟩ 32) (h : Fin C) (n : Fin Q) (t : Fin R) (u : Fin S) :
    Host.gather (columns4 C N Q R S wf) x idx (ix4 h n t u) = x (ix2 h ⟨min (idx (ix4 n t u 0)).toInt.toNat (N - 1), by omega⟩) := by
  unfold Host.gather
  congr 1
  funext a
  refine Fin.ext ?_
  show (columns4 C N Q R S wf).start (ix4 h n t u) idx a + (columns4 C N Q R S wf).batchCoord (ix4 h n t u) a
      + (columns4 C N Q R S wf).offCoord (ix4 h n t u) a = _
  rw [GatherDims.batchCoord_eq_zero _ _ _ List.not_mem_nil, Nat.add_zero]
  have ha : a = 0 ∨ a = 1 := by
    match a with
    | ⟨0, _⟩ => exact Or.inl rfl
    | ⟨1, _⟩ => exact Or.inr rfl
  rcases ha with rfl | rfl
  · unfold GatherDims.start
    rw [dif_neg (show (0 : Fin 2) ∉ (columns4 C N Q R S wf).startIndexMap from fun h => by simp at h), Nat.zero_add]
    unfold GatherDims.offCoord
    rw [dif_pos (show (0 : Fin 2) ∈ (columns4 C N Q R S wf).sKept from
      (GatherDims.mem_sKept _ _).mpr ⟨fun h => by simp at h, List.not_mem_nil⟩)]
    rfl
  · rw [GatherDims.offCoord_eq_zero _ _ _ (fun h => ((GatherDims.mem_sKept _ _).mp h).1 (List.mem_singleton.mpr rfl)), Nat.add_zero]
    unfold GatherDims.start
    rw [dif_pos (show (1 : Fin 2) ∈ (columns4 C N Q R S wf).startIndexMap from List.mem_singleton.mpr rfl)]
    have hsi : (columns4 C N Q R S wf).siIdx (ix4 h n t u) ⟨List.idxOf (1 : Fin 2) (columns4 C N Q R S wf).startIndexMap,
        List.idxOf_lt_length_iff.2 (List.mem_singleton.mpr rfl)⟩ = ix4 n t u 0 := by
      funext b; refine Fin.ext ?_
      match b with
      | ⟨0, _⟩ => rfl
      | ⟨1, _⟩ => rfl
      | ⟨2, _⟩ => rfl
      | ⟨3, _⟩ => rfl
    rw [hsi]
    rfl

end Generic

/-! ## The reference's stages -/

variable (A0 : Vec Ideal S32x16 .f32) (A1 A2 : Vec Ideal S16x2048x1024 .bf16) (A3 : Vec Ideal S16x1024x2048 .bf16) (A4 : Vec Ideal S16x8x1024 .f32)

/-- The gate of a query's block of keys: its query against the block's mean key, for blocks before the query's. -/
def rowGate (b H : Fin 16) (t : Fin 2048) (n : Fin 8) : EReal :=
  if n.val < t.val / 256 then ∑ x : Fin 64, A1 (ix3 b t ⟨H.val * 64 + x.val, by omega⟩) * A4 (ix3 b n ⟨H.val * 64 + x.val, by omega⟩) else ⊥

theorem gate_at (b H : Fin 16) (t : Fin 2048) (n : Fin 8) : val_main_v21 (F := Ideal) A1 A4 (ix4 b H t n) = rowGate A1 A4 b H t n := by
  pointwise [val_main_v21, val_main_call0_v1, val_main_call0_v2, val_main_call0_v0, val_main_cst, val_main_c, val_main_v20, val_main_v19, val_main_v18, val_main_v17, val_main_v16, val_main_v15, val_main_v14, val_main_v13, val_main_v12, val_main_v11, val_main_v10, val_main_v9, val_main_v8, val_main_v2, val_main_v1, val_main_v0]
  rw [half_word _ t.isLt, cmpi_slt_ofNat (by have := n.isLt; norm_num; omega) (by have := t.isLt; norm_num; omega), select_bit, ninf]
  rfl

theorem past_at (b H : Fin 16) (t : Fin 2048) (n : Fin 8) : val_main_v30 (F := Ideal) (ix4 b H t n) = BitVec.ofBool (decide (n.val < t.val / 256)) := by
  pointwise [val_main_v30, val_main_v29, val_main_c, val_main_v18, val_main_v17, val_main_v16, val_main_v15, val_main_v14, val_main_v13, val_main_v12, val_main_v11, val_main_v10]
  rw [half_word _ t.isLt, cmpi_slt_ofNat (by have := n.isLt; norm_num; omega) (by have := t.isLt; norm_num; omega)]

theorem ahead_at (b H : Fin 16) (t : Fin 2048) (x : Fin 3) : val_main_indices (F := Ideal) A1 A4 (ix4 b H t x) = BitVec.ofNat 32
    (sortedFrom (fun a c => FloatOps.cmpfTotal (F := Ideal) (φ := .f32) .gt (rowGate A1 A4 b H t a) (rowGate A1 A4 b H t c) == 1#1) (⟨x.val, by omega⟩ : Fin 8)).val := by
  have e := topK_at (n0 := 16) (n1 := 16) (n2 := 2048) (n3 := 8) (k := 3) (val_main_v21 (F := Ideal) A1 A4) (FloatOps.cmpfTotal (F := Ideal) (φ := .f32) .gt) sliceFits_S16x16x2048x8_S16x16x2048x3 (by omega) b H t x
  simp only [gate_at] at e
  unfold val_main_indices
  exact e

theorem picked_at (b H : Fin 16) (t : Fin 2048) (n : Fin 8) : val_main_v31 (F := Ideal) A1 A4 (ix4 b H t n) = 1#1 ↔
    (n.val < t.val / 256 ∧ (Finset.univ.filter fun m => Ahead (rowGate A1 A4 b H t) m n).card < 3) := by
  have r : val_main_v31 (F := Ideal) A1 A4 (ix4 b H t n) = IntOp.andi (Finset.fold IntOp.ori 0#1
      (fun x : Fin 3 => IntOp.cmpi .eq (val_main_indices (F := Ideal) A1 A4 (ix4 b H t x)) (BitVec.ofNat 32 n.val)) Finset.univ) (val_main_v30 (F := Ideal) (ix4 b H t n)) := by
    unfold val_main_v31 val_main_v28 val_main_v27 val_main_v26 val_main_v25 val_main_v24 val_main_v23 val_main_v22
    generalize val_main_indices A1 A4 = g
    generalize val_main_v30 (F := Ideal) = p
    pointwise [val_main_c_0]
  have a1 : ∀ x y : BitVec 1, IntOp.andi x y = 1#1 ↔ x = 1#1 ∧ y = 1#1 := by decide
  rw [r, a1, past_at, fold_ori, and_comm]
  refine and_congr ?_ ?_
  · by_cases hp : n.val < t.val / 256 <;> simp [hp]
  rw [← mem_top_iff (rowGate A1 A4 b H t) (fun a c => FloatOps.cmpfTotal (F := Ideal) (φ := .f32) .gt (rowGate A1 A4 b H t a) (rowGate A1 A4 b H t c) == 1#1)
    (fun a c => ?_) 3 n]
  · constructor
    · rintro ⟨x, -, h⟩
      rw [ahead_at, cmpi_eq_ofNat_eq_one_iff (by have := Fin.isLt (sortedFrom (fun a c => FloatOps.cmpfTotal (F := Ideal) (φ := .f32) .gt (rowGate A1 A4 b H t a) (rowGate A1 A4 b H t c) == 1#1) (⟨x.val, by omega⟩ : Fin 8)); norm_num; omega)
        (by have := n.isLt; norm_num; omega)] at h
      exact ⟨⟨x.val, by omega⟩, x.isLt, Fin.ext h⟩
    · rintro ⟨x, hx, h⟩
      refine ⟨⟨x.val, hx⟩, Finset.mem_univ _, ?_⟩
      rw [ahead_at, h]
      simp [IntOp.cmpi]
  · simp only [FloatOps.cmpfTotal, Ideal.cmpTotal, Ideal.cmp, CmpDirection.ordered, beq_iff_eq]
    by_cases hp : rowGate A1 A4 b H t c < rowGate A1 A4 b H t a <;> simp [hp]

/-- The keys a query attends to: those of its own block up to itself, and the blocks picked. -/
def RowSees (b H : Fin 16) (t u : Fin 2048) : Prop :=
  if t.val / 256 = u.val / 256 then u.val ≤ t.val
  else u.val / 256 < t.val / 256 ∧ (Finset.univ.filter fun m => Ahead (rowGate A1 A4 b H t) m ⟨u.val / 256, by omega⟩).card < 3

instance (b H : Fin 16) (t u : Fin 2048) : Decidable (RowSees A1 A4 b H t u) := by unfold RowSees; infer_instance

/-- The distance of a key behind a query. -/
def distWord (t u : ℕ) : BitVec 32 := IntOp.subi (BitVec.ofNat 32 t) (BitVec.ofNat 32 u)

/-- The logit of a key for a query. -/
def rowLogit (b H : Fin 16) (t u : Fin 2048) : EReal :=
  if RowSees A1 A4 b H t u then (∑ x : Fin 64, A1 (ix3 b t ⟨H.val * 64 + x.val, by omega⟩) * A2 (ix3 b u ⟨H.val * 64 + x.val, by omega⟩)) * ((Real.log 2 : ℝ) : EReal)
    + A0 (ix2 (bucketRow (distWord t.val u.val)) H) else ⊥

theorem two : Ideal.ofBits FTy.f32 0x40000000#32 = ((2 : ℝ) : EReal) := by
  have h : Ideal.ofBits FTy.f32 0x40000000#32 = (((8388608 : ℝ) * (2 ^ 22)⁻¹ : ℝ) : EReal) := by simp [Ideal.ofBits, Ideal.ieee]
  rw [h]
  norm_num

theorem log_two : Ideal.log (Ideal.ofBits FTy.f32 0x40000000#32) = ((Real.log 2 : ℝ) : EReal) := by
  rw [two]
  show (if (2 : ℝ) ≤ 0 then ⊥ else ((Real.log 2 : ℝ) : EReal)) = _
  rw [if_neg (by norm_num)]

theorem dot_at (b H : Fin 16) (t u : Fin 2048) : val_main_v35 (F := Ideal) A1 A2 (ix4 b H t u) =
    (∑ x : Fin 64, A1 (ix3 b t ⟨H.val * 64 + x.val, by omega⟩) * A2 (ix3 b u ⟨H.val * 64 + x.val, by omega⟩)) * ((Real.log 2 : ℝ) : EReal) := by
  pointwise [val_main_v35, val_main_v34, val_main_v33, val_main_cst_1, val_main_v32, val_main_v5, val_main_v4, val_main_v3, val_main_v2, val_main_v1, val_main_v0]
  rw [← log_two]

theorem dist_at (t u : Fin 2048) : val_main_v40 (F := Ideal) (ix2 t u) = distWord t.val u.val := by
  pointwise [val_main_v40, val_main_v39, val_main_v38, val_main_v37, val_main_v36, val_main_v10]
  rfl

theorem bucket_at (t u : Fin 2048) : val_main_v66 (F := Ideal) (ix2 t u) = bucketWord (distWord t.val u.val) := by
  rw [← dist_at]
  unfold val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42
  generalize val_main_v40 (F := Ideal) = d
  pointwise [val_main_c_2, val_main_c_3, val_main_c_4, val_main_c_8, val_main_c_9, val_main_c_10, val_main_c_11, val_main_cst_5, val_main_cst_6, val_main_cst_7]
  unfold bucketWord
  rfl

theorem bias_at (H : Fin 16) (t u : Fin 2048) : val_main_v68 (F := Ideal) A0 (ix3 H t u) = A0 (ix2 (bucketRow (distWord t.val u.val)) H) := by
  have f := columns3_at (C := 16) (N := 32) (R := 2048) (S := 2048) (by omega) gather_S16x32_S2048x2048x1_S16x2048x2048_0_1_n_n_1_2_161_wf (val_main_v41 (F := Ideal) A0) (val_main_v67 (F := Ideal)) H t u
  have e : val_main_v67 (F := Ideal) (ix3 t u 0) = bucketWord (distWord t.val u.val) := by
    rw [← bucket_at]
    unfold val_main_v67
    generalize val_main_v66 (F := Ideal) = d
    pointwise
  have r : ∀ n : Fin 32, val_main_v41 (F := Ideal) A0 (ix2 H n) = A0 (ix2 n H) := by
    intro n
    pointwise [val_main_v41]
  unfold val_main_v68
  refine f.trans ((r _).trans (congrArg (fun n => A0 (ix2 n H)) (Fin.ext ?_)))
  show min _ _ = min _ _
  rw [e]

theorem logit_read (b H : Fin 16) (t u : Fin 2048) : val_main_v84 (F := Ideal) A0 A1 A2 A4 (ix4 b H t u) =
    Scalar.select (Scalar.select (IntOp.cmpi CmpIPredicate.eq (IntOp.divsi ArithUnit.host (BitVec.ofNat 32 t.val) 256#32) (IntOp.divsi ArithUnit.host (BitVec.ofNat 32 u.val) 256#32))
      (IntOp.cmpi CmpIPredicate.sge (val_main_v40 (F := Ideal) (ix2 t u)) 0#32) (val_main_v31 (F := Ideal) A1 A4 (ix4 b H t ⟨u.val / 256, by omega⟩)))
      (val_main_v35 (F := Ideal) A1 A2 (ix4 b H t u) + val_main_v68 (F := Ideal) A0 (ix3 H t u)) (id (constant (F := Ideal) S_ FTy.f32 0xFF800000#32) ix0) := by
  unfold val_main_v84 val_main_v71 val_main_v83 val_main_v82
  generalize val_main_v35 A1 A2 = M
  unfold val_main_v70 val_main_v69 val_main_v81
  generalize val_main_v31 A1 A4 = s
  generalize val_main_v68 A0 = N
  unfold  val_main_call2_v1 val_main_v80 val_main_v79
  generalize val_main_v40 (F := Ideal) = d
  pointwise [val_main_call2_v0, val_main_v77, val_main_v76, val_main_v75, val_main_v74, val_main_v73, val_main_v72, val_main_v12, val_main_v11, val_main_v10, val_main_c, val_main_call3_v1, val_main_call3_v0, val_main_cst_13, val_main_v78, val_main_c_12]

theorem dist_nonneg (t u : ℕ) (ht : t < 2048) (hu : u < 2048) : IntOp.cmpi .sge (distWord t u) 0#32 = BitVec.ofBool (decide (u ≤ t)) := by
  rw [cmpi_sge_zero]
  congr 1
  unfold distWord IntOp.subi
  rw [BitVec.toNat_sub]
  simp
  omega

theorem logit_row (b H : Fin 16) (t u : Fin 2048) : val_main_v84 (F := Ideal) A0 A1 A2 A4 (ix4 b H t u) = rowLogit A0 A1 A2 A4 b H t u := by
  rw [logit_read, dot_at, bias_at, dist_at, half_word _ t.isLt, half_word _ u.isLt, dist_nonneg _ _ t.isLt u.isLt,
    cmpi_eq_ofNat (by have := t.isLt; norm_num; omega) (by have := u.isLt; norm_num; omega), select_bit, ninf]
  unfold rowLogit RowSees
  have p := picked_at A1 A4 b H t ⟨u.val / 256, by omega⟩
  have z : ∀ x : BitVec 1, x = BitVec.ofBool (decide (x = 1#1)) := by decide
  by_cases h : t.val / 256 = u.val / 256
  · simp only [if_pos h]
    rw [select_bit]
  · simp only [if_neg h]
    rw [z (val_main_v31 _ _ _), select_bit]
    simp only [p]

end Moba
-- ==== Proof.Ready.lean ====
/- What the precondition says of the arrays, and the one bucket of all the far distances. -/
module

public import proofs.«01_k».proof.Proof.Refer
public import proofs.«01_k».proof.Pre_bias_ready

@[expose] public section

set_option maxRecDepth 16384

noncomputable section

namespace Moba

open Idealize.ShloMosaic
open Cert.Pre_bias_ready

instance readyFacts : Facts where
  bcast_S_S2x256x256 := by decide
  transposes_S32x16_S16x32_1_0 := by decide
  bcast_S2x256x256_S2x256x256x1_0_1_2 := by decide
  bcast_S_S16x2x256x256 := by decide
  bcast_S2x256x256_S16x2x256x256_1_2_3 := by decide
  bcast_S_S32x16 := by decide
  bitsLt_bf16_f32 := by decide
  bcast_S_S16x2048x1024 := by decide
  gather_S16x32_S2x256x256x1_S16x2x256x256_0_1_n_n_1_3_161_wf := by decide

variable (A0 : Vec Ideal S32x16 .f32) (A1 A2 : Vec Ideal S16x2048x1024 .bf16) (A3 : Vec Ideal S16x1024x2048 .bf16) (A4 : Vec Ideal S16x8x1024 .f32) (A5 : Vec Ideal S16x2x256x256 .f32)

theorem real_of_bit (x : EReal) (h : BitVec.ofBool (decide (FloatOps.absf (F := Ideal) (φ := .f32) x < Ideal.ofBits FTy.f32 0x7F800000#32)) = 1#1) : ∃ r : ℝ, x = r := by
  have o : Ideal.ofBits FTy.f32 0x7F800000#32 = ⊤ := by simp [Ideal.ofBits, Ideal.ieee]
  rw [o] at h
  have h' : max x (-x) < ⊤ := by
    by_contra k
    have k' : ¬ (FloatOps.absf (F := Ideal) (φ := .f32) x < ⊤) := k
    simp [k'] at h
  induction x using EReal.rec with
  | bot => simp at h'
  | top => simp at h'
  | coe r => exact ⟨r, rfl⟩

theorem bias_real (h : (fn (F := Ideal) A0 A1 A2 A3 A4 A5).1 = fun _ => 1#1) (n : Fin 32) (H : Fin 16) : ∃ r : ℝ, A0 (ix2 n H) = r := by
  refine real_of_bit _ ?_
  rw [← congrFun h (ix2 n H)]
  unfold fn fn_part1 fn_part2
  pointwise

theorem query_real (h : (fn (F := Ideal) A0 A1 A2 A3 A4 A5).2.1 = fun _ => 1#1) (b : Fin 16) (t : Fin 2048) (e : Fin 1024) : ∃ r : ℝ, A1 (ix3 b t e) = r := by
  refine real_of_bit _ ?_
  rw [← congrFun h (ix3 b t e)]
  unfold fn fn_part1 fn_part2
  pointwise

theorem key_real (h : (fn (F := Ideal) A0 A1 A2 A3 A4 A5).2.2.1 = fun _ => 1#1) (b : Fin 16) (t : Fin 2048) (e : Fin 1024) : ∃ r : ℝ, A2 (ix3 b t e) = r := by
  refine real_of_bit _ ?_
  rw [← congrFun h (ix3 b t e)]
  unfold fn fn_part1 fn_part2
  pointwise

/-- The distance of key `a` of a block behind query `c` of the block `n` after it. -/
def tileWord (n a c : ℕ) : BitVec 32 :=
  IntOp.addi (IntOp.subi (BitVec.ofNat 32 c) (BitVec.ofNat 32 a)) (IntOp.muli 256#32 (BitVec.ofNat 32 n))

theorem tileWord_eq (i j a c : ℕ) (hi : i < 8) (hj : j ≤ i) (ha : a < 256) (hc : c < 256) :
    tileWord (i - j) a c = distWord (256 * i + c) (256 * j + a) := by
  unfold tileWord distWord IntOp.addi IntOp.subi IntOp.muli
  apply BitVec.eq_of_toNat_eq
  simp [BitVec.toNat_add, BitVec.toNat_sub, BitVec.toNat_mul]
  omega

theorem gather_tile (x : Vec Ideal S16x32 .f32) (idx : IVec S2x256x256x1 32) (H : Fin 16) (n : Fin 2) (a c : Fin 256) :
    Host.gather gather_S16x32_S2x256x256x1_S16x2x256x256_0_1_n_n_1_3_161 x idx (ix4 H n a c) = x (ix2 H ⟨min (idx (ix4 n a c 0)).toInt.toNat (32 - 1), by omega⟩) :=
  columns4_at (C := 16) (N := 32) (Q := 2) (R := 256) (S := 256) (by omega) Facts.gather_S16x32_S2x256x256x1_S16x2x256x256_0_1_n_n_1_3_161_wf x idx H n a c

theorem tile_bit (H : Fin 16) (n : Fin 2) (a c : Fin 256) : (fn (F := Ideal) A0 A1 A2 A3 A4 A5).2.2.2 (ix4 H n a c) = BitVec.ofBool (decide (A5 (ix4 H n a c) =
    Scalar.select (IntOp.cmpi CmpIPredicate.sge (tileWord n.val a.val c.val) 0#32)
      (Ideal.div (A0 (ix2 (bucketRow (tileWord n.val a.val c.val)) H)) (Ideal.log (Ideal.ofBits FTy.f32 0x40000000#32))) (Ideal.ofBits FTy.f32 0xFF800000#32))) := by
  unfold fn fn_part1 fn_part2
  pointwise
  rw [gather_tile]
  pointwise
  unfold bucketRow bucketWord
  rfl

theorem tile_eq (h : (fn (F := Ideal) A0 A1 A2 A3 A4 A5).2.2.2 = fun _ => 1#1) (H : Fin 16) (n : Fin 2) (a c : Fin 256) : A5 (ix4 H n a c) =
    if a.val ≤ 256 * n.val + c.val then A0 (ix2 (bucketRow (tileWord n.val a.val c.val)) H) * (((Real.log 2)⁻¹ : ℝ) : EReal) else ⊥ := by
  have k := (tile_bit A0 A1 A2 A3 A4 A5 H n a c).symm.trans (congrFun h _)
  have o : Ideal.ofBits FTy.f32 0xFF800000#32 = ⊥ := by simp [Ideal.ofBits, Ideal.ieee]
  have w : IntOp.cmpi CmpIPredicate.sge (tileWord n.val a.val c.val) 0#32 = BitVec.ofBool (decide (a.val ≤ 256 * n.val + c.val)) := by
    have t := tileWord_eq n.val 0 a.val c.val (by omega) (by omega) a.isLt c.isLt
    rw [Nat.sub_zero, Nat.mul_zero, Nat.zero_add] at t
    rw [t, dist_nonneg _ _ (by omega) (by omega)]
  have d : ∀ x : EReal, Ideal.div x ((Real.log 2 : ℝ) : EReal) = x * (((Real.log 2)⁻¹ : ℝ) : EReal) := by
    intro x
    unfold Ideal.div
    rw [if_neg (by exact_mod_cast (Real.log_pos (by norm_num : (1 : ℝ) < 2)).ne'), EReal.coe_inv]
  rw [w, select_bit, log_two, o, d] at k
  by_contra q
  simp [q] at k

/-! ## The far bucket -/

theorem max_word (d e : ℕ) (hd : d < 2 ^ 31) (he : e ≤ d) : IntOp.maxsi (BitVec.ofNat 32 d) (BitVec.ofNat 32 e) = BitVec.ofNat 32 d := by
  unfold IntOp.maxsi
  have t : ∀ n : ℕ, n < 2 ^ 31 → (BitVec.ofNat 32 n).toInt = n := by
    intro n hn
    rw [BitVec.toInt_eq_toNat_of_lt (by simp; omega)]
    simp; omega
  by_cases h : e = d
  · subst h; simp
  · rw [if_pos]
    rw [BitVec.slt_iff_toInt_lt, t e (by omega), t d hd]
    omega

theorem min_word (d e : ℕ) (hd : d < 2 ^ 31) (he : e ≤ d) : IntOp.minsi (BitVec.ofNat 32 d) (BitVec.ofNat 32 e) = BitVec.ofNat 32 e := by
  unfold IntOp.minsi
  have t : ∀ n : ℕ, n < 2 ^ 31 → (BitVec.ofNat 32 n).toInt = n := by
    intro n hn
    rw [BitVec.toInt_eq_toNat_of_lt (by simp; omega)]
    simp; omega
  rw [if_neg]
  rw [BitVec.slt_iff_toInt_lt, t e (by omega), t d hd]
  omega

/-- The octaves past 16 of a distance of at least 256 are more than the table's last bucket. -/
theorem octaves (d : ℕ) (h1 : 256 ≤ d) (h2 : d < 2048) :
    ∃ k : ℕ, 15 ≤ k ∧ k ≤ 2000 ∧ Ideal.fptosi 32 (Ideal.div (Ideal.log (Ideal.div ((d : ℝ) : EReal) (Ideal.ofBits FTy.f32 0x41800000#32))) (Ideal.ofBits FTy.f32 0x40051592#32)
      * Ideal.ofBits FTy.f32 0x41800000#32) = BitVec.ofNat 32 k := by
  have o1 : Ideal.ofBits FTy.f32 0x41800000#32 = ((16 : ℝ) : EReal) := by
    have h : Ideal.ofBits FTy.f32 0x41800000#32 = (((8388608 : ℝ) * (2 ^ 19)⁻¹ : ℝ) : EReal) := by simp [Ideal.ofBits, Ideal.ieee]
    rw [h]
    norm_num
  have o2 : Ideal.ofBits FTy.f32 0x40051592#32 = (((8721810 : ℝ) * (2 ^ 22)⁻¹ : ℝ) : EReal) := by simp [Ideal.ofBits, Ideal.ieee]
  have dv : ∀ x y : ℝ, y ≠ 0 → Ideal.div (x : EReal) (y : EReal) = ((x * y⁻¹ : ℝ) : EReal) := by
    intro x y hy
    unfold Ideal.div
    rw [if_neg (by exact_mod_cast hy), EReal.coe_mul, EReal.coe_inv]
  have hd : (256 : ℝ) ≤ d := by exact_mod_cast h1
  have hd' : (d : ℝ) ≤ 2048 := by exact_mod_cast h2.le
  have lg : Ideal.log (((d : ℝ) * (16 : ℝ)⁻¹ : ℝ) : EReal) = ((Real.log ((d : ℝ) * (16 : ℝ)⁻¹) : ℝ) : EReal) := by
    show (if (d : ℝ) * (16 : ℝ)⁻¹ ≤ 0 then ⊥ else _) = _
    rw [if_neg (by rw [not_le]; positivity)]
  rw [o1, o2, dv _ _ (by norm_num), lg, dv _ _ (by norm_num), ← EReal.coe_mul]
  have lo : 2 ≤ Real.log ((d : ℝ) * (16 : ℝ)⁻¹) := by
    have e : Real.log (16 : ℝ) = 4 * Real.log 2 := by
      rw [show (16 : ℝ) = 2 ^ 4 by norm_num, Real.log_pow]; norm_num
    have m : Real.log (16 : ℝ) ≤ Real.log ((d : ℝ) * (16 : ℝ)⁻¹) := Real.log_le_log (by norm_num) (by norm_num; linarith)
    have := Real.one_sub_inv_le_log_of_pos (show (0 : ℝ) < 2 by norm_num)
    norm_num at this
    linarith
  have hi : Real.log ((d : ℝ) * (16 : ℝ)⁻¹) ≤ 127 := by
    have := Real.log_le_sub_one_of_pos (show 0 < (d : ℝ) * (16 : ℝ)⁻¹ by positivity)
    norm_num at this ⊢
    linarith
  generalize Real.log ((d : ℝ) * (16 : ℝ)⁻¹) = x at lo hi
  have y1 : 15 ≤ x * ((8721810 : ℝ) * (2 ^ 22)⁻¹)⁻¹ * 16 := by norm_num; linarith
  have y2 : x * ((8721810 : ℝ) * (2 ^ 22)⁻¹)⁻¹ * 16 ≤ 2000 := by norm_num; linarith
  generalize x * ((8721810 : ℝ) * (2 ^ 22)⁻¹)⁻¹ * 16 = y at y1 y2
  have f1 : (15 : ℤ) ≤ ⌊y⌋ := Int.le_floor.mpr (by exact_mod_cast y1)
  have f2 : ⌊y⌋ ≤ (2000 : ℤ) := by
    have := Int.floor_le y
    have h : ((⌊y⌋ : ℤ) : ℝ) ≤ ((2000 : ℤ) : ℝ) := by push_cast; linarith
    exact_mod_cast h
  refine ⟨⌊y⌋.toNat, by omega, by omega, ?_⟩
  show BitVec.ofInt 32 (max _ (min _ (if 0 ≤ y then ⌊y⌋ else ⌈y⌉))) = _
  rw [if_pos (by linarith), min_eq_right (by norm_num; omega), max_eq_right (by norm_num; omega)]
  conv_lhs => rw [← Int.toNat_of_nonneg (show 0 ≤ ⌊y⌋ by omega)]
  exact BitVec.ofInt_natCast 32 _

theorem word_real (d : ℕ) (h : d < 2048) : (FloatOps.sitofp (F := Ideal) FTy.f32 (BitVec.ofNat 32 d) : EReal) = ((d : ℝ) : EReal) := by
  have t : (BitVec.ofNat 32 d).toInt = d := by
    rw [BitVec.toInt_eq_toNat_of_lt (by simp; omega)]
    simp; omega
  show ((((BitVec.ofNat 32 d).toInt : ℤ) : ℝ) : EReal) = _
  rw [t]
  norm_cast

theorem far_word (d k : ℕ) (h1 : 256 ≤ d) (h2 : d < 2048) (k1 : 15 ≤ k) (k2 : k ≤ 2000) :
    (let n := BitVec.ofNat 32 d
     let r := Scalar.select (IntOp.cmpi .slt n 16#32) n (IntOp.minsi (IntOp.addi 16#32 (BitVec.ofNat 32 k)) 31#32)
     Scalar.select (IntOp.cmpi .slt r 0#32) (IntOp.addi r 32#32) r) = 31#32 := by
  dsimp only
  have a : IntOp.minsi (IntOp.addi 16#32 (BitVec.ofNat 32 k)) 31#32 = 31#32 := by
    rw [show IntOp.addi 16#32 (BitVec.ofNat 32 k) = BitVec.ofNat 32 (16 + k) from (BitVec.ofNat_add ..).symm]
    exact min_word (16 + k) 31 (by omega) (by omega)
  have b : IntOp.cmpi .slt (BitVec.ofNat 32 d) 16#32 = BitVec.ofBool (decide (d < 16)) :=
    WordCmp.cmpi_slt_ofNat (by norm_num; omega) (by norm_num)
  rw [a, b, select_bit, if_neg (by omega)]
  decide

/-- A distance's word, with its octave named. -/
theorem bucket_step (d n k : BitVec 32) (e0 : IntOp.maxsi d 0#32 = n) (e1 : IntOp.maxsi n 1#32 = n)
    (hk : FloatOps.fptosi (F := Ideal) (φ := .f32) 32 (Ideal.div (Ideal.log (Ideal.div (FloatOps.sitofp (F := Ideal) FTy.f32 n)
      (Ideal.ofBits FTy.f32 0x41800000#32))) (Ideal.ofBits FTy.f32 0x40051592#32) * Ideal.ofBits FTy.f32 0x41800000#32) = k) :
    bucketWord d = (let r := Scalar.select (IntOp.cmpi .slt n 16#32) n (IntOp.minsi (IntOp.addi 16#32 k) 31#32)
      Scalar.select (IntOp.cmpi .slt r 0#32) (IntOp.addi r 32#32) r) := by
  unfold bucketWord
  simp only [e0, e1, hk]

theorem bucketRow_of (w : BitVec 32) (h : bucketWord w = 31#32) : bucketRow w = 31 := by
  apply Fin.ext
  show min (bucketWord w).toInt.toNat 31 = 31
  rw [h]
  decide

theorem far_bucket (d : ℕ) (h1 : 256 ≤ d) (h2 : d < 2048) : bucketRow (BitVec.ofNat 32 d) = 31 := by
  obtain ⟨k, k1, k2, hk⟩ := octaves d h1 h2
  rw [← word_real d h2] at hk
  refine bucketRow_of _ ((bucket_step _ _ (BitVec.ofNat 32 k) (max_word d 0 (by omega) (by omega)) (max_word d 1 (by omega) (by omega)) hk).trans ?_)
  exact far_word d k h1 h2 k1 k2

end Moba
-- ==== Proof.Average.lean ====
/- The reference read at an index: the softmax average of the values. -/
module

public import proofs.«01_k».proof.Proof.Refer

@[expose] public section

set_option maxRecDepth 16384

noncomputable section

namespace Moba

open Cert.ReferenceIdeal Cert.ReferenceIdeal.Gen Cert.ReferenceIdeal.Read Idealize.ShloMosaic Idealize.SL.Sem

variable (A0 : Vec Ideal S32x16 .f32) (A1 A2 : Vec Ideal S16x2048x1024 .bf16) (A3 : Vec Ideal S16x1024x2048 .bf16) (A4 : Vec Ideal S16x8x1024 .f32)

theorem max_entry (z : Vec Ideal S_ .f32) (s : Vec Ideal S16x16x2048 .f32) (b H : Fin 16) (t : Fin 2048) :
    maximumf (F := Ideal) (φ := .f32) (broadcastInDim S16x16x2048 ![] bcast_S_S16x16x2048 z) s (ix3 b H t) = max (z ix0) (s (ix3 b H t)) := by
  pointwise

theorem max_read (b H : Fin 16) (t : Fin 2048) : val_main_v87 (F := Ideal) A0 A1 A2 A4 (ix3 b H t) =
    max (val_main_cst_15 (F := Ideal) ix0) (val_main_v85 (F := Ideal) A0 A1 A2 A4 (ix3 b H t)) := by
  unfold val_main_v87 val_main_v86
  exact max_entry _ _ b H t

theorem max_fold (b H : Fin 16) (t : Fin 2048) : val_main_v85 (F := Ideal) A0 A1 A2 A4 (ix3 b H t) =
    Finset.fold max (val_main_cst_14 (F := Ideal) (Shape.Idx.first h_S_)) (fun x : Fin 2048 => val_main_v84 (F := Ideal) A0 A1 A2 A4 (ix4 b H t x)) Finset.univ := by
  unfold val_main_v85
  generalize val_main_v84 (F := Ideal) A0 A1 A2 A4 = s
  generalize val_main_cst_14 (F := Ideal) = z
  exact max_last (n0 := 16) (n1 := 16) (n2 := 2048) (n3 := 2048) s z reducesTo_S16x16x2048x2048_S16x16x2048_d3 b H t

theorem max_at (b H : Fin 16) (t : Fin 2048) : val_main_v87 (F := Ideal) A0 A1 A2 A4 (ix3 b H t) = Finset.univ.sup (rowLogit A0 A1 A2 A4 b H t) := by
  have o : Ideal.ofBits FTy.f32 0xFF800000#32 = ⊥ := by simp [Ideal.ofBits, Ideal.ieee]
  have i' : val_main_cst_15 (F := Ideal) ix0 = (⊥ : EReal) := by
    unfold val_main_cst_15
    exact o
  have i : val_main_cst_14 (F := Ideal) (Shape.Idx.first h_S_) = (⊥ : EReal) := by
    unfold val_main_cst_14
    exact o
  rw [max_read, max_fold, i', i, max_eq_right bot_le, fold_sup]
  simp only [logit_row]

/-- The reference at a query and a coordinate: the values' average, weighted by the softmax of the logits. -/
theorem result_at (b : Fin 16) (t : Fin 2048) (e : Fin 1024) : val_main_v99 (F := Ideal) A0 A1 A2 A3 A4 (ix3 b t e) =
    ∑ u : Fin 2048, Ideal.div (Ideal.exp (rowLogit A0 A1 A2 A4 b ⟨e.val / 64, by omega⟩ t u - Finset.univ.sup (rowLogit A0 A1 A2 A4 b ⟨e.val / 64, by omega⟩ t)))
      (∑ w : Fin 2048, Ideal.exp (rowLogit A0 A1 A2 A4 b ⟨e.val / 64, by omega⟩ t w - Finset.univ.sup (rowLogit A0 A1 A2 A4 b ⟨e.val / 64, by omega⟩ t))) * A3 (ix3 b e u) := by
  have r : val_main_v99 (F := Ideal) A0 A1 A2 A3 A4 (ix3 b t e) =
      ∑ u : Fin 2048, Ideal.div (Ideal.exp (val_main_v84 (F := Ideal) A0 A1 A2 A4 (ix4 b ⟨e.val / 64, by omega⟩ t u) - val_main_v87 (F := Ideal) A0 A1 A2 A4 (ix3 b ⟨e.val / 64, by omega⟩ t)))
      (Ideal.ofBits FTy.f32 0#32 + ∑ w : Fin 2048, Ideal.exp (val_main_v84 (F := Ideal) A0 A1 A2 A4 (ix4 b ⟨e.val / 64, by omega⟩ t w) - val_main_v87 (F := Ideal) A0 A1 A2 A4 (ix3 b ⟨e.val / 64, by omega⟩ t))) * A3 (ix3 b e u) := by
    unfold val_main_v99 val_main_v98 val_main_v97 val_main_v96 val_main_v95 val_main_v94 val_main_v93 val_main_v92 val_main_v91 val_main_v90 val_main_v89 val_main_v88 val_main_v7 val_main_v6
    generalize val_main_v84 A0 A1 A2 A4 = s
    generalize val_main_v87 A0 A1 A2 A4 = M
    pointwise [val_main_cst_16]
  have o : Ideal.ofBits FTy.f32 0#32 = 0 := by simp [Ideal.ofBits, Ideal.ieee]
  rw [r, o]
  simp only [logit_row, max_at, zero_add]

end Moba
-- ==== Proof.Bridge.lean ====
/- The kernel's logits are the reference's in units of `log 2`, and so the two averages are one. -/
module

public import proofs.«01_k».proof.Proof.Point
public import proofs.«01_k».proof.Proof.Logits
public import proofs.«01_k».proof.Proof.Softmax
public import proofs.«01_k».proof.Proof.Ready
public import proofs.«01_k».proof.Proof.Average

@[expose] public section

set_option maxRecDepth 16384

noncomputable section

namespace Moba

open Idealize.ShloMosaic
open Cert.KernelIdeal (S32x16 S16x2048x1024 S16x1024x2048 S16x8x1024 S16x2x256x256)

/-- The half of a pair of heads' lanes that one head owns. -/
theorem half_sum (q : ℕ) (hq : q < 2) (f : Fin 128 → EReal) :
    ∑ l : Fin 128, (if l.val / 64 = q then f l else 0) = ∑ x : Fin 64, f ⟨64 * q + x.val, by omega⟩ := by
  refine (Fin.sum_univ_add fun l : Fin (64 + 64) => if l.val / 64 = q then f l else 0).trans ?_
  have lo : ∀ x : Fin 64, (Fin.castAdd 64 x).val / 64 = 0 := fun x => by rw [Fin.val_castAdd]; omega
  have hi : ∀ x : Fin 64, (Fin.natAdd 64 x).val / 64 = 1 := fun x => by rw [Fin.val_natAdd]; omega
  obtain rfl | rfl : q = 0 ∨ q = 1 := by omega
  · have a : ∑ x : Fin 64, (if (Fin.castAdd 64 x).val / 64 = 0 then f (Fin.castAdd 64 x) else 0) = ∑ x : Fin 64, f ⟨64 * 0 + x.val, by omega⟩ :=
      Finset.sum_congr rfl fun x _ => (if_pos (lo x)).trans (congrArg f (Fin.ext (by rw [Fin.val_castAdd]; dsimp only; omega)))
    have b : ∑ x : Fin 64, (if (Fin.natAdd 64 x).val / 64 = 0 then f (Fin.natAdd 64 x) else 0) = 0 :=
      Finset.sum_eq_zero fun x _ => if_neg (by rw [hi x]; omega)
    exact (congrArg₂ (· + ·) a b).trans (add_zero _)
  · have a : ∑ x : Fin 64, (if (Fin.castAdd 64 x).val / 64 = 1 then f (Fin.castAdd 64 x) else 0) = 0 :=
      Finset.sum_eq_zero fun x _ => if_neg (by rw [lo x]; omega)
    have b : ∑ x : Fin 64, (if (Fin.natAdd 64 x).val / 64 = 1 then f (Fin.natAdd 64 x) else 0) = ∑ x : Fin 64, f ⟨64 * 1 + x.val, by omega⟩ :=
      Finset.sum_congr rfl fun x _ => (if_pos (hi x)).trans (congrArg f (Fin.ext (by rw [Fin.val_natAdd])))
    exact (congrArg₂ (· + ·) a b).trans (zero_add _)

/-- Of the blocks before a query's own, at most two are ahead of any while there are at most three. -/
theorem few_ahead (g : Fin 8 → EReal) (i : ℕ) (hi : i ≤ 3) (hg : ∀ m : Fin 8, i ≤ m.val → g m = ⊥) (j : Fin 8) (hj : j.val < i) :
    (Finset.univ.filter fun m => Ahead g m j).card < 3 := by
  have sub : (Finset.univ.filter fun m => Ahead g m j) ⊆ Finset.univ.filter fun m : Fin 8 => m.val < i ∧ m ≠ j := by
    intro m hm
    have ha : Ahead g m j := (Finset.mem_filter.mp hm).2
    refine Finset.mem_filter.mpr ⟨Finset.mem_univ _, ?_, ?_⟩
    · by_contra k
      have hb := hg m (by omega)
      rcases ha with h | ⟨-, h⟩
      · rw [hb] at h
        exact not_lt_bot h
      · exact absurd (Fin.lt_def.mp h) (by omega)
    · rintro rfl
      rcases ha with h | ⟨-, h⟩
      · exact lt_irrefl _ h
      · exact lt_irrefl _ h
  refine lt_of_le_of_lt (Finset.card_le_card sub) ?_
  clear sub hg
  revert j
  interval_cases i <;> decide

theorem sum_real {n : ℕ} (f g : Fin n → EReal) (hf : ∀ x, ∃ r : ℝ, f x = r) (hg : ∀ x, ∃ r : ℝ, g x = r) : ∃ r : ℝ, ∑ x, f x * g x = r := by
  choose F hF using hf
  choose G hG using hg
  refine ⟨∑ x, F x * G x, ?_⟩
  simp only [hF, hG]
  classical
  induction (Finset.univ : Finset (Fin n)) using Finset.induction_on with
  | empty => simp
  | insert a S ha ih => rw [Finset.sum_insert ha, Finset.sum_insert ha, ih, EReal.coe_add, EReal.coe_mul]

theorem rescale (r s : ℝ) : ((r : EReal) + (s : EReal) * (((Real.log 2)⁻¹ : ℝ) : EReal)) * ((Real.log 2 : ℝ) : EReal) = (r : EReal) * ((Real.log 2 : ℝ) : EReal) + (s : EReal) := by
  have h : Real.log 2 ≠ 0 := (Real.log_pos (by norm_num)).ne'
  rw [← EReal.coe_mul, ← EReal.coe_mul, ← EReal.coe_add, ← EReal.coe_add, ← EReal.coe_mul]
  congr 1
  field_simp

variable (A0 : Vec Ideal S32x16 .f32) (A1 A2 : Vec Ideal S16x2048x1024 .bf16) (A3 : Vec Ideal S16x1024x2048 .bf16)
  (A4 : Vec Ideal S16x8x1024 .f32) (A5 : Vec Ideal S16x2x256x256 .f32)

/-- Head `h` of the heads a grid point holds. -/
abbrev headAt (p h : Fin 4) : Fin 16 := ⟨4 * p.val + h.val, by omega⟩

/-- A query's product with a key, over a head's coordinates. -/
abbrev dotOf (b H : Fin 16) (t u : Fin 2048) : EReal :=
  ∑ x : Fin 64, A1 (ix3 b t ⟨H.val * 64 + x.val, by omega⟩) * A2 (ix3 b u ⟨H.val * 64 + x.val, by omega⟩)

theorem tile_dot (b : Fin 16) (p h : Fin 4) (i : Fin 8) (c : Fin 256) (t u : Fin 2048) (ht : t.val = 256 * i.val + c.val) :
    tile (keysOf (colBlock A2 b p)) (colBlock A1 b p) h i ⟨u.val / 256, by omega⟩ (ix2 ⟨u.val % 256, by omega⟩ c) = dotOf A1 A2 b (headAt p h) t u := by
  have hu : (⟨256 * (u.val / 256) + u.val % 256, by omega⟩ : Fin 2048) = u := Fin.ext (by simp; omega)
  have ht' : (⟨256 * i.val + c.val, by omega⟩ : Fin 2048) = t := Fin.ext ht.symm
  rw [tile_apply]
  dsimp only
  rw [hu, ht']
  refine Eq.trans (Finset.sum_congr rfl fun l _ => ?_) ((half_sum (h.val % 2) (by omega) fun l : Fin 128 =>
    A1 (ix3 b t ⟨256 * p.val + (128 * (h.val / 2) + l.val), by omega⟩) * A2 (ix3 b u ⟨256 * p.val + (128 * (h.val / 2) + l.val), by omega⟩)).trans ?_)
  · show (if l.val / 64 = h.val % 2 then A2 (ix3 b u ⟨256 * p.val + (128 * (h.val / 2) + l.val), _⟩) else 0) * A1 (ix3 b t ⟨256 * p.val + (128 * (h.val / 2) + l.val), _⟩) = _
    split
    · exact mul_comm _ _
    · exact zero_mul _
  · refine Finset.sum_congr rfl fun x _ => ?_
    have e : (⟨256 * p.val + (128 * (h.val / 2) + (64 * (h.val % 2) + x.val)), by omega⟩ : Fin 1024) = ⟨(headAt p h).val * 64 + x.val, by simp; omega⟩ :=
      Fin.ext (by simp; omega)
    dsimp only
    rw [e]

theorem gate_row (b : Fin 16) (p h : Fin 4) (t : Fin 2048) : gateOf (colBlock A1 b p) (meanBlock A4 b p) h t = rowGate A1 A4 b (headAt p h) t := by
  funext n
  unfold gateOf rowGate
  refine if_congr Iff.rfl ?_ rfl
  refine Eq.trans (Finset.sum_congr rfl fun l _ => ?_) ((half_sum (h.val % 2) (by omega) fun l : Fin 128 =>
    A1 (ix3 b t ⟨256 * p.val + (128 * (h.val / 2) + l.val), by omega⟩) * A4 (ix3 b n ⟨256 * p.val + (128 * (h.val / 2) + l.val), by omega⟩)).trans ?_)
  · show (if l.val / 64 = h.val % 2 then A4 (ix3 b n ⟨256 * p.val + (128 * (h.val / 2) + l.val), _⟩) else 0) * A1 (ix3 b t ⟨256 * p.val + (128 * (h.val / 2) + l.val), _⟩) = _
    split
    · exact mul_comm _ _
    · exact zero_mul _
  · refine Finset.sum_congr rfl fun x _ => ?_
    have e : (⟨256 * p.val + (128 * (h.val / 2) + (64 * (h.val % 2) + x.val)), by omega⟩ : Fin 1024) = ⟨(headAt p h).val * 64 + x.val, by simp; omega⟩ :=
      Fin.ext (by simp; omega)
    dsimp only
    rw [e]

theorem mask_row (b : Fin 16) (p h : Fin 4) (t : Fin 2048) (j : Fin 8) (hj : j.val < t.val / 256) :
    maskOf (colBlock A1 b p) (meanBlock A4 b p) (ix3 h j t) = if (Finset.univ.filter fun m => Ahead (rowGate A1 A4 b (headAt p h) t) m j).card < 3 then 0 else ⊥ := by
  show (if j.val < t.val / 256 ∧ (1024 ≤ t.val → (Finset.univ.filter fun m => Ahead (gateOf (colBlock A1 b p) (meanBlock A4 b p) h t) m j).card < 3) then (0 : EReal) else ⊥) = _
  rw [gate_row]
  refine if_congr ⟨fun k => ?_, fun k => ⟨hj, fun _ => k⟩⟩ rfl rfl
  by_cases ht : 1024 ≤ t.val
  · exact k.2 ht
  · exact few_ahead _ (t.val / 256) (by omega) (fun m hm => if_neg (by omega)) j hj

/-- What the precondition gives. -/
structure Given : Prop where
  bias : ∀ (n : Fin 32) (H : Fin 16), ∃ r : ℝ, A0 (ix2 n H) = r
  query : ∀ (b : Fin 16) (t : Fin 2048) (e : Fin 1024), ∃ r : ℝ, A1 (ix3 b t e) = r
  key : ∀ (b : Fin 16) (t : Fin 2048) (e : Fin 1024), ∃ r : ℝ, A2 (ix3 b t e) = r
  near : ∀ (H : Fin 16) (n : Fin 2) (a c : Fin 256), A5 (ix4 H n a c) =
    if a.val ≤ 256 * n.val + c.val then A0 (ix2 (bucketRow (tileWord n.val a.val c.val)) H) * (((Real.log 2)⁻¹ : ℝ) : EReal) else ⊥

variable {A0 A1 A2 A5}

theorem near_row (g : Given A0 A1 A2 A5) (p h : Fin 4) (i : Fin 8) (c : Fin 256) (t u : Fin 2048) (ht : t.val = 256 * i.val + c.val)
    (h1 : u.val / 256 ≤ i.val) (h2 : i.val ≤ u.val / 256 + 1) :
    biasBlock A5 p (ix4 h ⟨(i.val - u.val / 256) % 2, by omega⟩ ⟨u.val % 256, by omega⟩ c)
      = if u.val ≤ t.val then A0 (ix2 (bucketRow (distWord t.val u.val)) (headAt p h)) * (((Real.log 2)⁻¹ : ℝ) : EReal) else ⊥ := by
  refine (g.near (headAt p h) ⟨(i.val - u.val / 256) % 2, by omega⟩ ⟨u.val % 256, by omega⟩ c).trans ?_
  have e : (i.val - u.val / 256) % 2 = i.val - u.val / 256 := by omega
  have w := tileWord_eq i.val (u.val / 256) (u.val % 256) c.val i.isLt h1 (by omega) c.isLt
  have hu : 256 * (u.val / 256) + u.val % 256 = u.val := by omega
  simp only [e, w, hu, ← ht]
  exact if_congr (by omega) rfl rfl

theorem far_row (p h : Fin 4) (t u : Fin 2048) (h1 : u.val + 256 ≤ t.val) :
    farOf A0 p h = A0 (ix2 (bucketRow (distWord t.val u.val)) (headAt p h)) * (((Real.log 2)⁻¹ : ℝ) : EReal) := by
  have e : distWord t.val u.val = BitVec.ofNat 32 (t.val - u.val) := by
    unfold distWord IntOp.subi
    apply BitVec.eq_of_toNat_eq
    simp [BitVec.toNat_sub]
    omega
  rw [e, far_bucket _ (by omega) (by omega)]
  rfl

theorem sees_past (b H : Fin 16) (t u : Fin 2048) (h : u.val / 256 < t.val / 256) :
    RowSees A1 A4 b H t u ↔ (Finset.univ.filter fun m => Ahead (rowGate A1 A4 b H t) m ⟨u.val / 256, by omega⟩).card < 3 := by
  unfold RowSees
  rw [if_neg h.ne']
  exact and_iff_right h

theorem sees_own (b H : Fin 16) (t u : Fin 2048) (h : u.val / 256 = t.val / 256) : RowSees A1 A4 b H t u ↔ u.val ≤ t.val := by
  unfold RowSees
  rw [if_pos h.symm]

theorem not_sees (b H : Fin 16) (t u : Fin 2048) (h : t.val / 256 < u.val / 256) : ¬ RowSees A1 A4 b H t u := by
  unfold RowSees
  rw [if_neg h.ne]
  exact fun k => absurd k.1 (by omega)

section
variable (g : Given A0 A1 A2 A5) (b : Fin 16) (p h : Fin 4) (i : Fin 8) (c : Fin 256) (t : Fin 2048) (ht : t.val = 256 * i.val + c.val)
include g ht

/-- A key's logit, in units of `log 2`. -/
theorem logit_val (u : Fin 2048) : logit (keysOf (colBlock A2 b p)) (maskOf (colBlock A1 b p) (meanBlock A4 b p)) (colBlock A1 b p) (biasBlock A5 p) (farOf A0 p) h i c u
    = if RowSees A1 A4 b (headAt p h) t u then dotOf A1 A2 b (headAt p h) t u
        + A0 (ix2 (bucketRow (distWord t.val u.val)) (headAt p h)) * (((Real.log 2)⁻¹ : ℝ) : EReal) else ⊥ := by
  have hti : t.val / 256 = i.val := by omega
  have ht' : (⟨256 * i.val + c.val, by omega⟩ : Fin 2048) = t := Fin.ext ht.symm
  have hm := mask_row A1 A4 b p h t ⟨u.val / 256, by omega⟩
  unfold logit
  rw [biasedTile_apply, offset_apply, tile_dot A1 A2 b p h i c t u ht, ht']
  rw [hti] at hm
  obtain ⟨r, hr⟩ := sum_real (fun x : Fin 64 => A1 (ix3 b t ⟨(headAt p h).val * 64 + x.val, by simp; omega⟩)) (fun x : Fin 64 => A2 (ix3 b u ⟨(headAt p h).val * 64 + x.val, by simp; omega⟩))
    (fun x => g.query _ _ _) (fun x => g.key _ _ _)
  have hd : dotOf A1 A2 b (headAt p h) t u = r := hr
  obtain ⟨s, hs⟩ := g.bias (bucketRow (distWord t.val u.val)) (headAt p h)
  rw [hd]
  dsimp only at hm ⊢
  rcases lt_trichotomy (u.val / 256) i.val with hj | hj | hj
  · rw [if_pos hj.le, if_neg hj.ne, hm hj, if_congr (sees_past (A1 := A1) A4 b (headAt p h) t u (by omega)) rfl rfl]
    by_cases hn : i.val ≤ u.val / 256 + 1
    · rw [if_pos hn, near_row g p h i c t u ht hj.le hn, if_pos (by omega), if_pos (by omega)]
      split
      · rw [add_zero]
      · rw [EReal.add_bot]
    · rw [if_neg hn, if_neg (by omega), far_row p h t u (by omega)]
      split
      · rw [zero_add]
      · rw [EReal.bot_add, EReal.add_bot]
  · rw [if_pos hj.le, if_pos (by omega), if_pos hj, if_congr (sees_own (A1 := A1) A4 b (headAt p h) t u (by omega)) rfl rfl, near_row g p h i c t u ht hj.le (by omega), add_zero]
    split
    · rfl
    · rw [EReal.add_bot]
  · rw [if_neg (by omega), if_neg (not_sees (A1 := A1) A4 b (headAt p h) t u (by omega))]

theorem logit_mul (u : Fin 2048) : logit (keysOf (colBlock A2 b p)) (maskOf (colBlock A1 b p) (meanBlock A4 b p)) (colBlock A1 b p) (biasBlock A5 p) (farOf A0 p) h i c u
    * ((Real.log 2 : ℝ) : EReal) = rowLogit A0 A1 A2 A4 b (headAt p h) t u := by
  rw [logit_val A4 g b p h i c t ht u]
  unfold rowLogit
  obtain ⟨r, hr⟩ := sum_real (fun x : Fin 64 => A1 (ix3 b t ⟨(headAt p h).val * 64 + x.val, by simp; omega⟩)) (fun x : Fin 64 => A2 (ix3 b u ⟨(headAt p h).val * 64 + x.val, by simp; omega⟩))
    (fun x => g.query _ _ _) (fun x => g.key _ _ _)
  obtain ⟨s, hs⟩ := g.bias (bucketRow (distWord t.val u.val)) (headAt p h)
  split
  · have hd : dotOf A1 A2 b (headAt p h) t u = r := hr
    rw [hd, hs, rescale, ← hd]
  · exact EReal.bot_mul_coe_of_pos (Real.log_pos (by norm_num))

theorem logit_ne_top (u : Fin 2048) : logit (keysOf (colBlock A2 b p)) (maskOf (colBlock A1 b p) (meanBlock A4 b p)) (colBlock A1 b p) (biasBlock A5 p) (farOf A0 p) h i c u ≠ ⊤ := by
  rw [logit_val A4 g b p h i c t ht u]
  obtain ⟨r, hr⟩ := sum_real (fun x : Fin 64 => A1 (ix3 b t ⟨(headAt p h).val * 64 + x.val, by simp; omega⟩)) (fun x : Fin 64 => A2 (ix3 b u ⟨(headAt p h).val * 64 + x.val, by simp; omega⟩))
    (fun x => g.query _ _ _) (fun x => g.key _ _ _)
  obtain ⟨s, hs⟩ := g.bias (bucketRow (distWord t.val u.val)) (headAt p h)
  split
  · have hd : dotOf A1 A2 b (headAt p h) t u = r := hr
    rw [hd, hs, ← EReal.coe_mul, ← EReal.coe_add]
    exact EReal.coe_ne_top _
  · exact bot_ne_top

theorem logit_own : logit (keysOf (colBlock A2 b p)) (maskOf (colBlock A1 b p) (meanBlock A4 b p)) (colBlock A1 b p) (biasBlock A5 p) (farOf A0 p) h i c t ≠ ⊥ := by
  rw [logit_val A4 g b p h i c t ht t]
  obtain ⟨r, hr⟩ := sum_real (fun x : Fin 64 => A1 (ix3 b t ⟨(headAt p h).val * 64 + x.val, by simp; omega⟩)) (fun x : Fin 64 => A2 (ix3 b t ⟨(headAt p h).val * 64 + x.val, by simp; omega⟩))
    (fun x => g.query _ _ _) (fun x => g.key _ _ _)
  obtain ⟨s, hs⟩ := g.bias (bucketRow (distWord t.val t.val)) (headAt p h)
  have hd : dotOf A1 A2 b (headAt p h) t t = r := hr
  rw [if_pos ((sees_own (A1 := A1) A4 b (headAt p h) t t rfl).mpr le_rfl), hd, hs, ← EReal.coe_mul, ← EReal.coe_add]
  exact EReal.coe_ne_bot _

end

section
variable (g : Given A0 A1 A2 A5) (b : Fin 16) (p h : Fin 4) (i : Fin 8) (c : Fin 256) (t : Fin 2048) (ht : t.val = 256 * i.val + c.val)
include g ht

theorem tile_ne_top_at (u : Fin 2048) (hj : u.val / 256 ≤ i.val) :
    biasedTile (keysOf (colBlock A2 b p)) (colBlock A1 b p) (biasBlock A5 p) h i ⟨u.val / 256, by omega⟩ (ix2 ⟨u.val % 256, by omega⟩ c) ≠ ⊤ := by
  rw [biasedTile_apply, tile_dot A1 A2 b p h i c t u ht]
  obtain ⟨r, hr⟩ := sum_real (fun x : Fin 64 => A1 (ix3 b t ⟨(headAt p h).val * 64 + x.val, by simp; omega⟩)) (fun x : Fin 64 => A2 (ix3 b u ⟨(headAt p h).val * 64 + x.val, by simp; omega⟩))
    (fun x => g.query _ _ _) (fun x => g.key _ _ _)
  have hd : dotOf A1 A2 b (headAt p h) t u = r := hr
  obtain ⟨s, hs⟩ := g.bias (bucketRow (distWord t.val u.val)) (headAt p h)
  rw [hd]
  dsimp only
  split
  · rename_i hn
    rw [near_row g p h i c t u ht (by omega) hn, hs]
    refine EReal.add_ne_top (EReal.coe_ne_top _) ?_
    split
    · rw [← EReal.coe_mul]
      exact EReal.coe_ne_top _
    · exact bot_ne_top
  · exact EReal.coe_ne_top _

theorem tile_ne_top (j : Fin 8) (a : Fin 256) (hj : j.val ≤ i.val) : biasedTile (keysOf (colBlock A2 b p)) (colBlock A1 b p) (biasBlock A5 p) h i j (ix2 a c) ≠ ⊤ := by
  have k := tile_ne_top_at g b p h i c t ht ⟨256 * j.val + a.val, by omega⟩ (by dsimp only; omega)
  have hj' : (⟨(256 * j.val + a.val) / 256, by omega⟩ : Fin 8) = j := Fin.ext (by simp; omega)
  have ha' : (⟨(256 * j.val + a.val) % 256, by omega⟩ : Fin 256) = a := Fin.ext (by dsimp only; omega)
  dsimp only at k
  rw [hj', ha'] at k
  exact k

theorem offset_ne_top (j : Fin 8) (hj : j.val < i.val) : offset (maskOf (colBlock A1 b p) (meanBlock A4 b p)) (farOf A0 p) h i j (ix2 0 c) ≠ ⊤ := by
  have ht' : (⟨256 * i.val + c.val, by omega⟩ : Fin 2048) = t := Fin.ext ht.symm
  have hm : maskOf (colBlock A1 b p) (meanBlock A4 b p) (ix3 h j t) ≠ ⊤ := by
    rw [mask_row A1 A4 b p h t j (by omega)]
    split
    · exact EReal.zero_ne_top
    · exact bot_ne_top
  obtain ⟨s, hs⟩ := g.bias 31 (headAt p h)
  have hf : farOf A0 p h = ((s * (Real.log 2)⁻¹ : ℝ) : EReal) := by
    rw [EReal.coe_mul, ← hs]
    rfl
  rw [offset_apply, ht', hf]
  split
  · exact hm
  · exact EReal.add_ne_top hm (EReal.coe_ne_top _)

/-- One head's average, from the kernel's side and from the reference's. -/
theorem head_eq (d : Fin 64) :
    headOut (keysOf (colBlock A2 b p)) (valuesOf (rowBlock A3 b p)) (maskOf (colBlock A1 b p) (meanBlock A4 b p)) (colBlock A1 b p) (biasBlock A5 p) (farOf A0 p) h i (ix2 d c)
      = Cert.ReferenceIdeal.Read.val_main_v99 (F := Ideal) A0 A1 A2 A3 A4 (ix3 b t ⟨256 * p.val + (64 * h.val + d.val), by omega⟩) := by
  have hB := tile_ne_top g b p h i c t ht
  have hO := offset_ne_top A4 g b p h i c t ht
  have h0 : ∃ u, logit (keysOf (colBlock A2 b p)) (maskOf (colBlock A1 b p) (meanBlock A4 b p)) (colBlock A1 b p) (biasBlock A5 p) (farOf A0 p) h i c u ≠ ⊥ :=
    ⟨t, logit_own A4 g b p h i c t ht⟩
  have hH : (⟨(256 * p.val + (64 * h.val + d.val)) / 64, by omega⟩ : Fin 16) = headAt p h := Fin.ext (by simp; omega)
  have hv : ∀ u : Fin 2048, valuesOf (rowBlock A3 b p) (ix3 h ⟨d.val, by omega⟩ u) = A3 (ix3 b ⟨256 * p.val + (64 * h.val + d.val), by omega⟩ u) := by
    intro u
    exact dif_pos d.isLt
  have h1 : ∀ u : Fin 2048, valuesOf (rowBlock A3 b p) (ix3 h 64 u) = 1 := fun u => rfl
  rw [headOut_apply, runValues_logit _ _ _ _ _ _ h i c _ hB hO h0, runValues_logit _ _ _ _ _ _ h i c _ hB hO h0, result_at, hH]
  simp only [hv, h1, one_mul]
  have hl : ∀ u, logit (keysOf (colBlock A2 b p)) (maskOf (colBlock A1 b p) (meanBlock A4 b p)) (colBlock A1 b p) (biasBlock A5 p) (farOf A0 p) h i c u
      * ((Real.log 2 : ℝ) : EReal) = rowLogit A0 A1 A2 A4 b (headAt p h) t u := logit_mul A4 g b p h i c t ht
  have hg : IsGreatest (Set.range (rowLogit A0 A1 A2 A4 b (headAt p h) t)) (Finset.univ.sup (rowLogit A0 A1 A2 A4 b (headAt p h) t)) := by
    refine ⟨?_, ?_⟩
    · obtain ⟨u, -, hu⟩ := Finset.exists_mem_eq_sup Finset.univ Finset.univ_nonempty (rowLogit A0 A1 A2 A4 b (headAt p h) t)
      exact ⟨u, hu.symm⟩
    · rintro _ ⟨u, rfl⟩
      exact Finset.le_sup (Finset.mem_univ u)
  have w := weighted_mean (logit (keysOf (colBlock A2 b p)) (maskOf (colBlock A1 b p) (meanBlock A4 b p)) (colBlock A1 b p) (biasBlock A5 p) (farOf A0 p) h i c)
    (fun u => A3 (ix3 b ⟨256 * p.val + (64 * h.val + d.val), by omega⟩ u)) _ (Finset.univ.sup (rowLogit A0 A1 A2 A4 b (headAt p h) t)) (logit_ne_top A4 g b p h i c t ht) h0 (logit_isGreatest _ _ _ _ _ h i c)
    (by simp only [hl]; exact hg)
  simp only [hl] at w
  exact w

end

/-- The kernel's output is the reference's. -/
theorem kernel_eq (g : Given A0 A1 A2 A5) (b : Fin 16) (t : Fin 2048) (e : Fin 1024) :
    kernelOut A0 A1 A2 A3 A4 A5 b t e = Cert.ReferenceIdeal.Read.val_main_v99 (F := Ideal) A0 A1 A2 A3 A4 (ix3 b t e) := by
  unfold kernelOut blockOut
  refine (head_eq A3 A4 g b ⟨e.val / 256, by omega⟩ ⟨e.val % 256 / 64, by omega⟩ ⟨t.val / 256, by omega⟩ ⟨t.val % 256, by omega⟩ t (by dsimp only; omega) ⟨e.val % 256 % 64, by omega⟩).trans ?_
  have he : (⟨256 * (e.val / 256) + (64 * (e.val % 256 / 64) + e.val % 256 % 64), by omega⟩ : Fin 1024) = e := Fin.ext (by dsimp only; omega)
  dsimp only
  rw [he]

end Moba
-- ==== Proof.Ffn.Body.lean ====
/- One grid point of the feed-forward part, as the kernel computes it: the projected rows, their three-row convolution, the gate, the sum of the products. The
   rows the kernel keeps are a parameter `R`. -/
module

public import proofs.«01_k».proof.Proof.Gen.FfnKernelIdeal.Value
public import proofs.«01_k».proof.Proof.Ring
public import Idealize.ShloMosaic.PureOps.Ideal
public import Idealize.ShloMosaic.PureOps.Ideal.Laws

@[expose] public section

noncomputable section

namespace Ffn

open Cert.FfnKernelIdeal Cert.FfnKernelIdeal.Gen Idealize.ShloMosaic Idealize.ShloMosaic.TcCoe Idealize.SL.Sem

theorem inb_rows (k c : ℕ) (hk : k ≤ 8) (hc : c < 22) : ∀ a, (![k, 256 * c] : Fin 2 → ℕ) a + S512x256.size a ≤ S520x5632.size a := by
  intro a; fin_cases a <;> simp [S512x256, S520x5632] <;> omega

theorem inb_w (c : ℕ) (hc : c < 22) : ∀ a, (![0, 256 * c] : Fin 2 → ℕ) a + S3x256.size a ≤ S3x5632.size a := by
  intro a; fin_cases a <;> simp [S3x256, S3x5632] <;> omega

theorem inb_b (c : ℕ) (hc : c < 22) : ∀ a, (![0, 256 * c] : Fin 2 → ℕ) a + S1x256.size a ≤ S1x5632.size a := by
  intro a; fin_cases a <;> simp [S1x256, S1x5632] <;> omega

theorem inb_up (c : ℕ) (hc : c < 22) : ∀ a, (![0, 256 * c] : Fin 2 → ℕ) a + S1024x256.size a ≤ S1024x5632.size a := by
  intro a; fin_cases a <;> simp [S1024x256, S1024x5632] <;> omega

theorem inb_down (c : ℕ) (hc : c < 11) : ∀ a, (![256 * c, 0] : Fin 2 → ℕ) a + S256x1024.size a ≤ S2816x1024.size a := by
  intro a; fin_cases a <;> simp [S256x1024, S2816x1024] <;> omega

theorem inb_top : ∀ a, (![0, 0] : Fin 2 → ℕ) a + S8x5632.size a ≤ S520x5632.size a := by
  intro a; fin_cases a <;> simp [S8x5632, S520x5632]

theorem inb_last : ∀ a, (![512, 0] : Fin 2 → ℕ) a + S8x5632.size a ≤ S520x5632.size a := by
  intro a; fin_cases a <;> simp [S8x5632, S520x5632]

theorem inb_out : ∀ a, (![0, 0, 0] : Fin 3 → ℕ) a + S1x512x1024.size a ≤ S1x512x1024.size a := by
  intro a; fin_cases a <;> simp [S1x512x1024]

theorem inb_sq : ∀ a, (![0, 0] : Fin 2 → ℕ) a + S1024x1024.size a ≤ S1024x1024.size a := by
  intro a; fin_cases a <;> simp [S1024x1024]

theorem inb_row : ∀ a, (![0, 0] : Fin 2 → ℕ) a + S1x1024.size a ≤ S1x1024.size a := by
  intro a; fin_cases a <;> simp [S1x1024]

/-- The rows of `R` from row `k` on, on column chunk `c`. -/
def rows (R : Vec Ideal S520x5632 .f32) (k c : ℕ) (hk : k ≤ 8) (hc : c < 22) : Vec Ideal S512x256 .f32 :=
  View.ld R (Rect.unit (s := S520x5632) ![k, 256 * c] S512x256.size (inb_rows k c hk hc))

/-- The taps of a column chunk. -/
def taps (x5 : Vec Ideal S3x5632 .f32) (c : ℕ) (hc : c < 22) : Vec Ideal S3x256 .f32 :=
  View.ld x5 (Rect.unit (s := S3x5632) ![0, 256 * c] S3x256.size (inb_w c hc))

/-- The bias of a column chunk. -/
def biasOf (x6 : Vec Ideal S1x5632 .f32) (c : ℕ) (hc : c < 22) : Vec Ideal S1x256 .f32 :=
  View.ld x6 (Rect.unit (s := S1x5632) ![0, 256 * c] S1x256.size (inb_b c hc))

/-- The rows of the last projection that a chunk meets. -/
def downOf (x7 : Vec Ideal S2816x1024 .bf16) (c : ℕ) (hc : c < 11) : FVec Ideal S256x1024 .bf16 :=
  (View.ld x7 (Rect.unit (s := S2816x1024) ![256 * c, 0] S256x1024.size (inb_down c hc)) : Vec Ideal S256x1024 .bf16)

section
variable (R : Vec Ideal S520x5632 .f32) (x5 : Vec Ideal S3x5632 .f32) (x6 : Vec Ideal S1x5632 .f32) (x7 : Vec Ideal S2816x1024 .bf16)

/-- The convolution of a column chunk, with its bias. -/
def conv (c : ℕ) (hc : c < 22) : FVec Ideal S512x256 .f32 :=
  addf (addf (addf
    (mulf (broadcastTo S512x256 (extractStridedSlice S1x256 ![0, 0] (taps x5 c hc) slices_S3x256_o0_0_S1x256) broadcasts_S1x256_S512x256) (rows R 6 c (by omega) hc))
    (mulf (broadcastTo S512x256 (extractStridedSlice S1x256 ![1, 0] (taps x5 c hc) slices_S3x256_o1_0_S1x256) broadcasts_S1x256_S512x256) (rows R 7 c (by omega) hc)))
    (mulf (broadcastTo S512x256 (extractStridedSlice S1x256 ![2, 0] (taps x5 c hc) slices_S3x256_o2_0_S1x256) broadcasts_S1x256_S512x256) (rows R 8 c (by omega) hc)))
    (broadcastTo S512x256 (biasOf x6 c hc) broadcasts_S1x256_S512x256)

/-- The gated values of a column chunk. -/
def act (c : ℕ) (hc : c < 11) : FVec Ideal S512x256 .bf16 :=
  truncf .bf16 (mulf (mulf (conv R x5 x6 c (by omega)) (logistic (conv R x5 x6 c (by omega)))) (conv R x5 x6 (11 + c) (by omega))) bitsLt_bf16_f32

/-- One chunk's product added to the sum so far. -/
def step (c : ℕ) (hc : c < 11) (acc : FVec Ideal S512x1024 .f32) : FVec Ideal S512x1024 .f32 :=
  shapeCast S512x1024 (addf acc (matmul dot_S512x256_S256x1024_S512x1024_1_0_0_1_n_n none (act R x5 x6 c hc)
    (downOf x7 c hc) (constant S512x1024 .f32 0x00000000#32)))
    shapeCasts_S512x1024_S512x1024

/-- The sum over the chunks before chunk `n`, from the residual. -/
def total (r : FVec Ideal S512x1024 .f32) : (n : ℕ) → n ≤ 11 → FVec Ideal S512x1024 .f32
  | 0, _ => shapeCast S512x1024 r shapeCasts_S512x1024_S512x1024
  | n + 1, hn => step R x5 x6 x7 n (by omega) (total r n (by omega))

end

section
/-- The residual: the input and the projected attention. -/
def resid (x0 : Vec Ideal S1x512x1024 .f32) (x1 : Vec Ideal S1x512x1024 .bf16) (x2 : Vec Ideal S1024x1024 .bf16) : FVec Ideal S512x1024 .f32 :=
  k0_pay4 (View.ld x0 (Rect.unit (s := S1x512x1024) ![0, 0, 0] S1x512x1024.size inb_out)) (View.ld x1 (Rect.unit (s := S1x512x1024) ![0, 0, 0] S1x512x1024.size inb_out))
    (View.ld x2 (Rect.unit (s := S1024x1024) ![0, 0] S1024x1024.size inb_sq))

/-- The normed residual. -/
def normed (x0 : Vec Ideal S1x512x1024 .f32) (x1 : Vec Ideal S1x512x1024 .bf16) (x2 : Vec Ideal S1024x1024 .bf16) (x3 : Vec Ideal S1x1024 .f32) : FVec Ideal S512x1024 .bf16 :=
  k0_pay5 (View.ld x0 (Rect.unit (s := S1x512x1024) ![0, 0, 0] S1x512x1024.size inb_out)) (View.ld x1 (Rect.unit (s := S1x512x1024) ![0, 0, 0] S1x512x1024.size inb_out))
    (View.ld x2 (Rect.unit (s := S1024x1024) ![0, 0] S1024x1024.size inb_sq)) (View.ld x3 (Rect.unit (s := S1x1024) ![0, 0] S1x1024.size inb_row))

/-- A column chunk of the rows projected up. -/
def up (x0 : Vec Ideal S1x512x1024 .f32) (x1 : Vec Ideal S1x512x1024 .bf16) (x2 : Vec Ideal S1024x1024 .bf16) (x3 : Vec Ideal S1x1024 .f32)
    (x4 : Vec Ideal S1024x5632 .bf16) (c : ℕ) (hc : c < 22) : FVec Ideal S512x256 .f32 :=
  k0_pay7 (normed x0 x1 x2 x3) (View.ld x4 (Rect.unit (s := S1024x5632) ![0, 256 * c] S1024x256.size (inb_up c hc)))

/-- The block stored. -/
def final (R : Vec Ideal S520x5632 .f32) (x0 : Vec Ideal S1x512x1024 .f32) (x1 : Vec Ideal S1x512x1024 .bf16) (x2 : Vec Ideal S1024x1024 .bf16)
    (x5 : Vec Ideal S3x5632 .f32) (x6 : Vec Ideal S1x5632 .f32) (x7 : Vec Ideal S2816x1024 .bf16) (x8 : Vec Ideal S1x1024 .f32) : FVec Ideal S1x512x1024 .f32 :=
  k0_pay1 (total R x5 x6 x7 (resid x0 x1 x2) 11 (by omega)) (View.ld x8 (Rect.unit (s := S1x1024) ![0, 0] S1x1024.size inb_row))

end

/-- A load of a box of stores over junk. -/
theorem readCov_ld {sig : RefSig} {κ : Kind} {sp : Space} {s : Shape} {e : EltTy} (v : View sig κ sp s e) (L : List (View.Piece (Elt Ideal) s e)) (r : Rect s) :
    v.readCov L r.toLoadRect = View.ld (View.canon L) r := View.readCov_eq_canon' v L r.toLoadRect

/-- A load of rows of some columns of the kept rows, of stores over junk: it reads the stored contents. -/
theorem readCov_cols {sig : RefSig} {κ : Kind} {sp : Space} (v : View sig κ sp S520x5632 .f32) (L : List (View.Piece (Elt Ideal) S520x5632 .f32)) (R : Vec Ideal S520x5632 .f32)
    (hR : View.canon L = R) (k o : ℕ)
    (h1 : ∀ a, (![0, o] : Fin 2 → ℕ) a + S520x256.size a ≤ S520x5632.size a)
    (h2 : ∀ a, (![k, 0] : Fin 2 → ℕ) a + S512x256.size a ≤ S520x256.size a)
    (h3 : ∀ a, (Rect.unit (s := S520x5632) ![0, o] S520x256.size h1).stride a = 1)
    (h4 : ∀ a, (![k, o] : Fin 2 → ℕ) a + S512x256.size a ≤ S520x5632.size a) :
    v.readCov L ((Rect.unit (s := S520x5632) ![0, o] S520x256.size h1).withinL (Rect.unit (s := S520x256) ![k, 0] S512x256.size h2).toLoadRect h3) =
      View.ld R (Rect.unit (s := S520x5632) ![k, o] S512x256.size h4) := by
  rw [View.readCov_eq_canon', hR]
  funext j
  refine congrArg R ?_
  funext a; apply Fin.ext
  fin_cases a
  · show 0 + k + 1 * (j 0).val = k + 1 * (j 0).val; omega
  · show o + 0 + 1 * (j 1).val = o + 1 * (j 1).val; omega

end Ffn

end
-- ==== Proof.Ffn.Plain.lean ====
/- The feed-forward part of the layer, over rows of numbers. -/
module

public import Idealize.ShloMosaic.PureOps.Ideal
public import Idealize.ShloMosaic.PureOps.Ideal.Laws

@[expose] public section

noncomputable section

namespace Ffn

open Idealize.ShloMosaic

/-- A row plus the projection of another. -/
def residRow (x : Fin 1024 → EReal) (a : Fin 1024 → EReal) (w : Fin 1024 → Fin 1024 → EReal) (e : Fin 1024) : EReal :=
  x e + ∑ l : Fin 1024, a l * w l e

/-- The reciprocal root mean square of a row. -/
def scale (r : Fin 1024 → EReal) : EReal :=
  Ideal.rsqrt (Ideal.div (∑ l : Fin 1024, r l * r l) (Ideal.ofBits FTy.f32 0x44800000#32) + Ideal.ofBits FTy.f32 0x358637BD#32)

/-- A row over its root mean square, times a gain. -/
def normRow (r g : Fin 1024 → EReal) (e : Fin 1024) : EReal := r e * scale r * g e

/-- Three taps and a bias. -/
def convAt (w : Fin 3 → EReal) (b : EReal) (u : Fin 3 → EReal) : EReal := w 0 * u 0 + w 1 * u 1 + w 2 * u 2 + b

/-- A value through its gate. -/
def gated (g v : EReal) : EReal := g * Ideal.logistic g * v

/-- A sum over eleven chunks of 256. -/
theorem sum_chunks (f : Fin 2816 → EReal) : ∑ c : Fin 11, ∑ q : Fin 256, f ⟨256 * c.val + q.val, by omega⟩ = ∑ j : Fin 2816, f j := by
  rw [← Fintype.sum_prod_type']
  refine (Fintype.sum_equiv (finProdFinEquiv (m := 11) (n := 256)) _ _ fun p => ?_)
  refine congrArg f (Fin.ext ?_)
  simp [finProdFinEquiv]
  omega

section
variable (A0 A1 : Fin 16 → Fin 2048 → Fin 1024 → EReal) (A2 : Fin 1024 → Fin 1024 → EReal) (A3 : Fin 1024 → EReal) (A4 : Fin 1024 → Fin 5632 → EReal)
  (A5 : Fin 3 → Fin 5632 → EReal) (A6 : Fin 5632 → EReal) (A7 : Fin 2816 → Fin 1024 → EReal) (A8 : Fin 1024 → EReal)

/-- The residual of a token. -/
def hid (b : Fin 16) (t : Fin 2048) : Fin 1024 → EReal := residRow (A0 b t) (A1 b t) A2

/-- The normed residual projected up. -/
def proj (b : Fin 16) (t : Fin 2048) (j : Fin 5632) : EReal := ∑ l : Fin 1024, normRow (hid A0 A1 A2 b t) A3 l * A4 l j

/-- The projection of the token two before, one before, or itself; zero before the first. -/
def tap (b : Fin 16) (t : Fin 2048) (j : Fin 5632) (k : Fin 3) : EReal :=
  if h : 2 ≤ k.val + t.val then proj A0 A1 A2 A3 A4 b ⟨k.val + t.val - 2, by omega⟩ j else 0

/-- The convolution. -/
def mixed (b : Fin 16) (t : Fin 2048) (j : Fin 5632) : EReal := convAt (fun k => A5 k j) (A6 j) (tap A0 A1 A2 A3 A4 b t j)

/-- The gated values. -/
def gates (b : Fin 16) (t : Fin 2048) (j : Fin 2816) : EReal :=
  gated (mixed A0 A1 A2 A3 A4 A5 A6 b t ⟨j.val, by omega⟩) (mixed A0 A1 A2 A3 A4 A5 A6 b t ⟨2816 + j.val, by omega⟩)

/-- The layer's output. -/
def layer (b : Fin 16) (t : Fin 2048) : Fin 1024 → EReal :=
  normRow (fun e => hid A0 A1 A2 b t e + ∑ j : Fin 2816, gates A0 A1 A2 A3 A4 A5 A6 b t j * A7 j e) A8

end

end Ffn

end
-- ==== Proof.Ffn.Rows.lean ====
/- The terms of one grid point read at an index, each a function of the rows of its operands. -/
module

public import proofs.«01_k».proof.Proof.Ffn.Body
public import proofs.«01_k».proof.Proof.Ffn.Plain
public import Idealize.ShloMosaic.Lib.Pointwise
public import Idealize.ShloMosaic.Lib.Pipeline.ValueKit.Tiles

@[expose] public section

set_option maxRecDepth 16384

noncomputable section

namespace Ffn

open Cert.FfnKernelIdeal Cert.FfnKernelIdeal.Gen Idealize.ShloMosaic Idealize.ShloMosaic.TcCoe Idealize.SL.Sem

/-- A load of a whole vector. -/
theorem ld_out {e : EltTy} (x : Vec Ideal S1x512x1024 e) : View.ld x (Rect.unit (s := S1x512x1024) ![0, 0, 0] S1x512x1024.size inb_out) = x := by
  funext z
  refine View.ld_unit_apply_of x _ _ _ _ _ ?_
  intro b; fin_cases b <;> simp

theorem ld_sq {e : EltTy} (x : Vec Ideal S1024x1024 e) : View.ld x (Rect.unit (s := S1024x1024) ![0, 0] S1024x1024.size inb_sq) = x := by
  funext z
  refine View.ld_unit_apply_of x _ _ _ _ _ ?_
  intro b; fin_cases b <;> simp

theorem ld_row {e : EltTy} (x : Vec Ideal S1x1024 e) : View.ld x (Rect.unit (s := S1x1024) ![0, 0] S1x1024.size inb_row) = x := by
  funext z
  refine View.ld_unit_apply_of x _ _ _ _ _ ?_
  intro b; fin_cases b <;> simp

theorem pay4_apply (x0 : Vec Ideal S1x512x1024 .f32) (x1 : Vec Ideal S1x512x1024 .bf16) (x2 : Vec Ideal S1024x1024 .bf16) (r : Fin 512) (e : Fin 1024) :
    k0_pay4 x0 x1 x2 (ix2 r e) = residRow (fun e => x0 (ix3 0 r e)) (fun l => x1 (ix3 0 r l)) (fun l e => x2 (ix2 l e)) e := by
  unfold k0_pay4 residRow
  pointwise

theorem resid_apply (x0 : Vec Ideal S1x512x1024 .f32) (x1 : Vec Ideal S1x512x1024 .bf16) (x2 : Vec Ideal S1024x1024 .bf16) (r : Fin 512) (e : Fin 1024) :
    resid x0 x1 x2 (ix2 r e) = residRow (fun e => x0 (ix3 0 r e)) (fun l => x1 (ix3 0 r l)) (fun l e => x2 (ix2 l e)) e := by
  unfold resid
  rw [ld_out, ld_out, ld_sq, pay4_apply]

theorem normed_apply (x0 : Vec Ideal S1x512x1024 .f32) (x1 : Vec Ideal S1x512x1024 .bf16) (x2 : Vec Ideal S1024x1024 .bf16) (x3 : Vec Ideal S1x1024 .f32) (r : Fin 512) (e : Fin 1024) :
    normed x0 x1 x2 x3 (ix2 r e) = normRow (fun e => resid x0 x1 x2 (ix2 r e)) (fun e => x3 (ix2 0 e)) e := by
  unfold normed resid k0_pay5
  rw [ld_row]
  generalize k0_pay4 (F := Ideal) _ _ _ = R
  unfold normRow scale
  pointwise

theorem up_apply (x0 : Vec Ideal S1x512x1024 .f32) (x1 : Vec Ideal S1x512x1024 .bf16) (x2 : Vec Ideal S1024x1024 .bf16) (x3 : Vec Ideal S1x1024 .f32)
    (x4 : Vec Ideal S1024x5632 .bf16) (c : ℕ) (hc : c < 22) (r : Fin 512) (q : Fin 256) :
    up x0 x1 x2 x3 x4 c hc (ix2 r q) = ∑ l : Fin 1024, normed x0 x1 x2 x3 (ix2 r l) * x4 (ix2 l ⟨256 * c + q.val, by omega⟩) := by
  unfold up k0_pay7
  have h : ∀ l : Fin 1024, (View.ld x4 (Rect.unit (s := S1024x5632) ![0, 256 * c] S1024x256.size (inb_up c hc)) : Vec Ideal S1024x256 .bf16) (ix2 l q)
      = x4 (ix2 l ⟨256 * c + q.val, by omega⟩) := by
    intro l
    refine View.ld_unit_apply_of x4 _ _ _ _ _ ?_
    intro b; fin_cases b <;> simp [ix2]
  simp only [← h]
  generalize (View.ld x4 (Rect.unit (s := S1024x5632) ![0, 256 * c] S1024x256.size (inb_up c hc)) : Vec Ideal S1024x256 .bf16) = W
  generalize normed x0 x1 x2 x3 = N
  pointwise

theorem rows_apply (R : Vec Ideal S520x5632 .f32) (k c : ℕ) (hk : k ≤ 8) (hc : c < 22) (r : Fin 512) (q : Fin 256) :
    rows R k c hk hc (ix2 r q) = R (ix2 ⟨k + r.val, by omega⟩ ⟨256 * c + q.val, by omega⟩) := by
  refine View.ld_unit_apply_of R _ _ _ _ _ ?_
  intro b; fin_cases b <;> simp [ix2]

theorem taps_apply (x5 : Vec Ideal S3x5632 .f32) (c : ℕ) (hc : c < 22) (k : Fin 3) (q : Fin 256) :
    taps x5 c hc (ix2 k q) = x5 (ix2 k ⟨256 * c + q.val, by omega⟩) := by
  refine View.ld_unit_apply_of x5 _ _ _ _ _ ?_
  intro b; fin_cases b <;> simp [ix2]

theorem biasOf_apply (x6 : Vec Ideal S1x5632 .f32) (c : ℕ) (hc : c < 22) (q : Fin 256) :
    biasOf x6 c hc (ix2 0 q) = x6 (ix2 0 ⟨256 * c + q.val, by omega⟩) := by
  refine View.ld_unit_apply_of x6 _ _ _ _ _ ?_
  intro b; fin_cases b <;> simp [ix2]

theorem downOf_apply (x7 : Vec Ideal S2816x1024 .bf16) (c : ℕ) (hc : c < 11) (q : Fin 256) (e : Fin 1024) :
    downOf x7 c hc (ix2 q e) = x7 (ix2 ⟨256 * c + q.val, by omega⟩ e) := by
  refine View.ld_unit_apply_of x7 _ _ _ _ _ ?_
  intro b; fin_cases b <;> simp [ix2]

section
variable (R : Vec Ideal S520x5632 .f32) (x5 : Vec Ideal S3x5632 .f32) (x6 : Vec Ideal S1x5632 .f32) (x7 : Vec Ideal S2816x1024 .bf16)

/-- The convolution at a row and a column. -/
def convOf (r : Fin 512) (j : Fin 5632) : EReal :=
  convAt (fun k => x5 (ix2 k j)) (x6 (ix2 0 j)) (fun k => R (ix2 ⟨6 + k.val + r.val, by omega⟩ j))

theorem conv_terms (c : ℕ) (hc : c < 22) (r : Fin 512) (q : Fin 256) :
    conv R x5 x6 c hc (ix2 r q) = taps x5 c hc (ix2 0 q) * rows R 6 c (by omega) hc (ix2 r q) + taps x5 c hc (ix2 1 q) * rows R 7 c (by omega) hc (ix2 r q)
      + taps x5 c hc (ix2 2 q) * rows R 8 c (by omega) hc (ix2 r q) + biasOf x6 c hc (ix2 0 q) := by
  unfold conv
  generalize taps x5 c hc = T
  generalize biasOf x6 c hc = B
  generalize rows R 6 c _ hc = A
  generalize rows R 7 c _ hc = A'
  generalize rows R 8 c _ hc = A''
  pointwise

theorem conv_apply (c : ℕ) (hc : c < 22) (r : Fin 512) (q : Fin 256) :
    conv R x5 x6 c hc (ix2 r q) = convOf R x5 x6 r ⟨256 * c + q.val, by omega⟩ := by
  rw [conv_terms, taps_apply, taps_apply, taps_apply, biasOf_apply, rows_apply, rows_apply, rows_apply]
  rfl

/-- The gated value at a row and a column. -/
def actOf (r : Fin 512) (j : Fin 2816) : EReal :=
  gated (convOf R x5 x6 r ⟨j.val, by omega⟩) (convOf R x5 x6 r ⟨2816 + j.val, by omega⟩)

theorem act_apply (c : ℕ) (hc : c < 11) (r : Fin 512) (q : Fin 256) :
    act R x5 x6 c hc (ix2 r q) = actOf R x5 x6 r ⟨256 * c + q.val, by omega⟩ := by
  unfold act actOf gated
  rw [show (⟨2816 + (⟨256 * c + q.val, by omega⟩ : Fin 2816).val, by simp; omega⟩ : Fin 5632) = ⟨256 * (11 + c) + q.val, by omega⟩ from Fin.ext (by simp; omega)]
  rw [← conv_apply R x5 x6 (11 + c) (by omega) r q]
  rw [show convOf R x5 x6 r ⟨(⟨256 * c + q.val, by omega⟩ : Fin 2816).val, by simp; omega⟩ = conv R x5 x6 c (by omega) (ix2 r q) from (conv_apply R x5 x6 c _ r q).symm]
  generalize conv R x5 x6 c _ = G
  generalize conv R x5 x6 (11 + c) _ = V
  pointwise

theorem step_apply (c : ℕ) (hc : c < 11) (acc : FVec Ideal S512x1024 .f32) (r : Fin 512) (e : Fin 1024) :
    step R x5 x6 x7 c hc acc (ix2 r e) = acc (ix2 r e) + ∑ q : Fin 256, actOf R x5 x6 r ⟨256 * c + q.val, by omega⟩ * x7 (ix2 ⟨256 * c + q.val, by omega⟩ e) := by
  unfold step
  rw [← Finset.sum_congr rfl fun q _ => congrArg₂ (· * ·) (act_apply R x5 x6 c hc r q) (downOf_apply x7 c hc q e)]
  generalize act R x5 x6 c hc = A
  generalize downOf x7 c hc = D
  pointwise

theorem total_apply (res : FVec Ideal S512x1024 .f32) (r : Fin 512) (e : Fin 1024) : ∀ (n : ℕ) (hn : n ≤ 11),
    total R x5 x6 x7 res n hn (ix2 r e) = res (ix2 r e) + ∑ c : Fin n, ∑ q : Fin 256, actOf R x5 x6 r ⟨256 * c.val + q.val, by omega⟩ * x7 (ix2 ⟨256 * c.val + q.val, by omega⟩ e)
  | 0, hn => by
    rw [Finset.univ_eq_empty, Finset.sum_empty, add_zero]
    unfold total
    pointwise
  | n + 1, hn => by
    rw [Fin.sum_univ_castSucc, ← add_assoc]
    refine (step_apply R x5 x6 x7 n (by omega) _ r e).trans ?_
    exact congrArg₂ (· + ·) (total_apply res r e n (by omega)) rfl

theorem all_apply (res : FVec Ideal S512x1024 .f32) (r : Fin 512) (e : Fin 1024) :
    total R x5 x6 x7 res 11 (by omega) (ix2 r e) = res (ix2 r e) + ∑ j : Fin 2816, actOf R x5 x6 r j * x7 (ix2 j e) := by
  rw [total_apply, sum_chunks (fun j : Fin 2816 => (actOf R x5 x6 r j * x7 (ix2 j e) : EReal))]

end

theorem pay1_apply (y : Vec Ideal S512x1024 .f32) (g : Vec Ideal S1x1024 .f32) (r : Fin 512) (e : Fin 1024) :
    k0_pay1 y g (ix3 0 r e) = normRow (fun e => y (ix2 r e)) (fun e => g (ix2 0 e)) e := by
  unfold k0_pay1 normRow scale
  pointwise

theorem final_apply (R : Vec Ideal S520x5632 .f32) (x0 : Vec Ideal S1x512x1024 .f32) (x1 : Vec Ideal S1x512x1024 .bf16) (x2 : Vec Ideal S1024x1024 .bf16)
    (x5 : Vec Ideal S3x5632 .f32) (x6 : Vec Ideal S1x5632 .f32) (x7 : Vec Ideal S2816x1024 .bf16) (x8 : Vec Ideal S1x1024 .f32) (r : Fin 512) (e : Fin 1024) :
    final R x0 x1 x2 x5 x6 x7 x8 (ix3 0 r e) = normRow (fun e => resid x0 x1 x2 (ix2 r e) + ∑ j : Fin 2816, actOf R x5 x6 r j * x7 (ix2 j e)) (fun e => x8 (ix2 0 e)) e := by
  unfold final
  rw [ld_row, pay1_apply]
  congr 1
  funext e
  exact all_apply R x5 x6 x7 _ r e

end Ffn

end
-- ==== Proof.Ffn.KeptA.lean ====
/- What the kernel stores at one grid point: the block of the result and the rows it keeps. -/
module

public import proofs.«01_k».proof.Proof.Ffn.Body
public import Idealize.ShloMosaic.Lib.Pipeline.ValueKit.Acc

@[expose] public section

noncomputable section

namespace Ffn

open Cert.FfnKernelIdeal Cert.FfnKernelIdeal.Gen Idealize.ShloMosaic Idealize.ShloMosaic.TcCoe Idealize.SL.Sem

set_option maxHeartbeats 0 in
set_option maxRecDepth 100000 in
/-- The rows kept are blocks of `G`, when the first eight rows and every chunk of the projected rows are. -/
theorem kept_A (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S520x5632 .f32) (harg12 : arg12.IsWhole) (arg13 : Memref sig .tc .vmem S512x1024 .f32) (harg13 : arg13.IsWhole) (hc0 : cond0_0 i) (hc1 : ¬cond0_1 i)
    (x0 : Vec Ideal S1x512x1024 .f32) (x1 : Vec Ideal S1x512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) (G : S520x5632.Idx → Elt Ideal .f32)
    (h0 : k0_pay2 (F := Ideal) = fun x => G ((Rect.unit (s := S520x5632) ![0, 0] S8x5632.size inb_top).emb x))
    (hG : ∀ (k : ℕ) (hk : k < 22), up x0 x1 x2 x3 x4 k hk = fun x => G ((Rect.unit (s := S520x5632) ![8, 256 * k] S512x256.size (inb_rows 8 k (by omega) hk)).emb x)) :
    View.PiecesOf G (kernelRun0_A (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1 := by
  revert h0 hG
  unfold kernelRun0_A
  dsimp only
  sl_unfold_run_names
  intro h0 hG
  refine Moba.piecesOf_cons ?_ ?_
  · refine Eq.trans ?_ (hG 21 (by omega))
    simp only [↓ View.readAt_eq_ld, ↓ Memref.IsWhole.read_unread]
    sl_kernel_rfl
  refine Moba.piecesOf_cons ?_ ?_
  · refine Eq.trans ?_ (hG 10 (by omega))
    simp only [↓ View.readAt_eq_ld, ↓ Memref.IsWhole.read_unread]
    sl_kernel_rfl
  refine Moba.piecesOf_cons ?_ ?_
  · refine Eq.trans ?_ (hG 20 (by omega))
    simp only [↓ View.readAt_eq_ld, ↓ Memref.IsWhole.read_unread]
    sl_kernel_rfl
  refine Moba.piecesOf_cons ?_ ?_
  · refine Eq.trans ?_ (hG 9 (by omega))
    simp only [↓ View.readAt_eq_ld, ↓ Memref.IsWhole.read_unread]
    sl_kernel_rfl
  refine Moba.piecesOf_cons ?_ ?_
  · refine Eq.trans ?_ (hG 19 (by omega))
    simp only [↓ View.readAt_eq_ld, ↓ Memref.IsWhole.read_unread]
    sl_kernel_rfl
  refine Moba.piecesOf_cons ?_ ?_
  · refine Eq.trans ?_ (hG 8 (by omega))
    simp only [↓ View.readAt_eq_ld, ↓ Memref.IsWhole.read_unread]
    sl_kernel_rfl
  refine Moba.piecesOf_cons ?_ ?_
  · refine Eq.trans ?_ (hG 18 (by omega))
    simp only [↓ View.readAt_eq_ld, ↓ Memref.IsWhole.read_unread]
    sl_kernel_rfl
  refine Moba.piecesOf_cons ?_ ?_
  · refine Eq.trans ?_ (hG 7 (by omega))
    simp only [↓ View.readAt_eq_ld, ↓ Memref.IsWhole.read_unread]
    sl_kernel_rfl
  refine Moba.piecesOf_cons ?_ ?_
  · refine Eq.trans ?_ (hG 17 (by omega))
    simp only [↓ View.readAt_eq_ld, ↓ Memref.IsWhole.read_unread]
    sl_kernel_rfl
  refine Moba.piecesOf_cons ?_ ?_
  · refine Eq.trans ?_ (hG 6 (by omega))
    simp only [↓ View.readAt_eq_ld, ↓ Memref.IsWhole.read_unread]
    sl_kernel_rfl
  refine Moba.piecesOf_cons ?_ ?_
  · refine Eq.trans ?_ (hG 16 (by omega))
    simp only [↓ View.readAt_eq_ld, ↓ Memref.IsWhole.read_unread]
    sl_kernel_rfl
  refine Moba.piecesOf_cons ?_ ?_
  · refine Eq.trans ?_ (hG 5 (by omega))
    simp only [↓ View.readAt_eq_ld, ↓ Memref.IsWhole.read_unread]
    sl_kernel_rfl
  refine Moba.piecesOf_cons ?_ ?_
  · refine Eq.trans ?_ (hG 15 (by omega))
    simp only [↓ View.readAt_eq_ld, ↓ Memref.IsWhole.read_unread]
    sl_kernel_rfl
  refine Moba.piecesOf_cons ?_ ?_
  · refine Eq.trans ?_ (hG 4 (by omega))
    simp only [↓ View.readAt_eq_ld, ↓ Memref.IsWhole.read_unread]
    sl_kernel_rfl
  refine Moba.piecesOf_cons ?_ ?_
  · refine Eq.trans ?_ (hG 14 (by omega))
    simp only [↓ View.readAt_eq_ld, ↓ Memref.IsWhole.read_unread]
    sl_kernel_rfl
  refine Moba.piecesOf_cons ?_ ?_
  · refine Eq.trans ?_ (hG 3 (by omega))
    simp only [↓ View.readAt_eq_ld, ↓ Memref.IsWhole.read_unread]
    sl_kernel_rfl
  refine Moba.piecesOf_cons ?_ ?_
  · refine Eq.trans ?_ (hG 13 (by omega))
    simp only [↓ View.readAt_eq_ld, ↓ Memref.IsWhole.read_unread]
    sl_kernel_rfl
  refine Moba.piecesOf_cons ?_ ?_
  · refine Eq.trans ?_ (hG 2 (by omega))
    simp only [↓ View.readAt_eq_ld, ↓ Memref.IsWhole.read_unread]
    sl_kernel_rfl
  refine Moba.piecesOf_cons ?_ ?_
  · refine Eq.trans ?_ (hG 12 (by omega))
    simp only [↓ View.readAt_eq_ld, ↓ Memref.IsWhole.read_unread]
    sl_kernel_rfl
  refine Moba.piecesOf_cons ?_ ?_
  · refine Eq.trans ?_ (hG 1 (by omega))
    simp only [↓ View.readAt_eq_ld, ↓ Memref.IsWhole.read_unread]
    sl_kernel_rfl
  refine Moba.piecesOf_cons ?_ ?_
  · refine Eq.trans ?_ (hG 11 (by omega))
    simp only [↓ View.readAt_eq_ld, ↓ Memref.IsWhole.read_unread]
    sl_kernel_rfl
  refine Moba.piecesOf_cons ?_ ?_
  · refine Eq.trans ?_ (hG 0 (by omega))
    simp only [↓ View.readAt_eq_ld, ↓ Memref.IsWhole.read_unread]
    sl_kernel_rfl
  refine Moba.piecesOf_cons ?_ ?_
  · refine Eq.trans ?_ h0
    sl_kernel_rfl
  exact trivial

end Ffn

end
-- ==== Proof.Ffn.KeptB.lean ====
/- What the kernel stores at one grid point: the block of the result and the rows it keeps. -/
module

public import proofs.«01_k».proof.Proof.Ffn.Body
public import Idealize.ShloMosaic.Lib.Pipeline.ValueKit.Acc

@[expose] public section

noncomputable section

namespace Ffn

open Cert.FfnKernelIdeal Cert.FfnKernelIdeal.Gen Idealize.ShloMosaic Idealize.ShloMosaic.TcCoe Idealize.SL.Sem

set_option maxHeartbeats 0 in
set_option maxRecDepth 100000 in
/-- The rows kept are blocks of `G`, when the first eight rows and every chunk of the projected rows are. -/
theorem kept_B (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S520x5632 .f32) (harg12 : arg12.IsWhole) (arg13 : Memref sig .tc .vmem S512x1024 .f32) (harg13 : arg13.IsWhole) (hc0 : ¬cond0_0 i) (hc1 : cond0_1 i)
    (x0 : Vec Ideal S1x512x1024 .f32) (x1 : Vec Ideal S1x512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) (xs0 : Vec Ideal S520x5632 .f32) (G : S520x5632.Idx → Elt Ideal .f32)
    (h0 : k0_pay3 (View.ld xs0 (Rect.unit (s := S520x5632) ![512, 0] S8x5632.size inb_last)) = fun x => G ((Rect.unit (s := S520x5632) ![0, 0] S8x5632.size inb_top).emb x))
    (hG : ∀ (k : ℕ) (hk : k < 22), up x0 x1 x2 x3 x4 k hk = fun x => G ((Rect.unit (s := S520x5632) ![8, 256 * k] S512x256.size (inb_rows 8 k (by omega) hk)).emb x)) :
    View.PiecesOf G (kernelRun0_B (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1 := by
  revert h0 hG
  unfold kernelRun0_B
  dsimp only
  sl_unfold_run_names
  intro h0 hG
  refine Moba.piecesOf_cons ?_ ?_
  · refine Eq.trans ?_ (hG 21 (by omega))
    simp only [↓ View.readAt_eq_ld, ↓ Memref.IsWhole.read_unread]
    sl_kernel_rfl
  refine Moba.piecesOf_cons ?_ ?_
  · refine Eq.trans ?_ (hG 10 (by omega))
    simp only [↓ View.readAt_eq_ld, ↓ Memref.IsWhole.read_unread]
    sl_kernel_rfl
  refine Moba.piecesOf_cons ?_ ?_
  · refine Eq.trans ?_ (hG 20 (by omega))
    simp only [↓ View.readAt_eq_ld, ↓ Memref.IsWhole.read_unread]
    sl_kernel_rfl
  refine Moba.piecesOf_cons ?_ ?_
  · refine Eq.trans ?_ (hG 9 (by omega))
    simp only [↓ View.readAt_eq_ld, ↓ Memref.IsWhole.read_unread]
    sl_kernel_rfl
  refine Moba.piecesOf_cons ?_ ?_
  · refine Eq.trans ?_ (hG 19 (by omega))
    simp only [↓ View.readAt_eq_ld, ↓ Memref.IsWhole.read_unread]
    sl_kernel_rfl
  refine Moba.piecesOf_cons ?_ ?_
  · refine Eq.trans ?_ (hG 8 (by omega))
    simp only [↓ View.readAt_eq_ld, ↓ Memref.IsWhole.read_unread]
    sl_kernel_rfl
  refine Moba.piecesOf_cons ?_ ?_
  · refine Eq.trans ?_ (hG 18 (by omega))
    simp only [↓ View.readAt_eq_ld, ↓ Memref.IsWhole.read_unread]
    sl_kernel_rfl
  refine Moba.piecesOf_cons ?_ ?_
  · refine Eq.trans ?_ (hG 7 (by omega))
    simp only [↓ View.readAt_eq_ld, ↓ Memref.IsWhole.read_unread]
    sl_kernel_rfl
  refine Moba.piecesOf_cons ?_ ?_
  · refine Eq.trans ?_ (hG 17 (by omega))
    simp only [↓ View.readAt_eq_ld, ↓ Memref.IsWhole.read_unread]
    sl_kernel_rfl
  refine Moba.piecesOf_cons ?_ ?_
  · refine Eq.trans ?_ (hG 6 (by omega))
    simp only [↓ View.readAt_eq_ld, ↓ Memref.IsWhole.read_unread]
    sl_kernel_rfl
  refine Moba.piecesOf_cons ?_ ?_
  · refine Eq.trans ?_ (hG 16 (by omega))
    simp only [↓ View.readAt_eq_ld, ↓ Memref.IsWhole.read_unread]
    sl_kernel_rfl
  refine Moba.piecesOf_cons ?_ ?_
  · refine Eq.trans ?_ (hG 5 (by omega))
    simp only [↓ View.readAt_eq_ld, ↓ Memref.IsWhole.read_unread]
    sl_kernel_rfl
  refine Moba.piecesOf_cons ?_ ?_
  · refine Eq.trans ?_ (hG 15 (by omega))
    simp only [↓ View.readAt_eq_ld, ↓ Memref.IsWhole.read_unread]
    sl_kernel_rfl
  refine Moba.piecesOf_cons ?_ ?_
  · refine Eq.trans ?_ (hG 4 (by omega))
    simp only [↓ View.readAt_eq_ld, ↓ Memref.IsWhole.read_unread]
    sl_kernel_rfl
  refine Moba.piecesOf_cons ?_ ?_
  · refine Eq.trans ?_ (hG 14 (by omega))
    simp only [↓ View.readAt_eq_ld, ↓ Memref.IsWhole.read_unread]
    sl_kernel_rfl
  refine Moba.piecesOf_cons ?_ ?_
  · refine Eq.trans ?_ (hG 3 (by omega))
    simp only [↓ View.readAt_eq_ld, ↓ Memref.IsWhole.read_unread]
    sl_kernel_rfl
  refine Moba.piecesOf_cons ?_ ?_
  · refine Eq.trans ?_ (hG 13 (by omega))
    simp only [↓ View.readAt_eq_ld, ↓ Memref.IsWhole.read_unread]
    sl_kernel_rfl
  refine Moba.piecesOf_cons ?_ ?_
  · refine Eq.trans ?_ (hG 2 (by omega))
    simp only [↓ View.readAt_eq_ld, ↓ Memref.IsWhole.read_unread]
    sl_kernel_rfl
  refine Moba.piecesOf_cons ?_ ?_
  · refine Eq.trans ?_ (hG 12 (by omega))
    simp only [↓ View.readAt_eq_ld, ↓ Memref.IsWhole.read_unread]
    sl_kernel_rfl
  refine Moba.piecesOf_cons ?_ ?_
  · refine Eq.trans ?_ (hG 1 (by omega))
    simp only [↓ View.readAt_eq_ld, ↓ Memref.IsWhole.read_unread]
    sl_kernel_rfl
  refine Moba.piecesOf_cons ?_ ?_
  · refine Eq.trans ?_ (hG 11 (by omega))
    simp only [↓ View.readAt_eq_ld, ↓ Memref.IsWhole.read_unread]
    sl_kernel_rfl
  refine Moba.piecesOf_cons ?_ ?_
  · refine Eq.trans ?_ (hG 0 (by omega))
    simp only [↓ View.readAt_eq_ld, ↓ Memref.IsWhole.read_unread]
    sl_kernel_rfl
  refine Moba.piecesOf_cons ?_ ?_
  · refine Eq.trans ?_ h0
    simp only [↓ View.readAt_eq_ld, ↓ Memref.IsWhole.read_unread]
  exact trivial

end Ffn

end
-- ==== Proof.Ffn.StoredA.lean ====
/- What the kernel stores at one grid point: the block of the result and the rows it keeps. -/
module

public import proofs.«01_k».proof.Proof.Ffn.Body
public import Idealize.ShloMosaic.Lib.Pipeline.ValueKit.Acc

@[expose] public section

noncomputable section

namespace Ffn

open Cert.FfnKernelIdeal Cert.FfnKernelIdeal.Gen Idealize.ShloMosaic Idealize.ShloMosaic.TcCoe Idealize.SL.Sem

set_option maxHeartbeats 0 in
set_option maxRecDepth 100000 in
/-- The block stored is a block of `G`, when it is as computed from the rows kept. -/
theorem stored_A (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S520x5632 .f32) (harg12 : arg12.IsWhole) (arg13 : Memref sig .tc .vmem S512x1024 .f32) (harg13 : arg13.IsWhole) (hc0 : cond0_0 i) (hc1 : ¬cond0_1 i)
    (x0 : Vec Ideal S1x512x1024 .f32) (x1 : Vec Ideal S1x512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) (G : S1x512x1024.Idx → Elt Ideal .f32)
    (R : Vec Ideal S520x5632 .f32)
    (hR : View.canon (kernelRun0_A (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1 = R)
    (hG : final R x0 x1 x2 x5 x6 x7 x8 = fun x => G ((Rect.unit (s := S1x512x1024) ![0, 0, 0] S1x512x1024.size inb_out).emb x)) :
    View.PiecesOf G (kernelRun0_A (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1 := by
  revert hR
  unfold kernelRun0_A
  dsimp only
  sl_unfold_run_names
  intro hR
  refine Moba.piecesOf_cons ?_ ?_
  · refine Eq.trans ?_ hG
    simp (disch := decide) only [↓ View.readCov_cons_toLoadRect (s := S512x1024), ↓ readCov_ld (s := S520x5632), ↓ readCov_cols (hR := hR), ↓ View.readAt_eq_ld, ↓ Memref.IsWhole.read_unread]
    sl_kernel_rfl
  exact trivial

end Ffn

end
-- ==== Proof.Ffn.StoredB.lean ====
/- What the kernel stores at one grid point: the block of the result and the rows it keeps. -/
module

public import proofs.«01_k».proof.Proof.Ffn.Body
public import Idealize.ShloMosaic.Lib.Pipeline.ValueKit.Acc

@[expose] public section

noncomputable section

namespace Ffn

open Cert.FfnKernelIdeal Cert.FfnKernelIdeal.Gen Idealize.ShloMosaic Idealize.ShloMosaic.TcCoe Idealize.SL.Sem

set_option maxHeartbeats 0 in
set_option maxRecDepth 100000 in
/-- The block stored is a block of `G`, when it is as computed from the rows kept. -/
theorem stored_B (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S520x5632 .f32) (harg12 : arg12.IsWhole) (arg13 : Memref sig .tc .vmem S512x1024 .f32) (harg13 : arg13.IsWhole) (hc0 : ¬cond0_0 i) (hc1 : cond0_1 i)
    (x0 : Vec Ideal S1x512x1024 .f32) (x1 : Vec Ideal S1x512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) (xs0 : Vec Ideal S520x5632 .f32) (G : S1x512x1024.Idx → Elt Ideal .f32)
    (R : Vec Ideal S520x5632 .f32)
    (hR : View.canon (kernelRun0_B (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1 = R)
    (hG : final R x0 x1 x2 x5 x6 x7 x8 = fun x => G ((Rect.unit (s := S1x512x1024) ![0, 0, 0] S1x512x1024.size inb_out).emb x)) :
    View.PiecesOf G (kernelRun0_B (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1 := by
  revert hR
  unfold kernelRun0_B
  dsimp only
  sl_unfold_run_names
  intro hR
  refine Moba.piecesOf_cons ?_ ?_
  · refine Eq.trans ?_ hG
    simp (disch := decide) only [↓ View.readCov_cons_toLoadRect (s := S512x1024), ↓ readCov_ld (s := S520x5632), ↓ readCov_cols (hR := hR), ↓ View.readAt_eq_ld, ↓ Memref.IsWhole.read_unread]
    sl_kernel_rfl
  exact trivial

end Ffn

end
-- ==== Proof.Ffn.Scratch.lean ====
/- What the kernel leaves at one grid point: the rows it keeps, and the block of the result. -/
module

public import proofs.«01_k».proof.Proof.Ffn.Rows
public import proofs.«01_k».proof.Proof.Ffn.KeptA
public import proofs.«01_k».proof.Proof.Ffn.KeptB
public import proofs.«01_k».proof.Proof.Ffn.StoredA
public import proofs.«01_k».proof.Proof.Ffn.StoredB

@[expose] public section

set_option maxRecDepth 16384

noncomputable section

namespace Ffn

open Cert.FfnKernelIdeal Cert.FfnKernelIdeal.Gen Idealize.ShloMosaic Idealize.ShloMosaic.TcCoe Idealize.SL.Sem

/-- Eight rows, and below them the projected rows of one grid point. -/
def keptOf (top : Vec Ideal S8x5632 .f32) (x0 : Vec Ideal S1x512x1024 .f32) (x1 : Vec Ideal S1x512x1024 .bf16) (x2 : Vec Ideal S1024x1024 .bf16) (x3 : Vec Ideal S1x1024 .f32)
    (x4 : Vec Ideal S1024x5632 .bf16) : Vec Ideal S520x5632 .f32 := fun y =>
  if h : (y 0).val < 8 then top (ix2 ⟨(y 0).val, h⟩ ⟨(y 1).val, (y 1).isLt⟩)
  else ∑ l : Fin 1024, normed x0 x1 x2 x3 (ix2 ⟨(y 0).val - 8, by have h1 : (y 0).val < 520 := (y 0).isLt; omega⟩ l) * x4 (ix2 l ⟨(y 1).val, (y 1).isLt⟩)

theorem emb2 {A B a b : ℕ} (off : Fin 2 → ℕ) (inb) (x : Fin a) (y : Fin b) (hx : off 0 + x.val < A) (hy : off 1 + y.val < B) :
    (Rect.unit (s := (⟨2, ![A, B]⟩ : Shape)) off (⟨2, ![a, b]⟩ : Shape).size inb).emb (ix2 x y) = ix2 ⟨off 0 + x.val, hx⟩ ⟨off 1 + y.val, hy⟩ := by
  funext d
  apply Fin.ext
  refine (Rect.emb_apply _ _ d).trans ?_
  fin_cases d <;> simp [ix2, Rect.unit]

theorem emb_out (x : S1x512x1024.Idx) : (Rect.unit (s := S1x512x1024) ![0, 0, 0] S1x512x1024.size inb_out).emb x = x := by
  funext d
  apply Fin.ext
  refine (Rect.emb_apply _ _ d).trans ?_
  fin_cases d <;> simp [Rect.unit]

section
variable (top : Vec Ideal S8x5632 .f32) (x0 : Vec Ideal S1x512x1024 .f32) (x1 : Vec Ideal S1x512x1024 .bf16) (x2 : Vec Ideal S1024x1024 .bf16) (x3 : Vec Ideal S1x1024 .f32)
  (x4 : Vec Ideal S1024x5632 .bf16)

theorem keptOf_lo (r : Fin 520) (j : Fin 5632) (h : r.val < 8) : keptOf top x0 x1 x2 x3 x4 (ix2 r j) = top (ix2 ⟨r.val, h⟩ j) := dif_pos h

theorem keptOf_hi (r : Fin 520) (j : Fin 5632) (h : ¬r.val < 8) :
    keptOf top x0 x1 x2 x3 x4 (ix2 r j) = ∑ l : Fin 1024, normed x0 x1 x2 x3 (ix2 ⟨r.val - 8, by omega⟩ l) * x4 (ix2 l j) := dif_neg h

theorem keptOf_top : top = fun x => keptOf top x0 x1 x2 x3 x4 ((Rect.unit (s := S520x5632) ![0, 0] S8x5632.size inb_top).emb x) := by
  funext z
  idx_vars z
  have h0 : z0.val < 8 := z0.isLt
  have h1 : z1.val < 5632 := z1.isLt
  rw [emb2 _ _ _ _ (by simp; omega) (by simp), keptOf_lo _ _ _ _ _ _ _ _ (by simp)]
  refine congrArg₂ (fun a b => top (ix2 a b)) (Fin.ext ?_) (Fin.ext ?_) <;> simp

theorem keptOf_up (k : ℕ) (hk : k < 22) : up x0 x1 x2 x3 x4 k hk
    = fun x => keptOf top x0 x1 x2 x3 x4 ((Rect.unit (s := S520x5632) ![8, 256 * k] S512x256.size (inb_rows 8 k (by omega) hk)).emb x) := by
  funext z
  idx_vars z
  have h0 : z0.val < 512 := z0.isLt
  have h1 : z1.val < 256 := z1.isLt
  rw [emb2 _ _ _ _ (by simp; omega) (by simp; omega), keptOf_hi _ _ _ _ _ _ _ _ (by simp), up_apply]
  refine Finset.sum_congr rfl fun l _ => ?_
  refine congrArg₂ (fun a b => (normed x0 x1 x2 x3 (ix2 a l) * x4 (ix2 l b) : EReal)) (Fin.ext ?_) (Fin.ext ?_) <;> simp

end

theorem pay2_eq : k0_pay2 (F := Ideal) = fun _ => (0 : EReal) := by
  unfold k0_pay2
  funext z
  idx_vars z
  pointwise

theorem pay3_eq (v : Vec Ideal S8x5632 .f32) : k0_pay3 v = v := by
  unfold k0_pay3
  funext z
  idx_vars z
  pointwise

theorem canon_A (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S520x5632 .f32) (harg12 : arg12.IsWhole) (arg13 : Memref sig .tc .vmem S512x1024 .f32) (harg13 : arg13.IsWhole) (hc0 : cond0_0 i) (hc1 : ¬cond0_1 i)
    (x0 : Vec Ideal S1x512x1024 .f32) (x1 : Vec Ideal S1x512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) :
    View.canon (kernelRun0_A (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1 = keptOf (fun _ => (0 : EReal)) x0 x1 x2 x3 x4 := by
  funext y
  rw [← List.append_nil (kernelRun0_A (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1]
  exact View.canon_append_of_piecesOf (keptOf (fun _ => (0 : EReal)) x0 x1 x2 x3 x4) [] _ (kept_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 _ (pay2_eq.trans (keptOf_top _ x0 x1 x2 x3 x4)) fun k hk => keptOf_up _ x0 x1 x2 x3 x4 k hk) y
    (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 y)

theorem sout_A (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S520x5632 .f32) (harg12 : arg12.IsWhole) (arg13 : Memref sig .tc .vmem S512x1024 .f32) (harg13 : arg13.IsWhole) (hc0 : cond0_0 i) (hc1 : ¬cond0_1 i)
    (x0 : Vec Ideal S1x512x1024 .f32) (x1 : Vec Ideal S1x512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) :
    sout0_A_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = keptOf (fun _ => (0 : EReal)) x0 x1 x2 x3 x4 := by
  unfold sout0_A_0
  rw [View.read_writes_junk_eq_canon, canon_A]

theorem out_A (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S520x5632 .f32) (harg12 : arg12.IsWhole) (arg13 : Memref sig .tc .vmem S512x1024 .f32) (harg13 : arg13.IsWhole) (hc0 : cond0_0 i) (hc1 : ¬cond0_1 i)
    (x0 : Vec Ideal S1x512x1024 .f32) (x1 : Vec Ideal S1x512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) :
    out0_A_9 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = final (keptOf (fun _ => (0 : EReal)) x0 x1 x2 x3 x4) x0 x1 x2 x5 x6 x7 x8 := by
  unfold out0_A_9
  rw [View.read_writes_junk_eq_canon]
  funext y
  rw [← List.append_nil (kernelRun0_A (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1]
  exact View.canon_append_of_piecesOf (final (keptOf (fun _ => (0 : EReal)) x0 x1 x2 x3 x4) x0 x1 x2 x5 x6 x7 x8) [] _
    (stored_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 _ _ (canon_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8) (funext fun x => congrArg _ (emb_out x).symm)) y
    (cover0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 y)

theorem canon_B (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S520x5632 .f32) (harg12 : arg12.IsWhole) (arg13 : Memref sig .tc .vmem S512x1024 .f32) (harg13 : arg13.IsWhole) (hc0 : ¬cond0_0 i) (hc1 : cond0_1 i)
    (x0 : Vec Ideal S1x512x1024 .f32) (x1 : Vec Ideal S1x512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) (xs0 : Vec Ideal S520x5632 .f32) :
    View.canon (kernelRun0_B (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1 = keptOf (View.ld xs0 (Rect.unit (s := S520x5632) ![512, 0] S8x5632.size inb_last)) x0 x1 x2 x3 x4 := by
  funext y
  rw [← List.append_nil (kernelRun0_B (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1]
  exact View.canon_append_of_piecesOf (keptOf (View.ld xs0 (Rect.unit (s := S520x5632) ![512, 0] S8x5632.size inb_last)) x0 x1 x2 x3 x4) [] _ (kept_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 _ ((pay3_eq _).trans (keptOf_top _ x0 x1 x2 x3 x4)) fun k hk => keptOf_up _ x0 x1 x2 x3 x4 k hk) y
    (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 y)

theorem sout_B (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S520x5632 .f32) (harg12 : arg12.IsWhole) (arg13 : Memref sig .tc .vmem S512x1024 .f32) (harg13 : arg13.IsWhole) (hc0 : ¬cond0_0 i) (hc1 : cond0_1 i)
    (x0 : Vec Ideal S1x512x1024 .f32) (x1 : Vec Ideal S1x512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) (xs0 : Vec Ideal S520x5632 .f32) :
    sout0_B_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = keptOf (View.ld xs0 (Rect.unit (s := S520x5632) ![512, 0] S8x5632.size inb_last)) x0 x1 x2 x3 x4 := by
  unfold sout0_B_0
  rw [View.read_writes_junk_eq_canon, canon_B]

theorem out_B (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S520x5632 .f32) (harg12 : arg12.IsWhole) (arg13 : Memref sig .tc .vmem S512x1024 .f32) (harg13 : arg13.IsWhole) (hc0 : ¬cond0_0 i) (hc1 : cond0_1 i)
    (x0 : Vec Ideal S1x512x1024 .f32) (x1 : Vec Ideal S1x512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) (xs0 : Vec Ideal S520x5632 .f32) :
    out0_B_9 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = final (keptOf (View.ld xs0 (Rect.unit (s := S520x5632) ![512, 0] S8x5632.size inb_last)) x0 x1 x2 x3 x4) x0 x1 x2 x5 x6 x7 x8 := by
  unfold out0_B_9
  rw [View.read_writes_junk_eq_canon]
  funext y
  rw [← List.append_nil (kernelRun0_B (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1]
  exact View.canon_append_of_piecesOf (final (keptOf (View.ld xs0 (Rect.unit (s := S520x5632) ![512, 0] S8x5632.size inb_last)) x0 x1 x2 x3 x4) x0 x1 x2 x5 x6 x7 x8) [] _
    (stored_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 _ _ (canon_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0) (funext fun x => congrArg _ (emb_out x).symm)) y
    (cover0_B_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 y)

end Ffn

end
-- ==== Proof.Ffn.Point.lean ====
/- What the kernel leaves in its output array: at each token and channel, the layer's output. -/
module

public import proofs.«01_k».proof.Proof.Ffn.Scratch
public import Idealize.ShloMosaic.Lib.Pipeline.ValueKit

@[expose] public section

set_option maxRecDepth 100000

noncomputable section

namespace Ffn

open Cert.FfnKernelIdeal Cert.FfnKernelIdeal.Gen Idealize.ShloMosaic Idealize.ShloMosaic.TcCoe Idealize.SL.Sem

section
variable (A0 : Vec Ideal S16x2048x1024 .f32) (A1 : Vec Ideal S16x2048x1024 .bf16) (A2 : Vec Ideal S1024x1024 .bf16) (A3 : Vec Ideal S1x1024 .f32)
  (A4 : Vec Ideal S1024x5632 .bf16) (A5 : Vec Ideal S3x5632 .f32) (A6 : Vec Ideal S1x5632 .f32) (A7 : Vec Ideal S2816x1024 .bf16) (A8 : Vec Ideal S1x1024 .f32)

/-- The block of 512 tokens a grid point is given. -/
def tokens {e : EltTy} (A : Vec Ideal S16x2048x1024 e) (b : Fin 16) (i : Fin 4) : Vec Ideal S1x512x1024 e := fun y =>
  A (ix3 b ⟨512 * i.val + (y 1).val, by have h : (y 1).val < 512 := (y 1).isLt; omega⟩ ⟨(y 2).val, (y 2).isLt⟩)

/-- The residual, over arrays. -/
def hidOf (b : Fin 16) (t : Fin 2048) : Fin 1024 → EReal := hid (fun b t e => A0 (ix3 b t e)) (fun b t e => A1 (ix3 b t e)) (fun l e => A2 (ix2 l e)) b t

/-- The projection, over arrays. -/
def projOf (b : Fin 16) (t : Fin 2048) (j : Fin 5632) : EReal :=
  proj (fun b t e => A0 (ix3 b t e)) (fun b t e => A1 (ix3 b t e)) (fun l e => A2 (ix2 l e)) (fun e => A3 (ix2 0 e)) (fun l j => A4 (ix2 l j)) b t j

/-- The projection of the token two before token `n`; zero before the first. -/
def past (b : Fin 16) (n : ℕ) (j : Fin 5632) : EReal := if h : 2 ≤ n ∧ n < 2050 then projOf A0 A1 A2 A3 A4 b ⟨n - 2, by omega⟩ j else 0

/-- The layer, over arrays. -/
def layerOf (b : Fin 16) (t : Fin 2048) (e : Fin 1024) : EReal :=
  layer (fun b t e => A0 (ix3 b t e)) (fun b t e => A1 (ix3 b t e)) (fun l e => A2 (ix2 l e)) (fun e => A3 (ix2 0 e)) (fun l j => A4 (ix2 l j)) (fun k j => A5 (ix2 k j))
    (fun j => A6 (ix2 0 j)) (fun j e => A7 (ix2 j e)) (fun e => A8 (ix2 0 e)) b t e

theorem resid_tokens (b : Fin 16) (i : Fin 4) (r : Fin 512) (e : Fin 1024) :
    resid (tokens A0 b i) (tokens A1 b i) A2 (ix2 r e) = hidOf A0 A1 A2 b ⟨512 * i.val + r.val, by omega⟩ e := by
  rw [resid_apply]; rfl

theorem normed_tokens (b : Fin 16) (i : Fin 4) (r : Fin 512) (e : Fin 1024) :
    normed (tokens A0 b i) (tokens A1 b i) A2 A3 (ix2 r e) = normRow (hidOf A0 A1 A2 b ⟨512 * i.val + r.val, by omega⟩) (fun e => A3 (ix2 0 e)) e := by
  rw [normed_apply]
  refine congrArg (fun f => normRow f _ e) ?_
  funext e
  exact resid_tokens A0 A1 A2 b i r e

/-- A grid point's kept rows, the last two of its first eight rows being the tokens before its own: every row from the sixth is the projection of the token two
    before. -/
theorem kept_past (top : Vec Ideal S8x5632 .f32) (b : Fin 16) (i : Fin 4)
    (ht : ∀ (r : Fin 2) (j : Fin 5632), top (ix2 ⟨6 + r.val, by omega⟩ j) = past A0 A1 A2 A3 A4 b (512 * i.val + r.val) j) (r : Fin 514) (j : Fin 5632) :
    keptOf top (tokens A0 b i) (tokens A1 b i) A2 A3 A4 (ix2 ⟨6 + r.val, by omega⟩ j) = past A0 A1 A2 A3 A4 b (512 * i.val + r.val) j := by
  by_cases hr : r.val < 2
  · rw [keptOf_lo _ _ _ _ _ _ _ _ (by simp; omega)]
    exact ht ⟨r.val, hr⟩ j
  · rw [keptOf_hi _ _ _ _ _ _ _ _ (by simp; omega)]
    unfold past
    rw [dif_pos ⟨by omega, by omega⟩]
    unfold projOf proj
    refine Finset.sum_congr rfl fun l _ => ?_
    rw [normed_tokens]
    refine congrArg (fun t => (normRow (hidOf A0 A1 A2 b t) (fun e => A3 (ix2 0 e)) l * A4 (ix2 l j) : EReal)) (Fin.ext ?_)
    simp
    omega

/-- A grid point's block of the result. -/
theorem final_tokens (R : Vec Ideal S520x5632 .f32) (b : Fin 16) (i : Fin 4)
    (hR : ∀ (r : Fin 514) (j : Fin 5632), R (ix2 ⟨6 + r.val, by omega⟩ j) = past A0 A1 A2 A3 A4 b (512 * i.val + r.val) j) (r : Fin 512) (e : Fin 1024) :
    final R (tokens A0 b i) (tokens A1 b i) A2 A5 A6 A7 A8 (ix3 0 r e) = layerOf A0 A1 A2 A3 A4 A5 A6 A7 A8 b ⟨512 * i.val + r.val, by omega⟩ e := by
  have hc : ∀ j : Fin 5632, convOf R A5 A6 r j = mixed (fun b t e => A0 (ix3 b t e)) (fun b t e => A1 (ix3 b t e)) (fun l e => A2 (ix2 l e)) (fun e => A3 (ix2 0 e))
      (fun l j => A4 (ix2 l j)) (fun k j => A5 (ix2 k j)) (fun j => A6 (ix2 0 j)) b ⟨512 * i.val + r.val, by omega⟩ j := by
    intro j
    unfold convOf mixed
    refine congrArg (convAt _ _) ?_
    funext k
    have h := hR ⟨k.val + r.val, by omega⟩ j
    have hi : (⟨6 + k.val + r.val, by omega⟩ : Fin 520) = ⟨6 + (⟨k.val + r.val, by omega⟩ : Fin 514).val, by simp; omega⟩ := Fin.ext (by simp; omega)
    rw [hi, h]
    unfold past tap
    by_cases hk : 2 ≤ k.val + (512 * i.val + r.val)
    · rw [dif_pos ⟨by simp; omega, by simp; omega⟩, dif_pos hk]
      unfold projOf
      refine congrArg (fun t => proj _ _ _ _ _ b t j) (Fin.ext ?_)
      simp
      omega
    · rw [dif_neg (by simp; omega), dif_neg hk]
  rw [final_apply]
  unfold layerOf layer
  refine congrArg (fun f => normRow f _ e) ?_
  funext e
  rw [resid_tokens]
  unfold gates actOf
  simp only [hc]
  rfl

end

variable (m : (ℓ : Loc nD τ sig) → Buf (Elt Ideal) ℓ)

theorem index0 : ∀ t : Fin cfg0.N, win0_0.index t = ![t.val / 4, t.val % 4, 0] := (by decide +kernel : ∀ t : Fin grid0.N, win0_0.index t = ![t.val / 4, t.val % 4, 0])
theorem index1 : ∀ t : Fin cfg0.N, win0_1.index t = ![t.val / 4, t.val % 4, 0] := (by decide +kernel : ∀ t : Fin grid0.N, win0_1.index t = ![t.val / 4, t.val % 4, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![t.val / 4, t.val % 4, 0] := (by decide +kernel : ∀ t : Fin grid0.N, win0_9.index t = ![t.val / 4, t.val % 4, 0])

section
variable (c : Dev nD)

def a0 : Vec Ideal S16x2048x1024 .f32 := m ((c : Thread nD τ).loc main_arg0)
def a1 : Vec Ideal S16x2048x1024 .bf16 := m ((c : Thread nD τ).loc main_arg1)
def a2 : Vec Ideal S1024x1024 .bf16 := m ((c : Thread nD τ).loc main_arg2)
def a3 : Vec Ideal S1x1024 .f32 := m ((c : Thread nD τ).loc main_arg3)
def a4 : Vec Ideal S1024x5632 .bf16 := m ((c : Thread nD τ).loc main_arg4)
def a5 : Vec Ideal S3x5632 .f32 := m ((c : Thread nD τ).loc main_arg5)
def a6 : Vec Ideal S1x5632 .f32 := m ((c : Thread nD τ).loc main_arg6)
def a7 : Vec Ideal S2816x1024 .bf16 := m ((c : Thread nD τ).loc main_arg7)
def a8 : Vec Ideal S1x1024 .f32 := m ((c : Thread nD τ).loc main_arg8)

/-- The batch element and the token block of a grid point. -/
def bOf (t : Fin cfg0.N) : Fin 16 := ⟨t.val / 4, by have ht : t.val < 64 := t.isLt; omega⟩
def iOf (t : Fin cfg0.N) : Fin 4 := ⟨t.val % 4, by omega⟩

theorem blk0 (t : Fin cfg0.N) : iblk m c 0 t = tokens (a0 m c) (bOf t) (iOf t) := by
  funext z
  unfold tokens bOf iOf a0
  blk_ext [iblk, V, index0 t]
theorem blk1 (t : Fin cfg0.N) : iblk m c 1 t = tokens (a1 m c) (bOf t) (iOf t) := by
  funext z
  unfold tokens bOf iOf a1
  blk_ext [iblk, V, index1 t]
theorem blk2 (t : Fin cfg0.N) : iblk m c 2 t = a2 m c := by
  funext z
  unfold a2
  blk_ext [iblk, V, index2 t]
theorem blk3 (t : Fin cfg0.N) : iblk m c 3 t = a3 m c := by
  funext z
  unfold a3
  blk_ext [iblk, V, index3 t]
theorem blk4 (t : Fin cfg0.N) : iblk m c 4 t = a4 m c := by
  funext z
  unfold a4
  blk_ext [iblk, V, index4 t]
theorem blk5 (t : Fin cfg0.N) : iblk m c 5 t = a5 m c := by
  funext z
  unfold a5
  blk_ext [iblk, V, index5 t]
theorem blk6 (t : Fin cfg0.N) : iblk m c 6 t = a6 m c := by
  funext z
  unfold a6
  blk_ext [iblk, V, index6 t]
theorem blk7 (t : Fin cfg0.N) : iblk m c 7 t = a7 m c := by
  funext z
  unfold a7
  blk_ext [iblk, V, index7 t]
theorem blk8 (t : Fin cfg0.N) : iblk m c 8 t = a8 m c := by
  funext z
  unfold a8
  blk_ext [iblk, V, index8 t]

/-- What a grid point keeps and stores, when the rows above its own are the last of the tokens before. -/
def Left (t : Fin cfg0.N) : Prop :=
  ∃ R : Vec Ideal S520x5632 .f32, (outsAt0 m c t.val t.isLt).2 = R
    ∧ (outsAt0 m c t.val t.isLt).1 = final R (tokens (a0 m c) (bOf t) (iOf t)) (tokens (a1 m c) (bOf t) (iOf t)) (a2 m c) (a5 m c) (a6 m c) (a7 m c) (a8 m c)
    ∧ ∀ (r : Fin 514) (j : Fin 5632), R (ix2 ⟨6 + r.val, by omega⟩ j) = past (a0 m c) (a1 m c) (a2 m c) (a3 m c) (a4 m c) (bOf t) (512 * (iOf t).val + r.val) j

theorem left_A (t : Fin cfg0.N) (h0 : t.val % 4 = 0) : Left m c t := by
  have h1 : ¬1 ≤ t.val % 4 := by omega
  refine ⟨keptOf (fun _ => (0 : EReal)) (tokens (a0 m c) (bOf t) (iOf t)) (tokens (a1 m c) (bOf t) (iOf t)) (a2 m c) (a3 m c) (a4 m c), ?_, ?_, ?_⟩
  · rw [outsAt0_A m c t h0 h1]
    dsimp only
    rw [sout_A, blk0, blk1, blk2, blk3, blk4]
  · rw [outsAt0_A m c t h0 h1]
    dsimp only
    rw [out_A, blk0, blk1, blk2, blk3, blk4, blk5, blk6, blk7, blk8]
  · refine kept_past _ _ _ _ _ _ _ _ fun r j => ?_
    unfold past
    rw [dif_neg]
    unfold iOf
    dsimp only
    omega

theorem ld_last (R : Vec Ideal S520x5632 .f32) (r : Fin 8) (j : Fin 5632) :
    (View.ld R (Rect.unit (s := S520x5632) ![512, 0] S8x5632.size inb_last) : Vec Ideal S8x5632 .f32) (ix2 r j) = R (ix2 ⟨512 + r.val, by omega⟩ j) := by
  refine View.ld_unit_apply_of R _ _ _ _ _ ?_
  intro b; fin_cases b <;> simp [ix2]

theorem left_B (t : Fin cfg0.N) (h0 : ¬t.val % 4 = 0) (ih : Left m c ⟨t.val - 1, Nat.lt_of_le_of_lt (Nat.sub_le _ _) t.isLt⟩) : Left m c t := by
  have h1 : 1 ≤ t.val % 4 := by omega
  obtain ⟨Q, hQ, -, hp⟩ := ih
  refine ⟨keptOf (View.ld Q (Rect.unit (s := S520x5632) ![512, 0] S8x5632.size inb_last)) (tokens (a0 m c) (bOf t) (iOf t)) (tokens (a1 m c) (bOf t) (iOf t)) (a2 m c) (a3 m c) (a4 m c), ?_, ?_, ?_⟩
  · rw [outsAt0_B m c t h0 h1]
    dsimp only at hQ ⊢
    rw [sout_B, hQ, blk0, blk1, blk2, blk3, blk4]
  · rw [outsAt0_B m c t h0 h1]
    dsimp only at hQ ⊢
    rw [out_B, hQ, blk0, blk1, blk2, blk3, blk4, blk5, blk6, blk7, blk8]
  · refine kept_past _ _ _ _ _ _ _ _ fun r j => ?_
    rw [ld_last]
    have h := hp ⟨512 + r.val, by omega⟩ j
    have hi : (⟨512 + (⟨6 + r.val, by omega⟩ : Fin 8).val, by simp; omega⟩ : Fin 520) = ⟨6 + (⟨512 + r.val, by omega⟩ : Fin 514).val, by simp; omega⟩ := Fin.ext (by simp; omega)
    rw [hi, h]
    have hb : bOf ⟨t.val - 1, Nat.lt_of_le_of_lt (Nat.sub_le _ _) t.isLt⟩ = bOf t := Fin.ext (by simp only [bOf]; omega)
    have hn : 512 * (iOf ⟨t.val - 1, Nat.lt_of_le_of_lt (Nat.sub_le _ _) t.isLt⟩).val + (512 + r.val) = 512 * (iOf t).val + r.val := by
      simp only [iOf]; omega
    rw [hb]
    exact congrArg (fun n => past _ _ _ _ _ (bOf t) n j) hn

theorem left : ∀ (n : ℕ) (h : n < cfg0.N), Left m c ⟨n, h⟩
  | 0, h => left_A m c ⟨0, h⟩ rfl
  | n + 1, h => by
    by_cases h0 : (n + 1) % 4 = 0
    · exact left_A m c ⟨n + 1, h⟩ h0
    · exact left_B m c ⟨n + 1, h⟩ h0 (left n (Nat.lt_of_succ_lt h))

theorem out_eq : (dats m 0 c).arrAt 9 cfg0.N = fun j : S16x2048x1024.Idx =>
    layerOf (a0 m c) (a1 m c) (a2 m c) (a3 m c) (a4 m c) (a5 m c) (a6 m c) (a7 m c) (a8 m c) ⟨(j 0).val, (j 0).isLt⟩ ⟨(j 1).val, (j 1).isLt⟩ ⟨(j 2).val, (j 2).isLt⟩ := by
  refine (dats m 0 c).arrAt_eq_of_covers 9 _ (by decide +kernel) fun t hf y => ?_
  blk_simp
  rw [after0_9]
  obtain ⟨R, -, ho, hp⟩ := left m c t.val t.isLt
  rw [ho]
  idx_vars y
  have hz : y0 = 0 := Fin.ext (by have h : y0.val < 1 := y0.isLt; omega)
  subst hz
  refine (final_tokens _ _ _ _ _ _ _ _ _ R _ _ hp y1 y2).trans ?_
  have e0 : win0_9.index t 0 = t.val / 4 := by rw [index9]; rfl
  have e1 : win0_9.index t 1 = t.val % 4 := by rw [index9]; rfl
  have e2 : win0_9.index t 2 = 0 := by rw [index9]; rfl
  have ht : t.val < 64 := t.isLt
  have hy1 : y1.val < 512 := y1.isLt
  have hy2 : y2.val < 1024 := y2.isLt
  refine congr (congr (congrArg (layerOf _ _ _ _ _ _ _ _ _) (Fin.ext ?_)) (Fin.ext ?_)) (Fin.ext ?_) <;> simp only [e0, e1, e2, bOf, iOf] <;> (try simp) <;> omega

end

end Ffn

end
-- ==== Proof.Ffn.Refer.lean ====
/- The reference read at an index: the layer over rows of numbers. -/
module

public import proofs.«01_k».proof.Proof.Gen.FfnReferenceIdeal.Read
public import proofs.«01_k».proof.Proof.Ffn.Plain
public import Idealize.ShloMosaic.Lib.Pointwise

@[expose] public section

set_option maxRecDepth 16384

noncomputable section

namespace Ffn

open Cert.FfnReferenceIdeal Cert.FfnReferenceIdeal.Gen Cert.FfnReferenceIdeal.Read Idealize.ShloMosaic Idealize.SL.Sem

theorem one_bits : Ideal.ofBits FTy.f32 0x3F800000#32 = 1 := by
  simp [Ideal.ofBits, Ideal.ieee]
  rw [← EReal.coe_mul]
  norm_num

theorem zero_word : (FloatOps.sitofp (F := Ideal) FTy.f32 (0#32 : BitVec 32) : EReal) = 0 := by
  simp [FloatOps.sitofp]

variable (x0 : (⟨S16x2048x1024, .f32⟩ : BufTy).Contents (Elt Ideal)) (x1 : (⟨S16x2048x1024, .bf16⟩ : BufTy).Contents (Elt Ideal)) (x2 : (⟨S1024x1024, .bf16⟩ : BufTy).Contents (Elt Ideal)) (x3 : (⟨S1x1024, .f32⟩ : BufTy).Contents (Elt Ideal)) (x4 : (⟨S1024x5632, .bf16⟩ : BufTy).Contents (Elt Ideal)) (x5 : (⟨S3x5632, .f32⟩ : BufTy).Contents (Elt Ideal)) (x6 : (⟨S1x5632, .f32⟩ : BufTy).Contents (Elt Ideal)) (x7 : (⟨S2816x1024, .bf16⟩ : BufTy).Contents (Elt Ideal)) (x8 : (⟨S1x1024, .f32⟩ : BufTy).Contents (Elt Ideal))

theorem v3_at (b : Fin 16) (t : Fin 2048) (e : Fin 1024) : val_main_v3 (F := Ideal) x0 x1 x2 (ix3 b t e) = hid (fun b t e => x0 (ix3 b t e)) (fun b t e => x1 (ix3 b t e)) (fun l e => x2 (ix2 l e)) b t e := by
  unfold hid residRow
  pointwise [val_main_v3, val_main_v2, val_main_v1, val_main_v0]

theorem v16_at (b : Fin 16) (t : Fin 2048) (e : Fin 1024) : val_main_v16 (F := Ideal) x0 x1 x2 x3 (ix3 b t e) = normRow (hid (fun b t e => x0 (ix3 b t e)) (fun b t e => x1 (ix3 b t e)) (fun l e => x2 (ix2 l e)) b t) (fun e => x3 (ix2 0 e)) e := by
  rw [show hid (fun b t e => x0 (ix3 b t e)) (fun b t e => x1 (ix3 b t e)) (fun l e => x2 (ix2 l e)) b t = fun e => val_main_v3 (F := Ideal) x0 x1 x2 (ix3 b t e) from funext fun e => (v3_at x0 x1 x2 b t e).symm]
  unfold val_main_v16 val_main_v13 val_main_v12 val_main_v11 val_main_v10 val_main_v8 val_main_v6 val_main_v5 val_main_v4
  generalize val_main_v3 (F := Ideal) x0 x1 x2 = R
  unfold normRow scale
  pointwise [val_main_v15, val_main_v14, val_main_v9, val_main_v7, val_main_cst, val_main_cst_0, val_main_cst_1]

theorem v18_at (b : Fin 16) (t : Fin 2048) (j : Fin 5632) : val_main_v18 (F := Ideal) x0 x1 x2 x3 x4 (ix3 b t j) = proj (fun b t e => x0 (ix3 b t e)) (fun b t e => x1 (ix3 b t e)) (fun l e => x2 (ix2 l e)) (fun e => x3 (ix2 0 e)) (fun l j => x4 (ix2 l j)) b t j := by
  unfold proj
  simp only [← v16_at]
  unfold val_main_v18
  generalize val_main_v16 (F := Ideal) x0 x1 x2 x3 = H
  pointwise [val_main_v17]

theorem v19_at (b : Fin 16) (t : Fin 2048) (j : Fin 5632) (k : Fin 3) (s : Fin 2050) (hs : s.val = k.val + t.val) :
    val_main_v19 (F := Ideal) x0 x1 x2 x3 x4 (ix3 b s j) = tap (fun b t e => x0 (ix3 b t e)) (fun b t e => x1 (ix3 b t e)) (fun l e => x2 (ix2 l e)) (fun e => x3 (ix2 0 e)) (fun l j => x4 (ix2 l j)) b t j k := by
  unfold tap
  simp only [← v18_at]
  unfold val_main_v19
  generalize val_main_v18 (F := Ideal) x0 x1 x2 x3 x4 = U
  refine (show _ = if h : 2 ≤ s.val ∧ s.val - 2 < 2048 then U (ix3 b ⟨s.val - 2, h.2⟩ j) else FloatOps.sitofp (F := Ideal) FTy.f32 (0#32 : BitVec 32) by
    pointwise [val_main_call0_v0, val_main_c]).trans ?_
  by_cases h : 2 ≤ k.val + t.val
  · rw [dif_pos h, dif_pos ⟨by omega, by omega⟩]
    simp only [hs]
  · rw [dif_neg h, dif_neg (by omega)]
    exact zero_word

theorem v42_at (b : Fin 16) (t : Fin 2048) (j : Fin 5632) : val_main_v42 (F := Ideal) x0 x1 x2 x3 x4 x5 x6 (ix3 b t j) = mixed (fun b t e => x0 (ix3 b t e)) (fun b t e => x1 (ix3 b t e)) (fun l e => x2 (ix2 l e)) (fun e => x3 (ix2 0 e)) (fun l j => x4 (ix2 l j)) (fun k j => x5 (ix2 k j)) (fun j => x6 (ix2 0 j)) b t j := by
  unfold mixed convAt
  rw [← v19_at x0 x1 x2 x3 x4 b t j 0 ⟨0 + t.val, by omega⟩ rfl, ← v19_at x0 x1 x2 x3 x4 b t j 1 ⟨1 + t.val, by omega⟩ rfl, ← v19_at x0 x1 x2 x3 x4 b t j 2 ⟨2 + t.val, by omega⟩ rfl]
  unfold val_main_v42 val_main_v39 val_main_v38 val_main_v35 val_main_v32 val_main_v31 val_main_v28 val_main_v25 val_main_v22
  generalize val_main_v19 (F := Ideal) x0 x1 x2 x3 x4 = U
  pointwise [val_main_v41, val_main_v40, val_main_v37, val_main_v36, val_main_v34, val_main_v33, val_main_v30, val_main_v29, val_main_v27, val_main_v26, val_main_v24, val_main_v23, val_main_v21, val_main_v20]

theorem v52_at (b : Fin 16) (t : Fin 2048) (j : Fin 2816) : val_main_v52 (F := Ideal) x0 x1 x2 x3 x4 x5 x6 (ix3 b t j) = gates (fun b t e => x0 (ix3 b t e)) (fun b t e => x1 (ix3 b t e)) (fun l e => x2 (ix2 l e)) (fun e => x3 (ix2 0 e)) (fun l j => x4 (ix2 l j)) (fun k j => x5 (ix2 k j)) (fun j => x6 (ix2 0 j)) b t j := by
  unfold gates gated Ideal.logistic
  simp only [← v42_at]
  unfold val_main_v52 val_main_v51 val_main_v50 val_main_v48 val_main_v46 val_main_v45 val_main_v44 val_main_v43
  generalize val_main_v42 (F := Ideal) x0 x1 x2 x3 x4 x5 x6 = C
  pointwise [val_main_v49, val_main_v47, val_main_cst_2, val_main_cst_3, one_bits]

theorem v55_at (b : Fin 16) (t : Fin 2048) (e : Fin 1024) : val_main_v55 (F := Ideal) x0 x1 x2 x3 x4 x5 x6 x7 (ix3 b t e)
    = hid (fun b t e => x0 (ix3 b t e)) (fun b t e => x1 (ix3 b t e)) (fun l e => x2 (ix2 l e)) b t e + ∑ j : Fin 2816, gates (fun b t e => x0 (ix3 b t e)) (fun b t e => x1 (ix3 b t e)) (fun l e => x2 (ix2 l e)) (fun e => x3 (ix2 0 e)) (fun l j => x4 (ix2 l j)) (fun k j => x5 (ix2 k j)) (fun j => x6 (ix2 0 j)) b t j * x7 (ix2 j e) := by
  simp only [← v52_at]
  rw [← v3_at]
  unfold val_main_v55 val_main_v54
  generalize val_main_v3 (F := Ideal) x0 x1 x2 = R
  generalize val_main_v52 (F := Ideal) x0 x1 x2 x3 x4 x5 x6 = A
  pointwise [val_main_v53]

theorem v68_at (b : Fin 16) (t : Fin 2048) (e : Fin 1024) : val_main_v68 (F := Ideal) x0 x1 x2 x3 x4 x5 x6 x7 x8 (ix3 b t e)
    = layer (fun b t e => x0 (ix3 b t e)) (fun b t e => x1 (ix3 b t e)) (fun l e => x2 (ix2 l e)) (fun e => x3 (ix2 0 e)) (fun l j => x4 (ix2 l j)) (fun k j => x5 (ix2 k j)) (fun j => x6 (ix2 0 j)) (fun j e => x7 (ix2 j e)) (fun e => x8 (ix2 0 e)) b t e := by
  unfold layer
  rw [show (fun e => hid (fun b t e => x0 (ix3 b t e)) (fun b t e => x1 (ix3 b t e)) (fun l e => x2 (ix2 l e)) b t e + ∑ j : Fin 2816, gates (fun b t e => x0 (ix3 b t e)) (fun b t e => x1 (ix3 b t e)) (fun l e => x2 (ix2 l e)) (fun e => x3 (ix2 0 e)) (fun l j => x4 (ix2 l j)) (fun k j => x5 (ix2 k j)) (fun j => x6 (ix2 0 j)) b t j * x7 (ix2 j e))
    = fun e => val_main_v55 (F := Ideal) x0 x1 x2 x3 x4 x5 x6 x7 (ix3 b t e) from funext fun e => (v55_at x0 x1 x2 x3 x4 x5 x6 x7 b t e).symm]
  unfold val_main_v68 val_main_v65 val_main_v64 val_main_v63 val_main_v62 val_main_v60 val_main_v58 val_main_v57 val_main_v56
  generalize val_main_v55 (F := Ideal) x0 x1 x2 x3 x4 x5 x6 x7 = R
  unfold normRow scale
  pointwise [val_main_v67, val_main_v66, val_main_v61, val_main_v59, val_main_cst_4, val_main_cst_5, val_main_cst_6]

end Ffn

end
-- ==== Proof.Glu.Body.lean ====
/- One grid point of the gated convolution, as the kernel computes it, read at an index. The chunks' terms are those of the feed-forward part. -/
module

public import proofs.«01_k».proof.Proof.Gen.GluKernelIdeal.Frame
public import Idealize.ShloMosaic.Lib.Pipeline.Value
public import proofs.«01_k».proof.Proof.Ffn.Rows

@[expose] public section

set_option maxRecDepth 16384

noncomputable section

namespace Glu

open Cert.GluKernelIdeal Cert.GluKernelIdeal.Gen Idealize.ShloMosaic Idealize.ShloMosaic.TcCoe Idealize.SL.Sem

theorem inb_blk : ∀ a, (![0, 0, 0] : Fin 3 → ℕ) a + S1x16x1024.size a ≤ S1x16x1024.size a := by
  intro a; fin_cases a <;> simp [S1x16x1024]

theorem inb_mat : ∀ a, (![0, 0] : Fin 2 → ℕ) a + S16x1024.size a ≤ S16x1024.size a := by
  intro a; fin_cases a <;> simp [S16x1024]

theorem ld_blk {e : EltTy} (x : Vec Ideal S1x16x1024 e) : View.ld x (Rect.unit (s := S1x16x1024) ![0, 0, 0] S1x16x1024.size inb_blk) = x := by
  funext z
  refine View.ld_unit_apply_of x _ _ _ _ _ ?_
  intro b; fin_cases b <;> simp

theorem ld_mat {e : EltTy} (x : Vec Ideal S16x1024 e) : View.ld x (Rect.unit (s := S16x1024) ![0, 0] S16x1024.size inb_mat) = x := by
  funext z
  refine View.ld_unit_apply_of x _ _ _ _ _ ?_
  intro b; fin_cases b <;> simp

section
variable (x0 : Vec Ideal S1x512x1024 .f32) (x1 : Vec Ideal S1x1024 .f32) (x2 : Vec Ideal S1024x5632 .bf16)

/-- The rows of the input. -/
def resid : FVec Ideal S512x1024 .f32 := k0_pay8 (View.ld x0 (Rect.unit (s := S1x512x1024) ![0, 0, 0] S1x512x1024.size Ffn.inb_out))

/-- The normed rows. -/
def normed : FVec Ideal S512x1024 .bf16 :=
  k0_pay10 (k0_pay9 (View.ld x0 (Rect.unit (s := S1x512x1024) ![0, 0, 0] S1x512x1024.size Ffn.inb_out))) (View.ld x1 (Rect.unit (s := S1x1024) ![0, 0] S1x1024.size Ffn.inb_row))

/-- A column chunk of the rows projected up. -/
def up (c : ℕ) (hc : c < 22) : FVec Ideal S512x256 .f32 :=
  k0_pay11 (k0_pay9 (View.ld x0 (Rect.unit (s := S1x512x1024) ![0, 0, 0] S1x512x1024.size Ffn.inb_out))) (View.ld x1 (Rect.unit (s := S1x1024) ![0, 0] S1x1024.size Ffn.inb_row))
    (View.ld x2 (Rect.unit (s := S1024x5632) ![0, 256 * c] S1024x256.size (Ffn.inb_up c hc)))

/-- The block stored. -/
def final (R : Vec Ideal S520x5632 .f32) (x3 : Vec Ideal S3x5632 .f32) (x4 : Vec Ideal S1x5632 .f32) (x5 : Vec Ideal S2816x1024 .bf16) : FVec Ideal S1x512x1024 .f32 :=
  k0_pay2 (Ffn.total R x3 x4 x5 (resid x0) 11 (by omega))

theorem resid_apply (r : Fin 512) (e : Fin 1024) : resid x0 (ix2 r e) = x0 (ix3 0 r e) := by
  unfold resid k0_pay8
  rw [Ffn.ld_out]
  pointwise

theorem normed_apply (r : Fin 512) (e : Fin 1024) : normed x0 x1 (ix2 r e) = Ffn.normRow (fun e => x0 (ix3 0 r e)) (fun e => x1 (ix2 0 e)) e := by
  unfold normed k0_pay10 k0_pay9 k0_pay8
  rw [Ffn.ld_out, Ffn.ld_row]
  unfold Ffn.normRow Ffn.scale
  pointwise

theorem up_apply (c : ℕ) (hc : c < 22) (r : Fin 512) (q : Fin 256) :
    up x0 x1 x2 c hc (ix2 r q) = ∑ l : Fin 1024, normed x0 x1 (ix2 r l) * x2 (ix2 l ⟨256 * c + q.val, by omega⟩) := by
  unfold up k0_pay11 normed
  have h : ∀ l : Fin 1024, (View.ld x2 (Rect.unit (s := S1024x5632) ![0, 256 * c] S1024x256.size (Ffn.inb_up c hc)) : Vec Ideal S1024x256 .bf16) (ix2 l q)
      = x2 (ix2 l ⟨256 * c + q.val, by omega⟩) := by
    intro l
    refine View.ld_unit_apply_of x2 _ _ _ _ _ ?_
    intro b; fin_cases b <;> simp [ix2]
  simp only [← h]
  generalize (View.ld x2 (Rect.unit (s := S1024x5632) ![0, 256 * c] S1024x256.size (Ffn.inb_up c hc)) : Vec Ideal S1024x256 .bf16) = W
  generalize k0_pay10 (F := Ideal) _ _ = N
  pointwise

theorem pay2_apply (y : Vec Ideal S512x1024 .f32) (r : Fin 512) (e : Fin 1024) : k0_pay2 y (ix3 0 r e) = y (ix2 r e) := by
  unfold k0_pay2
  pointwise

theorem final_apply (R : Vec Ideal S520x5632 .f32) (x3 : Vec Ideal S3x5632 .f32) (x4 : Vec Ideal S1x5632 .f32) (x5 : Vec Ideal S2816x1024 .bf16) (r : Fin 512) (e : Fin 1024) :
    final x0 R x3 x4 x5 (ix3 0 r e) = x0 (ix3 0 r e) + ∑ j : Fin 2816, Ffn.actOf R x3 x4 r j * x5 (ix2 j e) := by
  unfold final
  rw [pay2_apply]
  exact (Ffn.all_apply R x3 x4 x5 _ r e).trans (congrArg (· + _) (resid_apply x0 r e))

end

theorem pay3_apply (x : Vec Ideal S1x16x1024 .f32) (r : Fin 16) (e : Fin 1024) : k0_pay3 x (ix2 r e) = x (ix3 0 r e) := by
  unfold k0_pay3
  pointwise

theorem pay4_apply (x : Vec Ideal S16x1024 .f32) (r : Fin 16) (e : Fin 1024) : k0_pay4 x (ix2 r e) = x (ix2 r e) := by
  unfold k0_pay4
  pointwise

theorem pay5_apply (x : Vec Ideal S1x16x1024 .f32) (r : Fin 16) (e : Fin 1024) : k0_pay5 x (ix2 r e) = x (ix3 0 r e) := by
  unfold k0_pay5
  pointwise

end Glu

end
-- ==== Proof.Glu.KeptA.lean ====
/- The rows the kernel keeps at one grid point. -/
module

public import proofs.«01_k».proof.Proof.Glu.Body
public import Idealize.ShloMosaic.Lib.Pipeline.ValueKit.Acc

@[expose] public section

set_option maxRecDepth 16384

noncomputable section

namespace Glu

open Cert.GluKernelIdeal Cert.GluKernelIdeal.Gen Idealize.ShloMosaic Idealize.ShloMosaic.TcCoe Idealize.SL.Sem

set_option maxHeartbeats 0 in
set_option maxRecDepth 100000 in
/-- The rows kept are blocks of `G`, when the first eight rows and every chunk of the projected rows are. -/
theorem kept_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : cond0_0 i) (hc1 : ¬cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) (G : S520x5632.Idx → Elt Ideal .f32)
    (h0 : k0_pay6 (F := Ideal) = fun x => G ((Rect.unit (s := S520x5632) ![0, 0] S8x5632.size Ffn.inb_top).emb x))
    (hG : ∀ (k : ℕ) (hk : k < 22), up x0 x1 x2 k hk = fun x => G ((Rect.unit (s := S520x5632) ![8, 256 * k] S512x256.size (Ffn.inb_rows 8 k (by omega) hk)).emb x)) :
    View.PiecesOf G (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.1 := by
  revert h0 hG
  unfold kernelRun0_A
  dsimp only
  sl_unfold_run_names
  intro h0 hG
  refine Moba.piecesOf_cons ?_ ?_
  · refine Eq.trans ?_ (hG 21 (by omega))
    simp only [↓ View.readAt_eq_ld, ↓ Memref.IsWhole.read_unread]
    sl_kernel_rfl
  refine Moba.piecesOf_cons ?_ ?_
  · refine Eq.trans ?_ (hG 10 (by omega))
    simp only [↓ View.readAt_eq_ld, ↓ Memref.IsWhole.read_unread]
    sl_kernel_rfl
  refine Moba.piecesOf_cons ?_ ?_
  · refine Eq.trans ?_ (hG 20 (by omega))
    simp only [↓ View.readAt_eq_ld, ↓ Memref.IsWhole.read_unread]
    sl_kernel_rfl
  refine Moba.piecesOf_cons ?_ ?_
  · refine Eq.trans ?_ (hG 9 (by omega))
    simp only [↓ View.readAt_eq_ld, ↓ Memref.IsWhole.read_unread]
    sl_kernel_rfl
  refine Moba.piecesOf_cons ?_ ?_
  · refine Eq.trans ?_ (hG 19 (by omega))
    simp only [↓ View.readAt_eq_ld, ↓ Memref.IsWhole.read_unread]
    sl_kernel_rfl
  refine Moba.piecesOf_cons ?_ ?_
  · refine Eq.trans ?_ (hG 8 (by omega))
    simp only [↓ View.readAt_eq_ld, ↓ Memref.IsWhole.read_unread]
    sl_kernel_rfl
  refine Moba.piecesOf_cons ?_ ?_
  · refine Eq.trans ?_ (hG 18 (by omega))
    simp only [↓ View.readAt_eq_ld, ↓ Memref.IsWhole.read_unread]
    sl_kernel_rfl
  refine Moba.piecesOf_cons ?_ ?_
  · refine Eq.trans ?_ (hG 7 (by omega))
    simp only [↓ View.readAt_eq_ld, ↓ Memref.IsWhole.read_unread]
    sl_kernel_rfl
  refine Moba.piecesOf_cons ?_ ?_
  · refine Eq.trans ?_ (hG 17 (by omega))
    simp only [↓ View.readAt_eq_ld, ↓ Memref.IsWhole.read_unread]
    sl_kernel_rfl
  refine Moba.piecesOf_cons ?_ ?_
  · refine Eq.trans ?_ (hG 6 (by omega))
    simp only [↓ View.readAt_eq_ld, ↓ Memref.IsWhole.read_unread]
    sl_kernel_rfl
  refine Moba.piecesOf_cons ?_ ?_
  · refine Eq.trans ?_ (hG 16 (by omega))
    simp only [↓ View.readAt_eq_ld, ↓ Memref.IsWhole.read_unread]
    sl_kernel_rfl
  refine Moba.piecesOf_cons ?_ ?_
  · refine Eq.trans ?_ (hG 5 (by omega))
    simp only [↓ View.readAt_eq_ld, ↓ Memref.IsWhole.read_unread]
    sl_kernel_rfl
  refine Moba.piecesOf_cons ?_ ?_
  · refine Eq.trans ?_ (hG 15 (by omega))
    simp only [↓ View.readAt_eq_ld, ↓ Memref.IsWhole.read_unread]
    sl_kernel_rfl
  refine Moba.piecesOf_cons ?_ ?_
  · refine Eq.trans ?_ (hG 4 (by omega))
    simp only [↓ View.readAt_eq_ld, ↓ Memref.IsWhole.read_unread]
    sl_kernel_rfl
  refine Moba.piecesOf_cons ?_ ?_
  · refine Eq.trans ?_ (hG 14 (by omega))
    simp only [↓ View.readAt_eq_ld, ↓ Memref.IsWhole.read_unread]
    sl_kernel_rfl
  refine Moba.piecesOf_cons ?_ ?_
  · refine Eq.trans ?_ (hG 3 (by omega))
    simp only [↓ View.readAt_eq_ld, ↓ Memref.IsWhole.read_unread]
    sl_kernel_rfl
  refine Moba.piecesOf_cons ?_ ?_
  · refine Eq.trans ?_ (hG 13 (by omega))
    simp only [↓ View.readAt_eq_ld, ↓ Memref.IsWhole.read_unread]
    sl_kernel_rfl
  refine Moba.piecesOf_cons ?_ ?_
  · refine Eq.trans ?_ (hG 2 (by omega))
    simp only [↓ View.readAt_eq_ld, ↓ Memref.IsWhole.read_unread]
    sl_kernel_rfl
  refine Moba.piecesOf_cons ?_ ?_
  · refine Eq.trans ?_ (hG 12 (by omega))
    simp only [↓ View.readAt_eq_ld, ↓ Memref.IsWhole.read_unread]
    sl_kernel_rfl
  refine Moba.piecesOf_cons ?_ ?_
  · refine Eq.trans ?_ (hG 1 (by omega))
    simp only [↓ View.readAt_eq_ld, ↓ Memref.IsWhole.read_unread]
    sl_kernel_rfl
  refine Moba.piecesOf_cons ?_ ?_
  · refine Eq.trans ?_ (hG 11 (by omega))
    simp only [↓ View.readAt_eq_ld, ↓ Memref.IsWhole.read_unread]
    sl_kernel_rfl
  refine Moba.piecesOf_cons ?_ ?_
  · refine Eq.trans ?_ (hG 0 (by omega))
    simp only [↓ View.readAt_eq_ld, ↓ Memref.IsWhole.read_unread]
    sl_kernel_rfl
  refine Moba.piecesOf_cons ?_ ?_
  · refine Eq.trans ?_ h0
    sl_kernel_rfl
  exact trivial

end Glu

end
-- ==== Proof.Glu.KeptB.lean ====
/- The rows the kernel keeps at one grid point. -/
module

public import proofs.«01_k».proof.Proof.Glu.Body
public import Idealize.ShloMosaic.Lib.Pipeline.ValueKit.Acc

@[expose] public section

set_option maxRecDepth 16384

noncomputable section

namespace Glu

open Cert.GluKernelIdeal Cert.GluKernelIdeal.Gen Idealize.ShloMosaic Idealize.ShloMosaic.TcCoe Idealize.SL.Sem

set_option maxHeartbeats 0 in
set_option maxRecDepth 100000 in
/-- The rows kept are blocks of `G`, when the first eight rows and every chunk of the projected rows are. -/
theorem kept_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : ¬cond0_0 i) (hc1 : cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) (xs0 : Vec Ideal S520x5632 .f32) (G : S520x5632.Idx → Elt Ideal .f32)
    (h0 : k0_pay7 (View.ld xs0 (Rect.unit (s := S520x5632) ![512, 0] S8x5632.size Ffn.inb_last)) = fun x => G ((Rect.unit (s := S520x5632) ![0, 0] S8x5632.size Ffn.inb_top).emb x))
    (hG : ∀ (k : ℕ) (hk : k < 22), up x0 x1 x2 k hk = fun x => G ((Rect.unit (s := S520x5632) ![8, 256 * k] S512x256.size (Ffn.inb_rows 8 k (by omega) hk)).emb x)) :
    View.PiecesOf G (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0).2.2.2.2.1 := by
  revert h0 hG
  unfold kernelRun0_B
  dsimp only
  sl_unfold_run_names
  intro h0 hG
  refine Moba.piecesOf_cons ?_ ?_
  · refine Eq.trans ?_ (hG 21 (by omega))
    simp only [↓ View.readAt_eq_ld, ↓ Memref.IsWhole.read_unread]
    sl_kernel_rfl
  refine Moba.piecesOf_cons ?_ ?_
  · refine Eq.trans ?_ (hG 10 (by omega))
    simp only [↓ View.readAt_eq_ld, ↓ Memref.IsWhole.read_unread]
    sl_kernel_rfl
  refine Moba.piecesOf_cons ?_ ?_
  · refine Eq.trans ?_ (hG 20 (by omega))
    simp only [↓ View.readAt_eq_ld, ↓ Memref.IsWhole.read_unread]
    sl_kernel_rfl
  refine Moba.piecesOf_cons ?_ ?_
  · refine Eq.trans ?_ (hG 9 (by omega))
    simp only [↓ View.readAt_eq_ld, ↓ Memref.IsWhole.read_unread]
    sl_kernel_rfl
  refine Moba.piecesOf_cons ?_ ?_
  · refine Eq.trans ?_ (hG 19 (by omega))
    simp only [↓ View.readAt_eq_ld, ↓ Memref.IsWhole.read_unread]
    sl_kernel_rfl
  refine Moba.piecesOf_cons ?_ ?_
  · refine Eq.trans ?_ (hG 8 (by omega))
    simp only [↓ View.readAt_eq_ld, ↓ Memref.IsWhole.read_unread]
    sl_kernel_rfl
  refine Moba.piecesOf_cons ?_ ?_
  · refine Eq.trans ?_ (hG 18 (by omega))
    simp only [↓ View.readAt_eq_ld, ↓ Memref.IsWhole.read_unread]
    sl_kernel_rfl
  refine Moba.piecesOf_cons ?_ ?_
  · refine Eq.trans ?_ (hG 7 (by omega))
    simp only [↓ View.readAt_eq_ld, ↓ Memref.IsWhole.read_unread]
    sl_kernel_rfl
  refine Moba.piecesOf_cons ?_ ?_
  · refine Eq.trans ?_ (hG 17 (by omega))
    simp only [↓ View.readAt_eq_ld, ↓ Memref.IsWhole.read_unread]
    sl_kernel_rfl
  refine Moba.piecesOf_cons ?_ ?_
  · refine Eq.trans ?_ (hG 6 (by omega))
    simp only [↓ View.readAt_eq_ld, ↓ Memref.IsWhole.read_unread]
    sl_kernel_rfl
  refine Moba.piecesOf_cons ?_ ?_
  · refine Eq.trans ?_ (hG 16 (by omega))
    simp only [↓ View.readAt_eq_ld, ↓ Memref.IsWhole.read_unread]
    sl_kernel_rfl
  refine Moba.piecesOf_cons ?_ ?_
  · refine Eq.trans ?_ (hG 5 (by omega))
    simp only [↓ View.readAt_eq_ld, ↓ Memref.IsWhole.read_unread]
    sl_kernel_rfl
  refine Moba.piecesOf_cons ?_ ?_
  · refine Eq.trans ?_ (hG 15 (by omega))
    simp only [↓ View.readAt_eq_ld, ↓ Memref.IsWhole.read_unread]
    sl_kernel_rfl
  refine Moba.piecesOf_cons ?_ ?_
  · refine Eq.trans ?_ (hG 4 (by omega))
    simp only [↓ View.readAt_eq_ld, ↓ Memref.IsWhole.read_unread]
    sl_kernel_rfl
  refine Moba.piecesOf_cons ?_ ?_
  · refine Eq.trans ?_ (hG 14 (by omega))
    simp only [↓ View.readAt_eq_ld, ↓ Memref.IsWhole.read_unread]
    sl_kernel_rfl
  refine Moba.piecesOf_cons ?_ ?_
  · refine Eq.trans ?_ (hG 3 (by omega))
    simp only [↓ View.readAt_eq_ld, ↓ Memref.IsWhole.read_unread]
    sl_kernel_rfl
  refine Moba.piecesOf_cons ?_ ?_
  · refine Eq.trans ?_ (hG 13 (by omega))
    simp only [↓ View.readAt_eq_ld, ↓ Memref.IsWhole.read_unread]
    sl_kernel_rfl
  refine Moba.piecesOf_cons ?_ ?_
  · refine Eq.trans ?_ (hG 2 (by omega))
    simp only [↓ View.readAt_eq_ld, ↓ Memref.IsWhole.read_unread]
    sl_kernel_rfl
  refine Moba.piecesOf_cons ?_ ?_
  · refine Eq.trans ?_ (hG 12 (by omega))
    simp only [↓ View.readAt_eq_ld, ↓ Memref.IsWhole.read_unread]
    sl_kernel_rfl
  refine Moba.piecesOf_cons ?_ ?_
  · refine Eq.trans ?_ (hG 1 (by omega))
    simp only [↓ View.readAt_eq_ld, ↓ Memref.IsWhole.read_unread]
    sl_kernel_rfl
  refine Moba.piecesOf_cons ?_ ?_
  · refine Eq.trans ?_ (hG 11 (by omega))
    simp only [↓ View.readAt_eq_ld, ↓ Memref.IsWhole.read_unread]
    sl_kernel_rfl
  refine Moba.piecesOf_cons ?_ ?_
  · refine Eq.trans ?_ (hG 0 (by omega))
    simp only [↓ View.readAt_eq_ld, ↓ Memref.IsWhole.read_unread]
    sl_kernel_rfl
  refine Moba.piecesOf_cons ?_ ?_
  · refine Eq.trans ?_ h0
    simp only [↓ View.readAt_eq_ld, ↓ Memref.IsWhole.read_unread]
  exact trivial

end Glu

end
-- ==== Proof.Glu.StoredA.lean ====
/- The block of the result the kernel stores at one grid point. -/
module

public import proofs.«01_k».proof.Proof.Glu.Body
public import Idealize.ShloMosaic.Lib.Pipeline.ValueKit.Acc

@[expose] public section

set_option maxRecDepth 16384

noncomputable section

namespace Glu

open Cert.GluKernelIdeal Cert.GluKernelIdeal.Gen Idealize.ShloMosaic Idealize.ShloMosaic.TcCoe Idealize.SL.Sem

set_option maxHeartbeats 0 in
set_option maxRecDepth 100000 in
/-- The block stored is a block of `G`, when it is as computed from the rows kept. -/
theorem stored_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : cond0_0 i) (hc1 : ¬cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) (G : S1x512x1024.Idx → Elt Ideal .f32) (R : Vec Ideal S520x5632 .f32)
    (hR : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.1 = R)
    (hG : final x0 R x3 x4 x5 = fun x => G ((Rect.unit (s := S1x512x1024) ![0, 0, 0] S1x512x1024.size Ffn.inb_out).emb x)) :
    View.PiecesOf G (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).1 := by
  revert hR
  unfold kernelRun0_A
  dsimp only
  sl_unfold_run_names
  intro hR
  refine Moba.piecesOf_cons ?_ ?_
  · refine Eq.trans ?_ hG
    simp (disch := decide) only [↓ View.readCov_cons_toLoadRect (s := S512x1024), ↓ Ffn.readCov_ld (s := S520x5632), ↓ Ffn.readCov_cols (hR := hR), ↓ View.readAt_eq_ld, ↓ Memref.IsWhole.read_unread]
    sl_kernel_rfl
  exact trivial

end Glu

end
-- ==== Proof.Glu.StoredB.lean ====
/- The block of the result the kernel stores at one grid point. -/
module

public import proofs.«01_k».proof.Proof.Glu.Body
public import Idealize.ShloMosaic.Lib.Pipeline.ValueKit.Acc

@[expose] public section

set_option maxRecDepth 16384

noncomputable section

namespace Glu

open Cert.GluKernelIdeal Cert.GluKernelIdeal.Gen Idealize.ShloMosaic Idealize.ShloMosaic.TcCoe Idealize.SL.Sem

set_option maxHeartbeats 0 in
set_option maxRecDepth 100000 in
/-- The block stored is a block of `G`, when it is as computed from the rows kept. -/
theorem stored_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : ¬cond0_0 i) (hc1 : cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) (xs0 : Vec Ideal S520x5632 .f32) (G : S1x512x1024.Idx → Elt Ideal .f32) (R : Vec Ideal S520x5632 .f32)
    (hR : View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0).2.2.2.2.1 = R)
    (hG : final x0 R x3 x4 x5 = fun x => G ((Rect.unit (s := S1x512x1024) ![0, 0, 0] S1x512x1024.size Ffn.inb_out).emb x)) :
    View.PiecesOf G (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0).1 := by
  revert hR
  unfold kernelRun0_B
  dsimp only
  sl_unfold_run_names
  intro hR
  refine Moba.piecesOf_cons ?_ ?_
  · refine Eq.trans ?_ hG
    simp (disch := decide) only [↓ View.readCov_cons_toLoadRect (s := S512x1024), ↓ Ffn.readCov_ld (s := S520x5632), ↓ Ffn.readCov_cols (hR := hR), ↓ View.readAt_eq_ld, ↓ Memref.IsWhole.read_unread]
    sl_kernel_rfl
  exact trivial

end Glu

end
-- ==== Proof.Glu.CastsA.lean ====
/- The blocks of the rounded weights the kernel stores at one grid point. -/
module

public import proofs.«01_k».proof.Proof.Glu.Body
public import Idealize.ShloMosaic.Lib.Pipeline.ValueKit.Acc

@[expose] public section

set_option maxRecDepth 16384

noncomputable section

namespace Glu

open Cert.GluKernelIdeal Cert.GluKernelIdeal.Gen Idealize.ShloMosaic Idealize.ShloMosaic.TcCoe Idealize.SL.Sem

set_option maxHeartbeats 0 in
set_option maxRecDepth 100000 in
theorem cast0_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : cond0_0 i) (hc1 : ¬cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) (G : S16x1024.Idx → Elt Ideal .bf16)
    (hG : k0_pay3 (View.ld x6 (Rect.unit (s := S1x16x1024) ![0, 0, 0] S1x16x1024.size inb_blk)) = fun x => G ((Rect.unit (s := S16x1024) ![0, 0] S16x1024.size inb_mat).emb x)) :
    View.PiecesOf G (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.1 := by
  revert hG
  unfold kernelRun0_A
  dsimp only
  sl_unfold_run_names
  intro hG
  refine Moba.piecesOf_cons ?_ ?_
  · refine Eq.trans ?_ hG
    simp only [↓ View.readAt_eq_ld, ↓ Memref.IsWhole.read_unread]
  exact trivial

set_option maxHeartbeats 0 in
set_option maxRecDepth 100000 in
theorem cast1_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : cond0_0 i) (hc1 : ¬cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) (G : S16x1024.Idx → Elt Ideal .bf16)
    (hG : k0_pay4 (View.ld x7 (Rect.unit (s := S16x1024) ![0, 0] S16x1024.size inb_mat)) = fun x => G ((Rect.unit (s := S16x1024) ![0, 0] S16x1024.size inb_mat).emb x)) :
    View.PiecesOf G (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.1 := by
  revert hG
  unfold kernelRun0_A
  dsimp only
  sl_unfold_run_names
  intro hG
  refine Moba.piecesOf_cons ?_ ?_
  · refine Eq.trans ?_ hG
    simp only [↓ View.readAt_eq_ld, ↓ Memref.IsWhole.read_unread]
  exact trivial

set_option maxHeartbeats 0 in
set_option maxRecDepth 100000 in
theorem cast2_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : cond0_0 i) (hc1 : ¬cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) (G : S16x1024.Idx → Elt Ideal .bf16)
    (hG : k0_pay5 (View.ld x8 (Rect.unit (s := S1x16x1024) ![0, 0, 0] S1x16x1024.size inb_blk)) = fun x => G ((Rect.unit (s := S16x1024) ![0, 0] S16x1024.size inb_mat).emb x)) :
    View.PiecesOf G (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.1 := by
  revert hG
  unfold kernelRun0_A
  dsimp only
  sl_unfold_run_names
  intro hG
  refine Moba.piecesOf_cons ?_ ?_
  · refine Eq.trans ?_ hG
    simp only [↓ View.readAt_eq_ld, ↓ Memref.IsWhole.read_unread]
  exact trivial

end Glu

end
-- ==== Proof.Glu.CastsB.lean ====
/- The blocks of the rounded weights the kernel stores at one grid point. -/
module

public import proofs.«01_k».proof.Proof.Glu.Body
public import Idealize.ShloMosaic.Lib.Pipeline.ValueKit.Acc

@[expose] public section

set_option maxRecDepth 16384

noncomputable section

namespace Glu

open Cert.GluKernelIdeal Cert.GluKernelIdeal.Gen Idealize.ShloMosaic Idealize.ShloMosaic.TcCoe Idealize.SL.Sem

set_option maxHeartbeats 0 in
set_option maxRecDepth 100000 in
theorem cast0_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : ¬cond0_0 i) (hc1 : cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) (xs0 : Vec Ideal S520x5632 .f32) (G : S16x1024.Idx → Elt Ideal .bf16)
    (hG : k0_pay3 (View.ld x6 (Rect.unit (s := S1x16x1024) ![0, 0, 0] S1x16x1024.size inb_blk)) = fun x => G ((Rect.unit (s := S16x1024) ![0, 0] S16x1024.size inb_mat).emb x)) :
    View.PiecesOf G (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0).2.1 := by
  revert hG
  unfold kernelRun0_B
  dsimp only
  sl_unfold_run_names
  intro hG
  refine Moba.piecesOf_cons ?_ ?_
  · refine Eq.trans ?_ hG
    simp only [↓ View.readAt_eq_ld, ↓ Memref.IsWhole.read_unread]
  exact trivial

set_option maxHeartbeats 0 in
set_option maxRecDepth 100000 in
theorem cast1_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : ¬cond0_0 i) (hc1 : cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) (xs0 : Vec Ideal S520x5632 .f32) (G : S16x1024.Idx → Elt Ideal .bf16)
    (hG : k0_pay4 (View.ld x7 (Rect.unit (s := S16x1024) ![0, 0] S16x1024.size inb_mat)) = fun x => G ((Rect.unit (s := S16x1024) ![0, 0] S16x1024.size inb_mat).emb x)) :
    View.PiecesOf G (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0).2.2.1 := by
  revert hG
  unfold kernelRun0_B
  dsimp only
  sl_unfold_run_names
  intro hG
  refine Moba.piecesOf_cons ?_ ?_
  · refine Eq.trans ?_ hG
    simp only [↓ View.readAt_eq_ld, ↓ Memref.IsWhole.read_unread]
  exact trivial

set_option maxHeartbeats 0 in
set_option maxRecDepth 100000 in
theorem cast2_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : ¬cond0_0 i) (hc1 : cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) (xs0 : Vec Ideal S520x5632 .f32) (G : S16x1024.Idx → Elt Ideal .bf16)
    (hG : k0_pay5 (View.ld x8 (Rect.unit (s := S1x16x1024) ![0, 0, 0] S1x16x1024.size inb_blk)) = fun x => G ((Rect.unit (s := S16x1024) ![0, 0] S16x1024.size inb_mat).emb x)) :
    View.PiecesOf G (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0).2.2.2.1 := by
  revert hG
  unfold kernelRun0_B
  dsimp only
  sl_unfold_run_names
  intro hG
  refine Moba.piecesOf_cons ?_ ?_
  · refine Eq.trans ?_ hG
    simp only [↓ View.readAt_eq_ld, ↓ Memref.IsWhole.read_unread]
  exact trivial

end Glu

end
-- ==== Proof.Glu.Scratch.lean ====
/- What the kernel leaves at one grid point: the rows it keeps, the block of the result, the blocks of the rounded weights. -/
module

public import proofs.«01_k».proof.Proof.Ffn.Scratch
public import proofs.«01_k».proof.Proof.Glu.KeptA
public import proofs.«01_k».proof.Proof.Glu.KeptB
public import proofs.«01_k».proof.Proof.Glu.StoredA
public import proofs.«01_k».proof.Proof.Glu.StoredB
public import proofs.«01_k».proof.Proof.Glu.CastsA
public import proofs.«01_k».proof.Proof.Glu.CastsB
public import Idealize.ShloMosaic.Lib.Pipeline.ValueKit.Acc

@[expose] public section

set_option maxRecDepth 16384

noncomputable section

namespace Glu

open Cert.GluKernelIdeal Cert.GluKernelIdeal.Gen Idealize.ShloMosaic Idealize.ShloMosaic.TcCoe Idealize.SL.Sem

theorem emb_mat (x : S16x1024.Idx) : (Rect.unit (s := S16x1024) ![0, 0] S16x1024.size inb_mat).emb x = x := by
  funext d
  apply Fin.ext
  refine (Rect.emb_apply _ _ d).trans ?_
  fin_cases d <;> simp [Rect.unit]

/-- Eight rows, and below them the projected rows of one grid point. -/
def keptOf (top : Vec Ideal S8x5632 .f32) (x0 : Vec Ideal S1x512x1024 .f32) (x1 : Vec Ideal S1x1024 .f32) (x2 : Vec Ideal S1024x5632 .bf16) : Vec Ideal S520x5632 .f32 := fun y =>
  if h : (y 0).val < 8 then top (ix2 ⟨(y 0).val, h⟩ ⟨(y 1).val, (y 1).isLt⟩)
  else ∑ l : Fin 1024, normed x0 x1 (ix2 ⟨(y 0).val - 8, by have h1 : (y 0).val < 520 := (y 0).isLt; omega⟩ l) * x2 (ix2 l ⟨(y 1).val, (y 1).isLt⟩)

section
variable (top : Vec Ideal S8x5632 .f32) (x0 : Vec Ideal S1x512x1024 .f32) (x1 : Vec Ideal S1x1024 .f32) (x2 : Vec Ideal S1024x5632 .bf16)

theorem keptOf_lo (r : Fin 520) (j : Fin 5632) (h : r.val < 8) : keptOf top x0 x1 x2 (ix2 r j) = top (ix2 ⟨r.val, h⟩ j) := dif_pos h

theorem keptOf_hi (r : Fin 520) (j : Fin 5632) (h : ¬r.val < 8) :
    keptOf top x0 x1 x2 (ix2 r j) = ∑ l : Fin 1024, normed x0 x1 (ix2 ⟨r.val - 8, by omega⟩ l) * x2 (ix2 l j) := dif_neg h

theorem keptOf_top : top = fun x => keptOf top x0 x1 x2 ((Rect.unit (s := S520x5632) ![0, 0] S8x5632.size Ffn.inb_top).emb x) := by
  funext z
  idx_vars z
  have h0 : z0.val < 8 := z0.isLt
  have h1 : z1.val < 5632 := z1.isLt
  rw [Ffn.emb2 _ _ _ _ (by simp; omega) (by simp), keptOf_lo _ _ _ _ _ _ (by simp)]
  refine congrArg₂ (fun a b => top (ix2 a b)) (Fin.ext ?_) (Fin.ext ?_) <;> simp

theorem keptOf_up (k : ℕ) (hk : k < 22) : up x0 x1 x2 k hk
    = fun x => keptOf top x0 x1 x2 ((Rect.unit (s := S520x5632) ![8, 256 * k] S512x256.size (Ffn.inb_rows 8 k (by omega) hk)).emb x) := by
  funext z
  idx_vars z
  have h0 : z0.val < 512 := z0.isLt
  have h1 : z1.val < 256 := z1.isLt
  rw [Ffn.emb2 _ _ _ _ (by simp; omega) (by simp; omega), keptOf_hi _ _ _ _ _ _ (by simp), up_apply]
  refine Finset.sum_congr rfl fun l _ => ?_
  refine congrArg₂ (fun a b => (normed x0 x1 (ix2 a l) * x2 (ix2 l b) : EReal)) (Fin.ext ?_) (Fin.ext ?_) <;> simp

end

theorem pay6_eq : k0_pay6 (F := Ideal) = fun _ => (0 : EReal) := by
  unfold k0_pay6
  funext z
  idx_vars z
  pointwise

theorem pay7_eq (v : Vec Ideal S8x5632 .f32) : k0_pay7 v = v := by
  unfold k0_pay7
  funext z
  idx_vars z
  pointwise

theorem canon_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : cond0_0 i) (hc1 : ¬cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.1 = keptOf (fun _ => (0 : EReal)) x0 x1 x2 := by
  funext y
  rw [← List.append_nil (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.1]
  exact View.canon_append_of_piecesOf (keptOf (fun _ => (0 : EReal)) x0 x1 x2) [] _ (kept_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 _ (pay6_eq.trans (keptOf_top _ x0 x1 x2)) fun k hk => keptOf_up _ x0 x1 x2 k hk) y
    (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 y)

theorem sout_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : cond0_0 i) (hc1 : ¬cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 = keptOf (fun _ => (0 : EReal)) x0 x1 x2 := by
  unfold sout0_A_0
  rw [View.read_writes_junk_eq_canon, canon_A]

theorem out_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : cond0_0 i) (hc1 : ¬cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 = final x0 (keptOf (fun _ => (0 : EReal)) x0 x1 x2) x3 x4 x5 := by
  unfold out0_A_9
  rw [View.read_writes_junk_eq_canon]
  funext y
  rw [← List.append_nil (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).1]
  exact View.canon_append_of_piecesOf (final x0 (keptOf (fun _ => (0 : EReal)) x0 x1 x2) x3 x4 x5) [] _
    (stored_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 _ _ (canon_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8) (funext fun x => congrArg _ (Ffn.emb_out x).symm)) y
    (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 y)

theorem out0_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : cond0_0 i) (hc1 : ¬cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 = k0_pay3 x6 := by
  unfold out0_A_10
  rw [View.read_writes_junk_eq_canon]
  funext y
  rw [← List.append_nil (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.1]
  exact View.canon_append_of_piecesOf (k0_pay3 x6) [] _
    (cast0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 _ (by rw [ld_blk]; exact funext fun x => congrArg _ (emb_mat x).symm)) y
    (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 y)

theorem out1_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : cond0_0 i) (hc1 : ¬cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 = k0_pay4 x7 := by
  unfold out0_A_11
  rw [View.read_writes_junk_eq_canon]
  funext y
  rw [← List.append_nil (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.1]
  exact View.canon_append_of_piecesOf (k0_pay4 x7) [] _
    (cast1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 _ (by rw [ld_mat]; exact funext fun x => congrArg _ (emb_mat x).symm)) y
    (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 y)

theorem out2_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : cond0_0 i) (hc1 : ¬cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 = k0_pay5 x8 := by
  unfold out0_A_12
  rw [View.read_writes_junk_eq_canon]
  funext y
  rw [← List.append_nil (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.1]
  exact View.canon_append_of_piecesOf (k0_pay5 x8) [] _
    (cast2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 _ (by rw [ld_blk]; exact funext fun x => congrArg _ (emb_mat x).symm)) y
    (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 y)

theorem canon_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : ¬cond0_0 i) (hc1 : cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) (xs0 : Vec Ideal S520x5632 .f32) :
    View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0).2.2.2.2.1 = keptOf (View.ld xs0 (Rect.unit (s := S520x5632) ![512, 0] S8x5632.size Ffn.inb_last)) x0 x1 x2 := by
  funext y
  rw [← List.append_nil (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0).2.2.2.2.1]
  exact View.canon_append_of_piecesOf (keptOf (View.ld xs0 (Rect.unit (s := S520x5632) ![512, 0] S8x5632.size Ffn.inb_last)) x0 x1 x2) [] _ (kept_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 _ ((pay7_eq _).trans (keptOf_top _ x0 x1 x2)) fun k hk => keptOf_up _ x0 x1 x2 k hk) y
    (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 y)

theorem sout_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : ¬cond0_0 i) (hc1 : cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) (xs0 : Vec Ideal S520x5632 .f32) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 = keptOf (View.ld xs0 (Rect.unit (s := S520x5632) ![512, 0] S8x5632.size Ffn.inb_last)) x0 x1 x2 := by
  unfold sout0_B_0
  rw [View.read_writes_junk_eq_canon, canon_B]

theorem out_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : ¬cond0_0 i) (hc1 : cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) (xs0 : Vec Ideal S520x5632 .f32) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 = final x0 (keptOf (View.ld xs0 (Rect.unit (s := S520x5632) ![512, 0] S8x5632.size Ffn.inb_last)) x0 x1 x2) x3 x4 x5 := by
  unfold out0_B_9
  rw [View.read_writes_junk_eq_canon]
  funext y
  rw [← List.append_nil (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0).1]
  exact View.canon_append_of_piecesOf (final x0 (keptOf (View.ld xs0 (Rect.unit (s := S520x5632) ![512, 0] S8x5632.size Ffn.inb_last)) x0 x1 x2) x3 x4 x5) [] _
    (stored_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 _ _ (canon_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0) (funext fun x => congrArg _ (Ffn.emb_out x).symm)) y
    (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 y)

theorem out0_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : ¬cond0_0 i) (hc1 : cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) (xs0 : Vec Ideal S520x5632 .f32) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 = k0_pay3 x6 := by
  unfold out0_B_10
  rw [View.read_writes_junk_eq_canon]
  funext y
  rw [← List.append_nil (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0).2.1]
  exact View.canon_append_of_piecesOf (k0_pay3 x6) [] _
    (cast0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 _ (by rw [ld_blk]; exact funext fun x => congrArg _ (emb_mat x).symm)) y
    (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 y)

theorem out1_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : ¬cond0_0 i) (hc1 : cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) (xs0 : Vec Ideal S520x5632 .f32) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 = k0_pay4 x7 := by
  unfold out0_B_11
  rw [View.read_writes_junk_eq_canon]
  funext y
  rw [← List.append_nil (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0).2.2.1]
  exact View.canon_append_of_piecesOf (k0_pay4 x7) [] _
    (cast1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 _ (by rw [ld_mat]; exact funext fun x => congrArg _ (emb_mat x).symm)) y
    (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 y)

theorem out2_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x16x1024 .f32) (harg8 : arg8.IsWhole) (arg9 : Memref sig .tc .vmem S16x1024 .f32) (harg9 : arg9.IsWhole) (arg10 : Memref sig .tc .vmem S1x16x1024 .f32) (harg10 : arg10.IsWhole) (arg11 : Memref sig .tc .vmem S1x512x1024 .f32) (harg11 : arg11.IsWhole) (arg12 : Memref sig .tc .vmem S16x1024 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S520x5632 .f32) (harg15 : arg15.IsWhole) (arg16 : Memref sig .tc .vmem S512x1024 .f32) (harg16 : arg16.IsWhole) (hc0 : ¬cond0_0 i) (hc1 : cond0_1 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x16x1024 .f32) (x7 : Vec Ideal S16x1024 .f32) (x8 : Vec Ideal S1x16x1024 .f32) (xs0 : Vec Ideal S520x5632 .f32) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 = k0_pay5 x8 := by
  unfold out0_B_12
  rw [View.read_writes_junk_eq_canon]
  funext y
  rw [← List.append_nil (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0).2.2.2.1]
  exact View.canon_append_of_piecesOf (k0_pay5 x8) [] _
    (cast2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 _ (by rw [ld_blk]; exact funext fun x => congrArg _ (emb_mat x).symm)) y
    (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 y)

end Glu

end
-- ==== Proof.Glu.Plain.lean ====
/- The gated convolution, over rows of numbers. -/
module

public import proofs.«01_k».proof.Proof.Ffn.Plain

@[expose] public section

noncomputable section

namespace Glu

open Idealize.ShloMosaic

variable (A0 : Fin 16 → Fin 2048 → Fin 1024 → EReal) (A1 : Fin 1024 → EReal) (A2 : Fin 1024 → Fin 5632 → EReal) (A3 : Fin 3 → Fin 5632 → EReal) (A4 : Fin 5632 → EReal)
  (A5 : Fin 2816 → Fin 1024 → EReal)

/-- The normed row of a token projected up. -/
def proj (b : Fin 16) (t : Fin 2048) (j : Fin 5632) : EReal := ∑ l : Fin 1024, Ffn.normRow (A0 b t) A1 l * A2 l j

/-- The projection of the token two before, one before, or itself; zero before the first. -/
def tap (b : Fin 16) (t : Fin 2048) (j : Fin 5632) (k : Fin 3) : EReal :=
  if h : 2 ≤ k.val + t.val then proj A0 A1 A2 b ⟨k.val + t.val - 2, by omega⟩ j else 0

/-- The convolution. -/
def mixed (b : Fin 16) (t : Fin 2048) (j : Fin 5632) : EReal := Ffn.convAt (fun k => A3 k j) (A4 j) (tap A0 A1 A2 b t j)

/-- The gated values. -/
def gates (b : Fin 16) (t : Fin 2048) (j : Fin 2816) : EReal :=
  Ffn.gated (mixed A0 A1 A2 A3 A4 b t ⟨j.val, by omega⟩) (mixed A0 A1 A2 A3 A4 b t ⟨2816 + j.val, by omega⟩)

/-- The output. -/
def layer (b : Fin 16) (t : Fin 2048) (e : Fin 1024) : EReal := A0 b t e + ∑ j : Fin 2816, gates A0 A1 A2 A3 A4 b t j * A5 j e

end Glu

end
-- ==== Proof.Glu.Point.lean ====
/- What the kernel leaves in its output arrays: at each token and channel, the gated convolution; the three weights. -/
module

public import proofs.«01_k».proof.Proof.Glu.Scratch
public import proofs.«01_k».proof.Proof.Glu.Plain
public import Idealize.ShloMosaic.Lib.Pipeline.ValueKit

@[expose] public section

set_option maxRecDepth 100000

noncomputable section

namespace Glu

open Cert.GluKernelIdeal Cert.GluKernelIdeal.Gen Idealize.ShloMosaic Idealize.ShloMosaic.TcCoe Idealize.SL.Sem

section
variable (A0 : Vec Ideal S16x2048x1024 .f32) (A1 : Vec Ideal S1x1024 .f32) (A2 : Vec Ideal S1024x5632 .bf16) (A3 : Vec Ideal S3x5632 .f32) (A4 : Vec Ideal S1x5632 .f32)
  (A5 : Vec Ideal S2816x1024 .bf16)

/-- The block of 512 tokens a grid point is given. -/
def tokens (b : Fin 16) (i : Fin 4) : Vec Ideal S1x512x1024 .f32 := fun y =>
  A0 (ix3 b ⟨512 * i.val + (y 1).val, by have h : (y 1).val < 512 := (y 1).isLt; omega⟩ ⟨(y 2).val, (y 2).isLt⟩)

/-- The projection, over arrays. -/
def projOf (b : Fin 16) (t : Fin 2048) (j : Fin 5632) : EReal := proj (fun b t e => A0 (ix3 b t e)) (fun e => A1 (ix2 0 e)) (fun l j => A2 (ix2 l j)) b t j

/-- The projection of the token two before token `n`; zero before the first. -/
def past (b : Fin 16) (n : ℕ) (j : Fin 5632) : EReal := if h : 2 ≤ n ∧ n < 2050 then projOf A0 A1 A2 b ⟨n - 2, by omega⟩ j else 0

/-- The output, over arrays. -/
def layerOf (b : Fin 16) (t : Fin 2048) (e : Fin 1024) : EReal :=
  layer (fun b t e => A0 (ix3 b t e)) (fun e => A1 (ix2 0 e)) (fun l j => A2 (ix2 l j)) (fun k j => A3 (ix2 k j)) (fun j => A4 (ix2 0 j)) (fun j e => A5 (ix2 j e)) b t e

theorem normed_tokens (b : Fin 16) (i : Fin 4) (r : Fin 512) (e : Fin 1024) :
    normed (tokens A0 b i) A1 (ix2 r e) = Ffn.normRow (fun e => A0 (ix3 b ⟨512 * i.val + r.val, by omega⟩ e)) (fun e => A1 (ix2 0 e)) e := by
  rw [normed_apply]
  rfl

/-- A grid point's kept rows, the last two of its first eight rows being the tokens before its own: every row from the sixth is the projection of the token two
    before. -/
theorem kept_past (top : Vec Ideal S8x5632 .f32) (b : Fin 16) (i : Fin 4)
    (ht : ∀ (r : Fin 2) (j : Fin 5632), top (ix2 ⟨6 + r.val, by omega⟩ j) = past A0 A1 A2 b (512 * i.val + r.val) j) (r : Fin 514) (j : Fin 5632) :
    keptOf top (tokens A0 b i) A1 A2 (ix2 ⟨6 + r.val, by omega⟩ j) = past A0 A1 A2 b (512 * i.val + r.val) j := by
  by_cases hr : r.val < 2
  · rw [keptOf_lo _ _ _ _ _ _ (by simp; omega)]
    exact ht ⟨r.val, hr⟩ j
  · rw [keptOf_hi _ _ _ _ _ _ (by simp; omega)]
    unfold past
    rw [dif_pos ⟨by omega, by omega⟩]
    unfold projOf proj
    refine Finset.sum_congr rfl fun l _ => ?_
    rw [normed_tokens]
    refine congrArg (fun t => (Ffn.normRow (fun e => A0 (ix3 b t e)) (fun e => A1 (ix2 0 e)) l * A2 (ix2 l j) : EReal)) (Fin.ext ?_)
    simp
    omega

/-- A grid point's block of the result. -/
theorem final_tokens (R : Vec Ideal S520x5632 .f32) (b : Fin 16) (i : Fin 4)
    (hR : ∀ (r : Fin 514) (j : Fin 5632), R (ix2 ⟨6 + r.val, by omega⟩ j) = past A0 A1 A2 b (512 * i.val + r.val) j) (r : Fin 512) (e : Fin 1024) :
    final (tokens A0 b i) R A3 A4 A5 (ix3 0 r e) = layerOf A0 A1 A2 A3 A4 A5 b ⟨512 * i.val + r.val, by omega⟩ e := by
  have hc : ∀ j : Fin 5632, Ffn.convOf R A3 A4 r j = mixed (fun b t e => A0 (ix3 b t e)) (fun e => A1 (ix2 0 e))
      (fun l j => A2 (ix2 l j)) (fun k j => A3 (ix2 k j)) (fun j => A4 (ix2 0 j)) b ⟨512 * i.val + r.val, by omega⟩ j := by
    intro j
    unfold Ffn.convOf mixed
    refine congrArg (Ffn.convAt _ _) ?_
    funext k
    have h := hR ⟨k.val + r.val, by omega⟩ j
    have hi : (⟨6 + k.val + r.val, by omega⟩ : Fin 520) = ⟨6 + (⟨k.val + r.val, by omega⟩ : Fin 514).val, by simp; omega⟩ := Fin.ext (by simp; omega)
    rw [hi, h]
    unfold past tap
    by_cases hk : 2 ≤ k.val + (512 * i.val + r.val)
    · rw [dif_pos ⟨by simp; omega, by simp; omega⟩, dif_pos hk]
      unfold projOf
      refine congrArg (fun t => proj _ _ _ b t j) (Fin.ext ?_)
      simp
      omega
    · rw [dif_neg (by simp; omega), dif_neg hk]
  rw [final_apply]
  unfold layerOf layer gates Ffn.actOf
  simp only [hc]
  rfl

end

variable (m : (ℓ : Loc nD τ sig) → Buf (Elt Ideal) ℓ)

theorem index0 : ∀ t : Fin cfg0.N, win0_0.index t = ![t.val / 4, t.val % 4, 0] := (by decide +kernel : ∀ t : Fin grid0.N, win0_0.index t = ![t.val / 4, t.val % 4, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, t.val, 0] := (by decide +kernel : ∀ t : Fin grid0.N, win0_6.index t = ![0, t.val, 0])
theorem index7 : ∀ t : Fin cfg0.N, win0_7.index t = ![t.val, 0] := (by decide +kernel : ∀ t : Fin grid0.N, win0_7.index t = ![t.val, 0])
theorem index8 : ∀ t : Fin cfg0.N, win0_8.index t = ![0, t.val, 0] := (by decide +kernel : ∀ t : Fin grid0.N, win0_8.index t = ![0, t.val, 0])
theorem index9 : ∀ t : Fin cfg0.N, win0_9.index t = ![t.val / 4, t.val % 4, 0] := (by decide +kernel : ∀ t : Fin grid0.N, win0_9.index t = ![t.val / 4, t.val % 4, 0])
theorem index10 : ∀ t : Fin cfg0.N, win0_10.index t = ![t.val, 0] := (by decide +kernel : ∀ t : Fin grid0.N, win0_10.index t = ![t.val, 0])
theorem index11 : ∀ t : Fin cfg0.N, win0_11.index t = ![t.val, 0] := (by decide +kernel : ∀ t : Fin grid0.N, win0_11.index t = ![t.val, 0])
theorem index12 : ∀ t : Fin cfg0.N, win0_12.index t = ![t.val, 0] := (by decide +kernel : ∀ t : Fin grid0.N, win0_12.index t = ![t.val, 0])

section
variable (c : Dev nD)

def a0 : Vec Ideal S16x2048x1024 .f32 := m ((c : Thread nD τ).loc main_arg0)
def a1 : Vec Ideal S1x1024 .f32 := m ((c : Thread nD τ).loc main_arg1)
def a2 : Vec Ideal S1024x5632 .bf16 := m ((c : Thread nD τ).loc main_arg2)
def a3 : Vec Ideal S3x5632 .f32 := m ((c : Thread nD τ).loc main_arg3)
def a4 : Vec Ideal S1x5632 .f32 := m ((c : Thread nD τ).loc main_arg4)
def a5 : Vec Ideal S2816x1024 .bf16 := m ((c : Thread nD τ).loc main_arg5)
def a6 : Vec Ideal S1x1024x1024 .f32 := m ((c : Thread nD τ).loc main_arg6)
def a7 : Vec Ideal S1024x1024 .f32 := m ((c : Thread nD τ).loc main_arg7)
def a8 : Vec Ideal S1x1024x1024 .f32 := m ((c : Thread nD τ).loc main_arg8)

/-- The batch element and the token block of a grid point. -/
def bOf (t : Fin cfg0.N) : Fin 16 := ⟨t.val / 4, by have ht : t.val < 64 := t.isLt; omega⟩
def iOf (t : Fin cfg0.N) : Fin 4 := ⟨t.val % 4, by omega⟩

/-- Sixteen rows of a weight. -/
def slab (A : Vec Ideal S1x1024x1024 .f32) (t : Fin cfg0.N) : Vec Ideal S1x16x1024 .f32 := fun y =>
  A (ix3 0 ⟨16 * t.val + (y 1).val, by have ht : t.val < 64 := t.isLt; have h : (y 1).val < 16 := (y 1).isLt; omega⟩ ⟨(y 2).val, (y 2).isLt⟩)
def slab2 (A : Vec Ideal S1024x1024 .f32) (t : Fin cfg0.N) : Vec Ideal S16x1024 .f32 := fun y =>
  A (ix2 ⟨16 * t.val + (y 0).val, by have ht : t.val < 64 := t.isLt; have h : (y 0).val < 16 := (y 0).isLt; omega⟩ ⟨(y 1).val, (y 1).isLt⟩)

theorem blk0 (t : Fin cfg0.N) : iblk m c 0 t = tokens (a0 m c) (bOf t) (iOf t) := by
  funext z
  unfold tokens bOf iOf a0
  blk_ext [iblk, V, index0 t]
theorem blk1 (t : Fin cfg0.N) : iblk m c 1 t = a1 m c := by
  funext z
  unfold a1
  blk_ext [iblk, V, index1 t]
theorem blk2 (t : Fin cfg0.N) : iblk m c 2 t = a2 m c := by
  funext z
  unfold a2
  blk_ext [iblk, V, index2 t]
theorem blk3 (t : Fin cfg0.N) : iblk m c 3 t = a3 m c := by
  funext z
  unfold a3
  blk_ext [iblk, V, index3 t]
theorem blk4 (t : Fin cfg0.N) : iblk m c 4 t = a4 m c := by
  funext z
  unfold a4
  blk_ext [iblk, V, index4 t]
theorem blk5 (t : Fin cfg0.N) : iblk m c 5 t = a5 m c := by
  funext z
  unfold a5
  blk_ext [iblk, V, index5 t]
theorem blk6 (t : Fin cfg0.N) : iblk m c 6 t = slab (a6 m c) t := by
  funext z
  unfold slab a6
  blk_ext [iblk, V, index6 t]
theorem blk7 (t : Fin cfg0.N) : iblk m c 7 t = slab2 (a7 m c) t := by
  funext z
  unfold slab2 a7
  blk_ext [iblk, V, index7 t]
theorem blk8 (t : Fin cfg0.N) : iblk m c 8 t = slab (a8 m c) t := by
  funext z
  unfold slab a8
  blk_ext [iblk, V, index8 t]

/-- What a grid point keeps and stores, when the rows above its own are the last of the tokens before. -/
def Left (t : Fin cfg0.N) : Prop :=
  ∃ R : Vec Ideal S520x5632 .f32, (outsAt0 m c t.val t.isLt).2.2.2.2 = R
    ∧ (outsAt0 m c t.val t.isLt).1 = final (tokens (a0 m c) (bOf t) (iOf t)) R (a3 m c) (a4 m c) (a5 m c)
    ∧ (∀ (r : Fin 514) (j : Fin 5632), R (ix2 ⟨6 + r.val, by omega⟩ j) = past (a0 m c) (a1 m c) (a2 m c) (bOf t) (512 * (iOf t).val + r.val) j)
    ∧ (outsAt0 m c t.val t.isLt).2.1 = k0_pay3 (slab (a6 m c) t)
    ∧ (outsAt0 m c t.val t.isLt).2.2.1 = k0_pay4 (slab2 (a7 m c) t)
    ∧ (outsAt0 m c t.val t.isLt).2.2.2.1 = k0_pay5 (slab (a8 m c) t)

theorem left_A (t : Fin cfg0.N) (h0 : t.val % 4 = 0) : Left m c t := by
  have h1 : ¬1 ≤ t.val % 4 := by omega
  refine ⟨keptOf (fun _ => (0 : EReal)) (tokens (a0 m c) (bOf t) (iOf t)) (a1 m c) (a2 m c), ?_, ?_, ?_, ?_, ?_, ?_⟩
  · rw [outsAt0_A m c t h0 h1]
    dsimp only
    rw [sout_A, blk0, blk1, blk2]
  · rw [outsAt0_A m c t h0 h1]
    dsimp only
    rw [out_A, blk0, blk1, blk2, blk3, blk4, blk5]
  · refine kept_past _ _ _ _ _ _ fun r j => ?_
    unfold past
    rw [dif_neg]
    unfold iOf
    dsimp only
    omega
  · rw [outsAt0_A m c t h0 h1]
    dsimp only
    rw [out0_A, blk6]
  · rw [outsAt0_A m c t h0 h1]
    dsimp only
    rw [out1_A, blk7]
  · rw [outsAt0_A m c t h0 h1]
    dsimp only
    rw [out2_A, blk8]

theorem ld_last (R : Vec Ideal S520x5632 .f32) (r : Fin 8) (j : Fin 5632) :
    (View.ld R (Rect.unit (s := S520x5632) ![512, 0] S8x5632.size Ffn.inb_last) : Vec Ideal S8x5632 .f32) (ix2 r j) = R (ix2 ⟨512 + r.val, by omega⟩ j) := by
  refine View.ld_unit_apply_of R _ _ _ _ _ ?_
  intro b; fin_cases b <;> simp [ix2]

theorem left_B (t : Fin cfg0.N) (h0 : ¬t.val % 4 = 0) (ih : Left m c ⟨t.val - 1, Nat.lt_of_le_of_lt (Nat.sub_le _ _) t.isLt⟩) : Left m c t := by
  have h1 : 1 ≤ t.val % 4 := by omega
  obtain ⟨Q, hQ, -, hp, -, -, -⟩ := ih
  refine ⟨keptOf (View.ld Q (Rect.unit (s := S520x5632) ![512, 0] S8x5632.size Ffn.inb_last)) (tokens (a0 m c) (bOf t) (iOf t)) (a1 m c) (a2 m c), ?_, ?_, ?_, ?_, ?_, ?_⟩
  · rw [outsAt0_B m c t h0 h1]
    dsimp only at hQ ⊢
    rw [sout_B, hQ, blk0, blk1, blk2]
  · rw [outsAt0_B m c t h0 h1]
    dsimp only at hQ ⊢
    rw [out_B, hQ, blk0, blk1, blk2, blk3, blk4, blk5]
  · refine kept_past _ _ _ _ _ _ fun r j => ?_
    rw [ld_last]
    have h := hp ⟨512 + r.val, by omega⟩ j
    have hi : (⟨512 + (⟨6 + r.val, by omega⟩ : Fin 8).val, by simp; omega⟩ : Fin 520) = ⟨6 + (⟨512 + r.val, by omega⟩ : Fin 514).val, by simp; omega⟩ := Fin.ext (by simp; omega)
    rw [hi, h]
    have hb : bOf ⟨t.val - 1, Nat.lt_of_le_of_lt (Nat.sub_le _ _) t.isLt⟩ = bOf t := Fin.ext (by simp only [bOf]; omega)
    have hn : 512 * (iOf ⟨t.val - 1, Nat.lt_of_le_of_lt (Nat.sub_le _ _) t.isLt⟩).val + (512 + r.val) = 512 * (iOf t).val + r.val := by
      simp only [iOf]; omega
    rw [hb]
    exact congrArg (fun n => past _ _ _ (bOf t) n j) hn
  · rw [outsAt0_B m c t h0 h1]
    dsimp only
    rw [out0_B, blk6]
  · rw [outsAt0_B m c t h0 h1]
    dsimp only
    rw [out1_B, blk7]
  · rw [outsAt0_B m c t h0 h1]
    dsimp only
    rw [out2_B, blk8]

theorem left : ∀ (n : ℕ) (h : n < cfg0.N), Left m c ⟨n, h⟩
  | 0, h => left_A m c ⟨0, h⟩ rfl
  | n + 1, h => by
    by_cases h0 : (n + 1) % 4 = 0
    · exact left_A m c ⟨n + 1, h⟩ h0
    · exact left_B m c ⟨n + 1, h⟩ h0 (left n (Nat.lt_of_succ_lt h))

theorem out_eq : (dats m 0 c).arrAt 9 cfg0.N = fun j : S16x2048x1024.Idx =>
    layerOf (a0 m c) (a1 m c) (a2 m c) (a3 m c) (a4 m c) (a5 m c) ⟨(j 0).val, (j 0).isLt⟩ ⟨(j 1).val, (j 1).isLt⟩ ⟨(j 2).val, (j 2).isLt⟩ := by
  refine (dats m 0 c).arrAt_eq_of_covers 9 _ (by decide +kernel) fun t hf y => ?_
  blk_simp
  rw [after0_9]
  obtain ⟨R, -, ho, hp, -, -, -⟩ := left m c t.val t.isLt
  rw [ho]
  idx_vars y
  have hz : y0 = 0 := Fin.ext (by have h : y0.val < 1 := y0.isLt; omega)
  subst hz
  refine (final_tokens _ _ _ _ _ _ R _ _ hp y1 y2).trans ?_
  have e0 : win0_9.index t 0 = t.val / 4 := by rw [index9]; rfl
  have e1 : win0_9.index t 1 = t.val % 4 := by rw [index9]; rfl
  have e2 : win0_9.index t 2 = 0 := by rw [index9]; rfl
  have ht : t.val < 64 := t.isLt
  have hy1 : y1.val < 512 := y1.isLt
  have hy2 : y2.val < 1024 := y2.isLt
  refine congr (congr (congrArg (layerOf _ _ _ _ _ _) (Fin.ext ?_)) (Fin.ext ?_)) (Fin.ext ?_) <;> simp only [e0, e1, e2, bOf, iOf] <;> (try simp) <;> omega

theorem out_eq10 : (dats m 0 c).arrAt 10 cfg0.N = fun j : S1024x1024.Idx => a6 m c (ix3 0 ⟨(j 0).val, (j 0).isLt⟩ ⟨(j 1).val, (j 1).isLt⟩) := by
  refine (dats m 0 c).arrAt_eq_of_covers 10 _ (by decide +kernel) fun t hf y => ?_
  blk_simp
  rw [after0_10]
  obtain ⟨R, -, -, -, ho, -, -⟩ := left m c t.val t.isLt
  rw [ho]
  idx_vars y
  refine (pay3_apply _ y0 y1).trans ?_
  have e0 : win0_10.index t 0 = t.val := by rw [index10]; rfl
  have e1 : win0_10.index t 1 = 0 := by rw [index10]; rfl
  have ht : t.val < 64 := t.isLt
  have hy0 : y0.val < 16 := y0.isLt
  have hy1 : y1.val < 1024 := y1.isLt
  refine congrArg₂ (fun a b => a6 m c (ix3 0 a b)) (Fin.ext ?_) (Fin.ext ?_) <;> simp only [e0, e1] <;> (try simp) <;> (try omega)

theorem out_eq11 : (dats m 0 c).arrAt 11 cfg0.N = fun j : S1024x1024.Idx => a7 m c (ix2 ⟨(j 0).val, (j 0).isLt⟩ ⟨(j 1).val, (j 1).isLt⟩) := by
  refine (dats m 0 c).arrAt_eq_of_covers 11 _ (by decide +kernel) fun t hf y => ?_
  blk_simp
  rw [after0_11]
  obtain ⟨R, -, -, -, -, ho, -⟩ := left m c t.val t.isLt
  rw [ho]
  idx_vars y
  refine (pay4_apply _ y0 y1).trans ?_
  have e0 : win0_11.index t 0 = t.val := by rw [index11]; rfl
  have e1 : win0_11.index t 1 = 0 := by rw [index11]; rfl
  have ht : t.val < 64 := t.isLt
  have hy0 : y0.val < 16 := y0.isLt
  have hy1 : y1.val < 1024 := y1.isLt
  refine congrArg₂ (fun a b => a7 m c (ix2 a b)) (Fin.ext ?_) (Fin.ext ?_) <;> simp only [e0, e1] <;> (try simp) <;> (try omega)

theorem out_eq12 : (dats m 0 c).arrAt 12 cfg0.N = fun j : S1024x1024.Idx => a8 m c (ix3 0 ⟨(j 0).val, (j 0).isLt⟩ ⟨(j 1).val, (j 1).isLt⟩) := by
  refine (dats m 0 c).arrAt_eq_of_covers 12 _ (by decide +kernel) fun t hf y => ?_
  blk_simp
  rw [after0_12]
  obtain ⟨R, -, -, -, -, -, ho⟩ := left m c t.val t.isLt
  rw [ho]
  idx_vars y
  refine (pay5_apply _ y0 y1).trans ?_
  have e0 : win0_12.index t 0 = t.val := by rw [index12]; rfl
  have e1 : win0_12.index t 1 = 0 := by rw [index12]; rfl
  have ht : t.val < 64 := t.isLt
  have hy0 : y0.val < 16 := y0.isLt
  have hy1 : y1.val < 1024 := y1.isLt
  refine congrArg₂ (fun a b => a8 m c (ix3 0 a b)) (Fin.ext ?_) (Fin.ext ?_) <;> simp only [e0, e1] <;> (try simp) <;> (try omega)

end

/-- A run leaves the four arrays as the grid points fill them, and the arguments as they were. -/
theorem runs (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 9 cfg0.N
      ∧ r.2.mem ((c : Thread nD τ).loc main_v0_1) = (dats m 0 c).arrAt 10 cfg0.N
      ∧ r.2.mem ((c : Thread nD τ).loc main_v0_2) = (dats m 0 c).arrAt 11 cfg0.N
      ∧ r.2.mem ((c : Thread nD τ).loc main_v0_3) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun r h c => ?_) (run_main m ρ)
  refine ⟨(h c).1 9, (h c).1 10, (h c).1 11, (h c).1 12, ?_, ?_, ?_, ?_, ?_, ?_, ?_, ?_, ?_⟩
  · exact ((h c).1 0).trans (((dats m 0 c).arrAt_in 0 rfl _).trans ((A_eq m c 0).trans rfl))
  · exact ((h c).1 1).trans (((dats m 0 c).arrAt_in 1 rfl _).trans ((A_eq m c 1).trans rfl))
  · exact ((h c).1 2).trans (((dats m 0 c).arrAt_in 2 rfl _).trans ((A_eq m c 2).trans rfl))
  · exact ((h c).1 3).trans (((dats m 0 c).arrAt_in 3 rfl _).trans ((A_eq m c 3).trans rfl))
  · exact ((h c).1 4).trans (((dats m 0 c).arrAt_in 4 rfl _).trans ((A_eq m c 4).trans rfl))
  · exact ((h c).1 5).trans (((dats m 0 c).arrAt_in 5 rfl _).trans ((A_eq m c 5).trans rfl))
  · exact ((h c).1 6).trans (((dats m 0 c).arrAt_in 6 rfl _).trans ((A_eq m c 6).trans rfl))
  · exact ((h c).1 7).trans (((dats m 0 c).arrAt_in 7 rfl _).trans ((A_eq m c 7).trans rfl))
  · exact ((h c).1 8).trans (((dats m 0 c).arrAt_in 8 rfl _).trans ((A_eq m c 8).trans rfl))

end Glu

end
-- ==== Proof.Glu.Refer.lean ====
/- The reference of the gated convolution read at an index, over rows of numbers. -/
module

public import proofs.«01_k».proof.Proof.Gen.GluReferenceIdeal.Read
public import proofs.«01_k».proof.Proof.Glu.Plain
public import proofs.«01_k».proof.Proof.Ffn.Refer
public import Idealize.ShloMosaic.Lib.Pointwise

@[expose] public section

set_option maxRecDepth 16384

noncomputable section

namespace Glu

open Cert.GluReferenceIdeal Cert.GluReferenceIdeal.Gen Cert.GluReferenceIdeal.Read Idealize.ShloMosaic Idealize.SL.Sem

variable (x0 : (⟨S16x2048x1024, .f32⟩ : BufTy).Contents (Elt Ideal)) (x1 : (⟨S1x1024, .f32⟩ : BufTy).Contents (Elt Ideal)) (x2 : (⟨S1024x5632, .bf16⟩ : BufTy).Contents (Elt Ideal)) (x3 : (⟨S3x5632, .f32⟩ : BufTy).Contents (Elt Ideal)) (x4 : (⟨S1x5632, .f32⟩ : BufTy).Contents (Elt Ideal)) (x5 : (⟨S2816x1024, .bf16⟩ : BufTy).Contents (Elt Ideal))

theorem v12_at (b : Fin 16) (t : Fin 2048) (e : Fin 1024) : val_main_v12 (F := Ideal) x0 x1 (ix3 b t e) = Ffn.normRow (fun e => x0 (ix3 b t e)) (fun e => x1 (ix2 0 e)) e := by
  unfold Ffn.normRow Ffn.scale
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem v14_at (b : Fin 16) (t : Fin 2048) (j : Fin 5632) : val_main_v14 (F := Ideal) x0 x1 x2 (ix3 b t j) = proj (fun b t e => x0 (ix3 b t e)) (fun e => x1 (ix2 0 e)) (fun l j => x2 (ix2 l j)) b t j := by
  unfold proj
  simp only [← v12_at]
  unfold val_main_v14
  generalize val_main_v12 (F := Ideal) x0 x1 = H
  pointwise [val_main_v13]

theorem v15_at (b : Fin 16) (t : Fin 2048) (j : Fin 5632) (k : Fin 3) (s : Fin 2050) (hs : s.val = k.val + t.val) :
    val_main_v15 (F := Ideal) x0 x1 x2 (ix3 b s j) = tap (fun b t e => x0 (ix3 b t e)) (fun e => x1 (ix2 0 e)) (fun l j => x2 (ix2 l j)) b t j k := by
  unfold tap
  simp only [← v14_at]
  unfold val_main_v15
  generalize val_main_v14 (F := Ideal) x0 x1 x2 = U
  refine (show _ = if h : 2 ≤ s.val ∧ s.val - 2 < 2048 then U (ix3 b ⟨s.val - 2, h.2⟩ j) else FloatOps.sitofp (F := Ideal) FTy.f32 (0#32 : BitVec 32) by
    pointwise [val_main_call0_v0, val_main_c]).trans ?_
  by_cases h : 2 ≤ k.val + t.val
  · rw [dif_pos h, dif_pos ⟨by omega, by omega⟩]
    simp only [hs]
  · rw [dif_neg h, dif_neg (by omega)]
    exact Ffn.zero_word

theorem v38_at (b : Fin 16) (t : Fin 2048) (j : Fin 5632) : val_main_v38 (F := Ideal) x0 x1 x2 x3 x4 (ix3 b t j) = mixed (fun b t e => x0 (ix3 b t e)) (fun e => x1 (ix2 0 e)) (fun l j => x2 (ix2 l j)) (fun k j => x3 (ix2 k j)) (fun j => x4 (ix2 0 j)) b t j := by
  unfold mixed Ffn.convAt
  rw [← v15_at x0 x1 x2 b t j 0 ⟨0 + t.val, by omega⟩ rfl, ← v15_at x0 x1 x2 b t j 1 ⟨1 + t.val, by omega⟩ rfl, ← v15_at x0 x1 x2 b t j 2 ⟨2 + t.val, by omega⟩ rfl]
  unfold val_main_v38 val_main_v35 val_main_v34 val_main_v31 val_main_v28 val_main_v27 val_main_v24 val_main_v21 val_main_v18
  generalize val_main_v15 (F := Ideal) x0 x1 x2 = U
  pointwise [val_main_v37, val_main_v36, val_main_v33, val_main_v32, val_main_v30, val_main_v29, val_main_v26, val_main_v25, val_main_v23, val_main_v22, val_main_v20, val_main_v19, val_main_v17, val_main_v16]

theorem v48_at (b : Fin 16) (t : Fin 2048) (j : Fin 2816) : val_main_v48 (F := Ideal) x0 x1 x2 x3 x4 (ix3 b t j) = gates (fun b t e => x0 (ix3 b t e)) (fun e => x1 (ix2 0 e)) (fun l j => x2 (ix2 l j)) (fun k j => x3 (ix2 k j)) (fun j => x4 (ix2 0 j)) b t j := by
  unfold gates Ffn.gated Ideal.logistic
  simp only [← v38_at]
  unfold val_main_v48 val_main_v47 val_main_v46 val_main_v44 val_main_v42 val_main_v41 val_main_v40 val_main_v39
  generalize val_main_v38 (F := Ideal) x0 x1 x2 x3 x4 = C
  pointwise [val_main_v45, val_main_v43, val_main_cst_2, val_main_cst_3, Ffn.one_bits]

theorem v51_at (b : Fin 16) (t : Fin 2048) (e : Fin 1024) : val_main_v51 (F := Ideal) x0 x1 x2 x3 x4 x5 (ix3 b t e) = layer (fun b t e => x0 (ix3 b t e)) (fun e => x1 (ix2 0 e)) (fun l j => x2 (ix2 l j)) (fun k j => x3 (ix2 k j)) (fun j => x4 (ix2 0 j)) (fun j e => x5 (ix2 j e)) b t e := by
  unfold layer
  simp only [← v48_at]
  unfold val_main_v51 val_main_v50
  generalize val_main_v48 (F := Ideal) x0 x1 x2 x3 x4 = A
  pointwise [val_main_v49]

end Glu

namespace Glu

open Cert.GluReferenceIdeal Cert.GluReferenceIdeal.Gen Cert.GluReferenceIdeal.Read Idealize.ShloMosaic Idealize.SL.Sem

variable (x6 : (⟨S1x1024x1024, .f32⟩ : BufTy).Contents (Elt Ideal)) (x7 : (⟨S1024x1024, .f32⟩ : BufTy).Contents (Elt Ideal))

theorem v53_at (i j : Fin 1024) : val_main_v53 (F := Ideal) x6 (ix2 i j) = x6 (ix3 0 i j) := by
  pointwise [val_main_v53, val_main_v52]

theorem v54_at (i j : Fin 1024) : val_main_v54 (F := Ideal) x7 (ix2 i j) = x7 (ix2 i j) := by
  pointwise [val_main_v54]

theorem v56_at (i j : Fin 1024) : val_main_v56 (F := Ideal) x6 (ix2 i j) = x6 (ix3 0 i j) := by
  pointwise [val_main_v56, val_main_v55]

end Glu

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Bridge
public import proofs.«01_k».proof.Proof.Ffn.Point
public import proofs.«01_k».proof.Proof.Ffn.Refer
public import proofs.«01_k».proof.Proof.Glu.Point
public import proofs.«01_k».proof.Proof.Glu.Refer
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnKernelIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.GluKernel
public import proofs.«01_k».proof.Proof.Gen.GluKernel.Skeleton
public import proofs.«01_k».proof.Proof.Gen.GluKernel.Launch
public import proofs.«01_k».proof.Proof.Gen.GluKernel.Points
public import proofs.«01_k».proof.Proof.Gen.GluKernel.Frame
public import proofs.«01_k».proof.Proof.Gen.GluKernelIdeal
public import proofs.«01_k».proof.Proof.Gen.GluKernelIdeal.Skeleton
public import proofs.«01_k».proof.Proof.Gen.GluKernelIdeal.Launch
public import proofs.«01_k».proof.Proof.Gen.GluKernelIdeal.Points
public import proofs.«01_k».proof.Proof.Gen.GluKernelIdeal.Frame
public import proofs.«01_k».proof.Proof.Gen.GluReferenceIdeal
public import proofs.«01_k».proof.Proof.Gen.GluReferenceIdeal.Run
public import proofs.«01_k».proof.Proof.Gen.GluReferenceIdeal.Read
public import Idealize.ShloMosaic.Adequacy
public import Idealize.ShloMosaic.Init

@[expose] public section

noncomputable section

namespace Cert.Proof

open Idealize.ShloMosaic Idealize.SL.Sem Cert.Kernel

/-- What the precondition says of a memory's arrays. -/
theorem given (m : (ℓ : Loc Cert.KernelIdeal.nD Cert.KernelIdeal.τ Cert.KernelIdeal.sig) → Buf (Elt Ideal) ℓ) (h : Cert.Pre_KernelIdeal_bias_ready (hPre_bias_ready := Moba.readyFacts) m) (c : Dev Cert.KernelIdeal.nD) :
    Moba.Given (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg5)) :=
  ⟨Moba.bias_real _ _ _ _ _ _ (h c).1, Moba.query_real _ _ _ _ _ _ (h c).2.1, Moba.key_real _ _ _ _ _ _ (h c).2.2.1, Moba.tile_eq _ _ _ _ _ _ (h c).2.2.2⟩

/-- The kernel's result array is the reference's, from equal arguments. -/
theorem result_eq (m : (ℓ : Loc Cert.KernelIdeal.nD Cert.KernelIdeal.τ Cert.KernelIdeal.sig) → Buf (Elt Ideal) ℓ) (h : Cert.Pre_KernelIdeal_bias_ready (hPre_bias_ready := Moba.readyFacts) m) (c : Dev Cert.KernelIdeal.nD) :
    (Cert.KernelIdeal.Gen.dats m 0 c).arrAt 6 Cert.KernelIdeal.cfg0.N = Cert.ReferenceIdeal.Read.val_main_v99 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) := by
  rw [Moba.out_eq m c]
  funext j
  idx_vars j
  exact Moba.kernel_eq _ _ (given m h c) _ _ _

theorem algebraic : Cert.algebraic_KernelIdeal_ReferenceIdeal_pre_bias_ready (hKernelIdeal := Cert.KernelIdeal.Gen.facts) (hReferenceIdeal := Cert.ReferenceIdeal.Gen.facts) (hPre_bias_ready := Moba.readyFacts) := by
  intro m ρ m' ρ' hp hm
  refine ⟨fun c => (Cert.KernelIdeal.Gen.dats m 0 c).arrAt 6 Cert.KernelIdeal.cfg0.N, Cert.KernelIdeal.Value.run_blocks m ρ, ?_⟩
  refine (θ_run Cert.ReferenceIdeal.defs _ _).mono (fun r h c => ⟨?_, (h c).2⟩) (Cert.ReferenceIdeal.Value.run (F := Ideal) m' ρ')
  refine (h c).1.trans ((Cert.ReferenceIdeal.Read.val_main_v99_eq m' c).trans ?_)
  rw [(hm c).1, (hm c).2.1, (hm c).2.2.1, (hm c).2.2.2.1, (hm c).2.2.2.2.1]
  exact (result_eq m hp c).symm

/-- The feed-forward kernel's result array is its reference's, from equal arguments. -/
theorem ffn_result_eq (m : (ℓ : Loc Cert.FfnKernelIdeal.nD Cert.FfnKernelIdeal.τ Cert.FfnKernelIdeal.sig) → Buf (Elt Ideal) ℓ) (c : Dev Cert.FfnKernelIdeal.nD) :
    (Cert.FfnKernelIdeal.Gen.dats m 0 c).arrAt 9 Cert.FfnKernelIdeal.cfg0.N = Cert.FfnReferenceIdeal.Read.val_main_v68 (F := Ideal)
      (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2))
      (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))
      (m ((c.tc : Thread Cert.FfnKernelIdeal.nD Cert.FfnKernelIdeal.τ).loc Cert.FfnKernelIdeal.main_arg6)) (m ((c.tc : Thread Cert.FfnKernelIdeal.nD Cert.FfnKernelIdeal.τ).loc Cert.FfnKernelIdeal.main_arg7)) (m ((c.tc : Thread Cert.FfnKernelIdeal.nD Cert.FfnKernelIdeal.τ).loc Cert.FfnKernelIdeal.main_arg8)) := by
  rw [Ffn.out_eq m c]
  funext j
  idx_vars j
  exact (Ffn.v68_at _ _ _ _ _ _ _ _ _ _ _ _).symm

theorem ffn_algebraic : Cert.algebraic_FfnKernelIdeal_FfnReferenceIdeal (hFfnKernelIdeal := Cert.FfnKernelIdeal.Gen.facts) (hFfnReferenceIdeal := Cert.FfnReferenceIdeal.Gen.facts) := by
  intro m ρ m' ρ' hp hm
  refine ⟨fun c => (Cert.FfnKernelIdeal.Gen.dats m 0 c).arrAt 9 Cert.FfnKernelIdeal.cfg0.N, Cert.FfnKernelIdeal.Value.run_blocks m ρ, ?_⟩
  refine (θ_run Cert.FfnReferenceIdeal.defs _ _).mono (fun r h c => ⟨?_, (h c).2⟩) (Cert.FfnReferenceIdeal.Value.run (F := Ideal) m' ρ')
  refine (h c).1.trans ((Cert.FfnReferenceIdeal.Read.val_main_v68_eq m' c).trans ?_)
  obtain ⟨h0, h1, h2, h3, h4, h5, h6, h7, h8⟩ := hm c
  rw [h0, h1, h2, h3, h4, h5, h6, h7, h8]
  exact (ffn_result_eq m c).symm

theorem glu_result_eq (m : (ℓ : Loc Cert.GluKernelIdeal.nD Cert.GluKernelIdeal.τ Cert.GluKernelIdeal.sig) → Buf (Elt Ideal) ℓ) (c : Dev Cert.GluKernelIdeal.nD) :
    (Cert.GluKernelIdeal.Gen.dats m 0 c).arrAt 9 Cert.GluKernelIdeal.cfg0.N = Cert.GluReferenceIdeal.Read.val_main_v51 (F := Ideal)
      (m ((c.tc : Thread Cert.GluKernelIdeal.nD Cert.GluKernelIdeal.τ).loc Cert.GluKernelIdeal.main_arg0)) (m ((c.tc : Thread Cert.GluKernelIdeal.nD Cert.GluKernelIdeal.τ).loc Cert.GluKernelIdeal.main_arg1)) (m ((c.tc : Thread Cert.GluKernelIdeal.nD Cert.GluKernelIdeal.τ).loc Cert.GluKernelIdeal.main_arg2))
      (m ((c.tc : Thread Cert.GluKernelIdeal.nD Cert.GluKernelIdeal.τ).loc Cert.GluKernelIdeal.main_arg3)) (m ((c.tc : Thread Cert.GluKernelIdeal.nD Cert.GluKernelIdeal.τ).loc Cert.GluKernelIdeal.main_arg4)) (m ((c.tc : Thread Cert.GluKernelIdeal.nD Cert.GluKernelIdeal.τ).loc Cert.GluKernelIdeal.main_arg5)) := by
  rw [Glu.out_eq m c]
  funext j
  idx_vars j
  exact (Glu.v51_at _ _ _ _ _ _ _ _ _).symm

theorem glu_weight6_eq (m : (ℓ : Loc Cert.GluKernelIdeal.nD Cert.GluKernelIdeal.τ Cert.GluKernelIdeal.sig) → Buf (Elt Ideal) ℓ) (c : Dev Cert.GluKernelIdeal.nD) :
    (Cert.GluKernelIdeal.Gen.dats m 0 c).arrAt 10 Cert.GluKernelIdeal.cfg0.N = Cert.GluReferenceIdeal.Read.val_main_v53 (F := Ideal) (m ((c.tc : Thread Cert.GluKernelIdeal.nD Cert.GluKernelIdeal.τ).loc Cert.GluKernelIdeal.main_arg6)) := by
  rw [Glu.out_eq10 m c]
  funext j
  idx_vars j
  exact (Glu.v53_at _ _ _).symm

theorem glu_weight7_eq (m : (ℓ : Loc Cert.GluKernelIdeal.nD Cert.GluKernelIdeal.τ Cert.GluKernelIdeal.sig) → Buf (Elt Ideal) ℓ) (c : Dev Cert.GluKernelIdeal.nD) :
    (Cert.GluKernelIdeal.Gen.dats m 0 c).arrAt 11 Cert.GluKernelIdeal.cfg0.N = Cert.GluReferenceIdeal.Read.val_main_v54 (F := Ideal) (m ((c.tc : Thread Cert.GluKernelIdeal.nD Cert.GluKernelIdeal.τ).loc Cert.GluKernelIdeal.main_arg7)) := by
  rw [Glu.out_eq11 m c]
  funext j
  idx_vars j
  exact (Glu.v54_at _ _ _).symm

theorem glu_weight8_eq (m : (ℓ : Loc Cert.GluKernelIdeal.nD Cert.GluKernelIdeal.τ Cert.GluKernelIdeal.sig) → Buf (Elt Ideal) ℓ) (c : Dev Cert.GluKernelIdeal.nD) :
    (Cert.GluKernelIdeal.Gen.dats m 0 c).arrAt 12 Cert.GluKernelIdeal.cfg0.N = Cert.GluReferenceIdeal.Read.val_main_v56 (F := Ideal) (m ((c.tc : Thread Cert.GluKernelIdeal.nD Cert.GluKernelIdeal.τ).loc Cert.GluKernelIdeal.main_arg8)) := by
  rw [Glu.out_eq12 m c]
  funext j
  idx_vars j
  exact (Glu.v56_at _ _ _).symm

theorem glu_algebraic : Cert.algebraic_GluKernelIdeal_GluReferenceIdeal (hGluKernelIdeal := Cert.GluKernelIdeal.Gen.facts) (hGluReferenceIdeal := Cert.GluReferenceIdeal.Gen.facts) := by
  intro m ρ m' ρ' hp hm
  refine ⟨fun c => (Cert.GluKernelIdeal.Gen.dats m 0 c).arrAt 9 Cert.GluKernelIdeal.cfg0.N, fun c => (Cert.GluKernelIdeal.Gen.dats m 0 c).arrAt 10 Cert.GluKernelIdeal.cfg0.N, fun c => (Cert.GluKernelIdeal.Gen.dats m 0 c).arrAt 11 Cert.GluKernelIdeal.cfg0.N, fun c => (Cert.GluKernelIdeal.Gen.dats m 0 c).arrAt 12 Cert.GluKernelIdeal.cfg0.N,
    Glu.runs m ρ, ?_⟩
  refine (θ_run Cert.GluReferenceIdeal.defs _ _).mono (fun r h c => ?_) (Cert.GluReferenceIdeal.Value.run (F := Ideal) m' ρ')
  obtain ⟨r0, r1, r2, r3, rest⟩ := h c
  obtain ⟨h0, h1, h2, h3, h4, h5, h6, h7, h8⟩ := hm c
  refine ⟨r0.trans ((Cert.GluReferenceIdeal.Read.val_main_v51_eq m' c).trans ?_), r1.trans (Eq.trans (b := Cert.GluReferenceIdeal.Read.val_main_v53 (F := Ideal) _) rfl ?_),
    r2.trans (Eq.trans (b := Cert.GluReferenceIdeal.Read.val_main_v54 (F := Ideal) _) rfl ?_), r3.trans (Eq.trans (b := Cert.GluReferenceIdeal.Read.val_main_v56 (F := Ideal) _) rfl ?_), rest⟩
  · rw [h0, h1, h2, h3, h4, h5]
    exact (glu_result_eq m c).symm
  · rw [h6]
    exact (glu_weight6_eq m c).symm
  · rw [h7]
    exact (glu_weight7_eq m c).symm
  · rw [h8]
    exact (glu_weight8_eq m c).symm

theorem claim : Cert.Claim :=
  ⟨Cert.Kernel.Gen.facts, Cert.KernelIdeal.Gen.facts, Cert.ReferenceIdeal.Gen.facts, Cert.FfnKernel.Gen.facts, Cert.FfnKernelIdeal.Gen.facts, Cert.FfnReferenceIdeal.Gen.facts,
    Cert.GluKernel.Gen.facts, Cert.GluKernelIdeal.Gen.facts, Cert.GluReferenceIdeal.Gen.facts, Moba.readyFacts,
    fun m ρ _ => Cert.Kernel.Gen.frame m ρ, fun m ρ _ => Cert.KernelIdeal.Gen.frame m ρ, fun m ρ _ => Cert.KernelIdeal.Gen.frame m ρ,
    fun m ρ _ => (θ_run Cert.ReferenceIdeal.defs _ _).mono (fun r h => ⟨fun c => (h c).2, sem_eq_zero_of_no_sems (by decide) r.2⟩)
      (Cert.ReferenceIdeal.Value.run (F := Ideal) m ρ),
    fun m ρ _ => (θ_run Cert.ReferenceIdeal.defs _ _).mono (fun r h => ⟨fun c => (h c).2, sem_eq_zero_of_no_sems (by decide) r.2⟩)
      (Cert.ReferenceIdeal.Value.run (F := Ideal) m ρ),
    fun m ρ _ => Cert.FfnKernel.Gen.frame m ρ, fun m ρ _ => Cert.FfnKernelIdeal.Gen.frame m ρ,
    fun m ρ _ => (θ_run Cert.FfnReferenceIdeal.defs _ _).mono (fun r h => ⟨fun c => (h c).2, sem_eq_zero_of_no_sems (by decide) r.2⟩)
      (Cert.FfnReferenceIdeal.Value.run (F := Ideal) m ρ),
    fun m ρ _ => Cert.GluKernel.Gen.frame m ρ, fun m ρ _ => Cert.GluKernelIdeal.Gen.frame m ρ,
    fun m ρ _ => (θ_run Cert.GluReferenceIdeal.defs _ _).mono (fun r h => ⟨fun c => (h c).2.2.2.2, sem_eq_zero_of_no_sems (by decide) r.2⟩)
      (Cert.GluReferenceIdeal.Value.run (F := Ideal) m ρ),
    ⟨IdealRules.named_const.statement Cert.KernelIdeal.κ "mask" .f32 0xF149F2CA#32 ⊥ rfl,
      IdealRules.named_const.statement Cert.KernelIdeal.κ "log2e" .f32 0x3FB8AA3B#32 (((Real.log 2)⁻¹ : ℝ) : EReal) rfl⟩,
    algebraic,
    trivial,
    ffn_algebraic,
    trivial,
    glu_algebraic⟩

end Cert.Proof

end
